-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "inv_ln2" .f32 0x3FB8AA3B#32 (((Real.log 2)⁻¹ : ℝ) : EReal)
  ∧ IdealRules.named_const.Statement Cert.KernelIdeal.κ "neg_scale" .f32 0xBF051592#32 (((-3 / 4) * (Real.log 2) : ℝ) : EReal)
  ∧ IdealRules.named_const.Statement Cert.KernelIdeal.κ "pos_scale" .f32 0xBE317218#32 (((-1 / 4) * (Real.log 2) : ℝ) : EReal)

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v245) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S8x49104x80 : Shape := ⟨3, ![8, 49104, 80]⟩
abbrev S8x49104x4 : Shape := ⟨3, ![8, 49104, 4]⟩
abbrev S1x49104x4 : Shape := ⟨3, ![1, 49104, 4]⟩
abbrev S8x20x5 : Shape := ⟨3, ![8, 20, 5]⟩
abbrev S_ : Shape := ⟨0, ![]⟩
abbrev S8x20x1 : Shape := ⟨3, ![8, 20, 1]⟩
abbrev S8x20 : Shape := ⟨2, ![8, 20]⟩

class Facts : Prop where
  slices_S8x20x5_S8x20x1_0_0_4 : S8x20x5.Slices ![0, 0, 4] S8x20x1
  shapeCasts_S8x20x1_S8x20 : S8x20x1.ShapeCasts S8x20
  bcast_S_S8x49104x80 : S_.BroadcastsInDim S8x49104x80 (![] : Fin 0 → Fin S8x49104x80.rank)
  reducesTo_S8x49104x80_S_d0_1_2 : S8x49104x80.ReducesTo [0, 1, 2] S_
  h_S_ : 0 < S_.numel
  bcast_S_S8x20 : S_.BroadcastsInDim S8x20 (![] : Fin 0 → Fin S8x20.rank)
  reducesTo_S8x20_S_d0_1 : S8x20.ReducesTo [0, 1] S_

variable [Facts]

def fn {F : FTy → Type} [FloatOps F] (main_arg0 : FVec F S8x49104x80 .f32) (main_arg1 : FVec F S8x49104x4 .f32) (main_arg2 : FVec F S1x49104x4 .f32) (main_arg3 : FVec F S8x20x5 .f32) (main_arg4 : IVec S_ 32) : IVec S_ 1 :=
  let main_v0 : FVec F S8x20x1 .f32 := (extractStridedSlice S8x20x1 ![0, 0, 4] · slices_S8x20x5_S8x20x1_0_0_4) main_arg3
  let main_v1 : FVec F S8x20 .f32 := shapeCast S8x20 main_v0 shapeCasts_S8x20x1_S8x20
  let main_cst : FVec F S_ .f32 := constant S_ .f32 0x38D1B717#32
  let main_v2 : FVec F S8x49104x80 .f32 := broadcastInDim S8x49104x80 ![] bcast_S_S8x49104x80 main_cst
  let main_v3 : IVec S8x49104x80 1 := cmpf .oge main_arg0 main_v2
  let main_cst_0 : FVec F S_ .f32 := constant S_ .f32 0x3F7FF972#32
  let main_v4 : FVec F S8x49104x80 .f32 := broadcastInDim S8x49104x80 ![] bcast_S_S8x49104x80 main_cst_0
  let main_v5 : IVec S8x49104x80 1 := cmpf .ole main_arg0 main_v4
  let main_v6 : IVec S8x49104x80 1 := andi main_v3 main_v5
  let main_c : IVec S_ 1 := constantI S_ 1 1#1
  let main_v7 : IVec S_ 1 := (fun x v => Host.reduce IntOp.andi x v reducesTo_S8x49104x80_S_d0_1_2 h_S_) main_v6 main_c
  let main_v8 : IVec S8x20 32 := fptosi 32 main_v1
  let main_v9 : FVec F S8x20 .f32 := sitofp .f32 main_v8
  let main_v10 : IVec S8x20 1 := cmpf .oeq main_v1 main_v9
  let main_cst_1 : FVec F S_ .f32 := constant S_ .f32 0xBF800000#32
  let main_v11 : FVec F S8x20 .f32 := broadcastInDim S8x20 ![] bcast_S_S8x20 main_cst_1
  let main_v12 : IVec S8x20 1 := cmpf .oge main_v1 main_v11
  let main_v13 : IVec S8x20 1 := andi main_v10 main_v12
  let main_c_2 : IVec S_ 1 := constantI S_ 1 1#1
  let main_v14 : IVec S_ 1 := (fun x v => Host.reduce IntOp.andi x v reducesTo_S8x20_S_d0_1 h_S_) main_v13 main_c_2
  let main_v15 : IVec S_ 1 := andi main_v7 main_v14
  main_v15
-- ==== Kernel.lean ====
abbrev S8x49104x80 : Shape := ⟨3, ![8, 49104, 80]⟩
abbrev S8x49104x4 : Shape := ⟨3, ![8, 49104, 4]⟩
abbrev S1x49104x4 : Shape := ⟨3, ![1, 49104, 4]⟩
abbrev S8x20x5 : Shape := ⟨3, ![8, 20, 5]⟩
abbrev S_ : Shape := ⟨0, ![]⟩
abbrev S1x4 : Shape := ⟨2, ![1, 4]⟩
abbrev S49104x4 : Shape := ⟨2, ![49104, 4]⟩
abbrev S1x1x1x4 : Shape := ⟨4, ![1, 1, 1, 4]⟩
abbrev S48x1x1x4 : Shape := ⟨4, ![48, 1, 1, 4]⟩
abbrev S48x4 : Shape := ⟨2, ![48, 4]⟩
abbrev S49152x4 : Shape := ⟨2, ![49152, 4]⟩
abbrev S49152x1 : Shape := ⟨2, ![49152, 1]⟩
abbrev S49152 : Shape := ⟨1, ![49152]⟩
abbrev S384x128 : Shape := ⟨2, ![384, 128]⟩
abbrev S384x1024 : Shape := ⟨2, ![384, 1024]⟩
abbrev S8x49152x4 : Shape := ⟨3, ![8, 49152, 4]⟩
abbrev S8x4x49152 : Shape := ⟨3, ![8, 4, 49152]⟩
abbrev S8x4x384x128 : Shape := ⟨4, ![8, 4, 384, 128]⟩
abbrev S8x384x4x128 : Shape := ⟨4, ![8, 384, 4, 128]⟩
abbrev S8x384x512 : Shape := ⟨3, ![8, 384, 512]⟩
abbrev S8x5x20 : Shape := ⟨3, ![8, 5, 20]⟩
abbrev S8x1x20 : Shape := ⟨3, ![8, 1, 20]⟩
abbrev S8x20 : Shape := ⟨2, ![8, 20]⟩
abbrev S8x8x20 : Shape := ⟨3, ![8, 8, 20]⟩
abbrev S8x1x128 : Shape := ⟨3, ![8, 1, 128]⟩
abbrev S8x1x1 : Shape := ⟨3, ![8, 1, 1]⟩
abbrev S8 : Shape := ⟨1, ![8]⟩
abbrev S1 : Shape := ⟨1, ![1]⟩
abbrev S2 : Shape := ⟨1, ![2]⟩
abbrev S1x12288x80 : Shape := ⟨3, ![1, 12288, 80]⟩
abbrev S1x96x512 : Shape := ⟨3, ![1, 96, 512]⟩
abbrev S96x1024 : Shape := ⟨2, ![96, 1024]⟩
abbrev S1x8x20 : Shape := ⟨3, ![1, 8, 20]⟩
abbrev S1x1x128 : Shape := ⟨3, ![1, 1, 128]⟩
abbrev S96x128 : Shape := ⟨2, ![96, 128]⟩
abbrev S1x1x1 : Shape := ⟨3, ![1, 1, 1]⟩
abbrev S1x96x128 : Shape := ⟨3, ![1, 96, 128]⟩
abbrev S96x512 : Shape := ⟨2, ![96, 512]⟩
abbrev S12288x96 : Shape := ⟨2, ![12288, 96]⟩
abbrev S12288x128 : Shape := ⟨2, ![12288, 128]⟩
abbrev S128x80 : Shape := ⟨2, ![128, 80]⟩
abbrev S12288x80 : Shape := ⟨2, ![12288, 80]⟩

abbrev nBuf : Space → Nat
  | .hbm => 102
  | .vmem => 8
  | .smem => 2
  | _ => 0

abbrev bufTy : (tb : Table) → Fin (tcTables nBuf tb) → BufTy
  | .hbm, ⟨0, _⟩ => ⟨S8x49104x80, .f32⟩
  | .hbm, ⟨1, _⟩ => ⟨S8x49104x4, .f32⟩
  | .hbm, ⟨2, _⟩ => ⟨S1x49104x4, .f32⟩
  | .hbm, ⟨3, _⟩ => ⟨S8x20x5, .f32⟩
  | .hbm, ⟨4, _⟩ => ⟨S_, .i32⟩
  | .hbm, ⟨5, _⟩ => ⟨S1x4, .f32⟩
  | .hbm, ⟨6, _⟩ => ⟨S49104x4, .f32⟩
  | .hbm, ⟨7, _⟩ => ⟨S1x1x1x4, .f32⟩
  | .hbm, ⟨8, _⟩ => ⟨S48x1x1x4, .f32⟩
  | .hbm, ⟨9, _⟩ => ⟨S48x4, .f32⟩
  | .hbm, ⟨10, _⟩ => ⟨S49152x4, .f32⟩
  | .hbm, ⟨11, _⟩ => ⟨S49152x1, .f32⟩
  | .hbm, ⟨12, _⟩ => ⟨S49152, .f32⟩
  | .hbm, ⟨13, _⟩ => ⟨S384x128, .f32⟩
  | .hbm, ⟨14, _⟩ => ⟨S49152x1, .f32⟩
  | .hbm, ⟨15, _⟩ => ⟨S49152, .f32⟩
  | .hbm, ⟨16, _⟩ => ⟨S384x128, .f32⟩
  | .hbm, ⟨17, _⟩ => ⟨S49152x1, .f32⟩
  | .hbm, ⟨18, _⟩ => ⟨S49152, .f32⟩
  | .hbm, ⟨19, _⟩ => ⟨S384x128, .f32⟩
  | .hbm, ⟨20, _⟩ => ⟨S49152x1, .f32⟩
  | .hbm, ⟨21, _⟩ => ⟨S49152, .f32⟩
  | .hbm, ⟨22, _⟩ => ⟨S384x128, .f32⟩
  | .hbm, ⟨23, _⟩ => ⟨S384x128, .f32⟩
  | .hbm, ⟨24, _⟩ => ⟨S384x128, .f32⟩
  | .hbm, ⟨25, _⟩ => ⟨S_, .f32⟩
  | .hbm, ⟨26, _⟩ => ⟨S384x128, .f32⟩
  | .hbm, ⟨27, _⟩ => ⟨S384x128, .f32⟩
  | .hbm, ⟨28, _⟩ => ⟨S384x128, .f32⟩
  | .hbm, ⟨29, _⟩ => ⟨S_, .f32⟩
  | .hbm, ⟨30, _⟩ => ⟨S384x128, .f32⟩
  | .hbm, ⟨31, _⟩ => ⟨S384x128, .f32⟩
  | .hbm, ⟨32, _⟩ => ⟨S384x128, .f32⟩
  | .hbm, ⟨33, _⟩ => ⟨S384x1024, .f32⟩
  | .hbm, ⟨34, _⟩ => ⟨S_, .i32⟩
  | .hbm, ⟨35, _⟩ => ⟨S_, .f32⟩
  | .hbm, ⟨36, _⟩ => ⟨S8x49152x4, .f32⟩
  | .hbm, ⟨37, _⟩ => ⟨S8x4x49152, .f32⟩
  | .hbm, ⟨38, _⟩ => ⟨S8x4x384x128, .f32⟩
  | .hbm, ⟨39, _⟩ => ⟨S8x384x4x128, .f32⟩
  | .hbm, ⟨40, _⟩ => ⟨S8x384x512, .f32⟩
  | .hbm, ⟨41, _⟩ => ⟨S8x5x20, .f32⟩
  | .hbm, ⟨42, _⟩ => ⟨S8x1x20, .f32⟩
  | .hbm, ⟨43, _⟩ => ⟨S8x20, .f32⟩
  | .hbm, ⟨44, _⟩ => ⟨S8x1x20, .f32⟩
  | .hbm, ⟨45, _⟩ => ⟨S8x20, .f32⟩
  | .hbm, ⟨46, _⟩ => ⟨S8x20, .f32⟩
  | .hbm, ⟨47, _⟩ => ⟨S8x1x20, .f32⟩
  | .hbm, ⟨48, _⟩ => ⟨S8x20, .f32⟩
  | .hbm, ⟨49, _⟩ => ⟨S8x1x20, .f32⟩
  | .hbm, ⟨50, _⟩ => ⟨S8x20, .f32⟩
  | .hbm, ⟨51, _⟩ => ⟨S8x20, .f32⟩
  | .hbm, ⟨52, _⟩ => ⟨S8x20, .f32⟩
  | .hbm, ⟨53, _⟩ => ⟨S8x1x20, .f32⟩
  | .hbm, ⟨54, _⟩ => ⟨S8x1x20, .f32⟩
  | .hbm, ⟨55, _⟩ => ⟨S8x20, .f32⟩
  | .hbm, ⟨56, _⟩ => ⟨S_, .f32⟩
  | .hbm, ⟨57, _⟩ => ⟨S8x20, .f32⟩
  | .hbm, ⟨58, _⟩ => ⟨S8x20, .i1⟩
  | .hbm, ⟨59, _⟩ => ⟨S8x20, .f32⟩
  | .hbm, ⟨60, _⟩ => ⟨S8x1x20, .f32⟩
  | .hbm, ⟨61, _⟩ => ⟨S_, .f32⟩
  | .hbm, ⟨62, _⟩ => ⟨S8x1x20, .f32⟩
  | .hbm, ⟨63, _⟩ => ⟨S8x8x20, .f32⟩
  | .hbm, ⟨64, _⟩ => ⟨S8x1x128, .f32⟩
  | .hbm, ⟨65, _⟩ => ⟨S8x1x1, .f32⟩
  | .hbm, ⟨66, _⟩ => ⟨S8, .f32⟩
  | .hbm, ⟨67, _⟩ => ⟨S8x1x1, .f32⟩
  | .hbm, ⟨68, _⟩ => ⟨S8, .f32⟩
  | .hbm, ⟨69, _⟩ => ⟨S8x1x1, .f32⟩
  | .hbm, ⟨70, _⟩ => ⟨S8, .f32⟩
  | .hbm, ⟨71, _⟩ => ⟨S_, .f32⟩
  | .hbm, ⟨72, _⟩ => ⟨S_, .f32⟩
  | .hbm, ⟨73, _⟩ => ⟨S8, .f32⟩
  | .hbm, ⟨74, _⟩ => ⟨S8, .f32⟩
  | .hbm, ⟨75, _⟩ => ⟨S8, .f32⟩
  | .hbm, ⟨76, _⟩ => ⟨S_, .f32⟩
  | .hbm, ⟨77, _⟩ => ⟨S8, .f32⟩
  | .hbm, ⟨78, _⟩ => ⟨S8, .i1⟩
  | .hbm, ⟨79, _⟩ => ⟨S_, .f32⟩
  | .hbm, ⟨80, _⟩ => ⟨S8, .f32⟩
  | .hbm, ⟨81, _⟩ => ⟨S8, .f32⟩
  | .hbm, ⟨82, _⟩ => ⟨S_, .f32⟩
  | .hbm, ⟨83, _⟩ => ⟨S_, .f32⟩
  | .hbm, ⟨84, _⟩ => ⟨S8, .f32⟩
  | .hbm, ⟨85, _⟩ => ⟨S8, .f32⟩
  | .hbm, ⟨86, _⟩ => ⟨S8, .f32⟩
  | .hbm, ⟨87, _⟩ => ⟨S_, .f32⟩
  | .hbm, ⟨88, _⟩ => ⟨S_, .f32⟩
  | .hbm, ⟨89, _⟩ => ⟨S8, .f32⟩
  | .hbm, ⟨90, _⟩ => ⟨S8, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S1, .f32⟩
  | .hbm, ⟨100, _⟩ => ⟨S1, .f32⟩
  | .hbm, ⟨101, _⟩ => ⟨S2, .f32⟩
  | .local _ .vmem, ⟨0, _⟩ => ⟨S1x12288x80, .f32⟩
  | .local _ .vmem, ⟨1, _⟩ => ⟨S1x12288x80, .f32⟩
  | .local _ .vmem, ⟨2, _⟩ => ⟨S1x96x512, .f32⟩
  | .local _ .vmem, ⟨3, _⟩ => ⟨S1x96x512, .f32⟩
  | .local _ .vmem, ⟨4, _⟩ => ⟨S96x1024, .f32⟩
  | .local _ .vmem, ⟨5, _⟩ => ⟨S96x1024, .f32⟩
  | .local _ .vmem, ⟨6, _⟩ => ⟨S1x1x128, .f32⟩
  | .local _ .vmem, ⟨7, _⟩ => ⟨S1x1x128, .f32⟩
  | .local _ .smem, ⟨0, _⟩ => ⟨S1x8x20, .f32⟩
  | .local _ .smem, ⟨1, _⟩ => ⟨S1x8x20, .f32⟩
  | _, _ => ⟨S8x49104x80, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_cst : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_v12 : Ref sig .tc := ⟨.hbm, 18, rfl⟩
abbrev main_call0_v13 : Ref sig .tc := ⟨.hbm, 19, rfl⟩
abbrev main_call0_v14 : Ref sig .tc := ⟨.hbm, 20, rfl⟩
abbrev main_call0_v15 : Ref sig .tc := ⟨.hbm, 21, rfl⟩
abbrev main_call0_v16 : Ref sig .tc := ⟨.hbm, 22, rfl⟩
abbrev main_call0_v17 : Ref sig .tc := ⟨.hbm, 23, rfl⟩
abbrev main_call0_v18 : Ref sig .tc := ⟨.hbm, 24, rfl⟩
abbrev main_call0_cst_0 : Ref sig .tc := ⟨.hbm, 25, rfl⟩
abbrev main_call0_v19 : Ref sig .tc := ⟨.hbm, 26, rfl⟩
abbrev main_call0_v20 : Ref sig .tc := ⟨.hbm, 27, rfl⟩
abbrev main_call0_v21 : Ref sig .tc := ⟨.hbm, 28, rfl⟩
abbrev main_call0_cst_1 : Ref sig .tc := ⟨.hbm, 29, rfl⟩
abbrev main_call0_v22 : Ref sig .tc := ⟨.hbm, 30, rfl⟩
abbrev main_call0_v23 : Ref sig .tc := ⟨.hbm, 31, rfl⟩
abbrev main_call0_v24 : Ref sig .tc := ⟨.hbm, 32, rfl⟩
abbrev main_call0_v25 : Ref sig .tc := ⟨.hbm, 33, rfl⟩
abbrev main_call0_c : Ref sig .tc := ⟨.hbm, 34, rfl⟩
abbrev main_call0_call0_v0 : Ref sig .tc := ⟨.hbm, 35, rfl⟩
abbrev main_call0_v26 : Ref sig .tc := ⟨.hbm, 36, rfl⟩
abbrev main_call0_v27 : Ref sig .tc := ⟨.hbm, 37, rfl⟩
abbrev main_call0_v28 : Ref sig .tc := ⟨.hbm, 38, rfl⟩
abbrev main_call0_v29 : Ref sig .tc := ⟨.hbm, 39, rfl⟩
abbrev main_call0_v30 : Ref sig .tc := ⟨.hbm, 40, rfl⟩
abbrev main_call0_v31 : Ref sig .tc := ⟨.hbm, 41, rfl⟩
abbrev main_call0_v32 : Ref sig .tc := ⟨.hbm, 42, rfl⟩
abbrev main_call0_v33 : Ref sig .tc := ⟨.hbm, 43, rfl⟩
abbrev main_call0_v34 : Ref sig .tc := ⟨.hbm, 44, rfl⟩
abbrev main_call0_v35 : Ref sig .tc := ⟨.hbm, 45, rfl⟩
abbrev main_call0_v36 : Ref sig .tc := ⟨.hbm, 46, rfl⟩
abbrev main_call0_v37 : Ref sig .tc := ⟨.hbm, 47, rfl⟩
abbrev main_call0_v38 : Ref sig .tc := ⟨.hbm, 48, rfl⟩
abbrev main_call0_v39 : Ref sig .tc := ⟨.hbm, 49, rfl⟩
abbrev main_call0_v40 : Ref sig .tc := ⟨.hbm, 50, rfl⟩
abbrev main_call0_v41 : Ref sig .tc := ⟨.hbm, 51, rfl⟩
abbrev main_call0_v42 : Ref sig .tc := ⟨.hbm, 52, rfl⟩
abbrev main_call0_v43 : Ref sig .tc := ⟨.hbm, 53, rfl⟩
abbrev main_call0_v44 : Ref sig .tc := ⟨.hbm, 54, rfl⟩
abbrev main_call0_v45 : Ref sig .tc := ⟨.hbm, 55, rfl⟩
abbrev main_call0_cst_2 : Ref sig .tc := ⟨.hbm, 56, rfl⟩
abbrev main_call0_v46 : Ref sig .tc := ⟨.hbm, 57, rfl⟩
abbrev main_call0_v47 : Ref sig .tc := ⟨.hbm, 58, rfl⟩
abbrev main_call0_v48 : Ref sig .tc := ⟨.hbm, 59, rfl⟩
abbrev main_call0_v49 : Ref sig .tc := ⟨.hbm, 60, rfl⟩
abbrev main_call0_cst_3 : Ref sig .tc := ⟨.hbm, 61, rfl⟩
abbrev main_call0_v50 : Ref sig .tc := ⟨.hbm, 62, rfl⟩
abbrev main_call0_v51 : Ref sig .tc := ⟨.hbm, 63, rfl⟩
abbrev main_call0_v52 : Ref sig .tc := ⟨.hbm, 64, rfl⟩
abbrev main_call0_v53 : Ref sig .tc := ⟨.hbm, 65, rfl⟩
abbrev main_call0_v54 : Ref sig .tc := ⟨.hbm, 66, rfl⟩
abbrev main_call0_v55 : Ref sig .tc := ⟨.hbm, 67, rfl⟩
abbrev main_call0_v56 : Ref sig .tc := ⟨.hbm, 68, rfl⟩
abbrev main_call0_v57 : Ref sig .tc := ⟨.hbm, 69, rfl⟩
abbrev main_call0_v58 : Ref sig .tc := ⟨.hbm, 70, rfl⟩
abbrev main_call0_cst_4 : Ref sig .tc := ⟨.hbm, 71, rfl⟩
abbrev main_call0_call1_v0 : Ref sig .tc := ⟨.hbm, 72, rfl⟩
abbrev main_call0_call1_v1 : Ref sig .tc := ⟨.hbm, 73, rfl⟩
abbrev main_call0_v59 : Ref sig .tc := ⟨.hbm, 74, rfl⟩
abbrev main_call0_v60 : Ref sig .tc := ⟨.hbm, 75, rfl⟩
abbrev main_call0_cst_5 : Ref sig .tc := ⟨.hbm, 76, rfl⟩
abbrev main_call0_v61 : Ref sig .tc := ⟨.hbm, 77, rfl⟩
abbrev main_call0_v62 : Ref sig .tc := ⟨.hbm, 78, rfl⟩
abbrev main_call0_cst_6 : Ref sig .tc := ⟨.hbm, 79, rfl⟩
abbrev main_call0_v63 : Ref sig .tc := ⟨.hbm, 80, rfl⟩
abbrev main_call0_v64 : Ref sig .tc := ⟨.hbm, 81, rfl⟩
abbrev main_call0_cst_7 : Ref sig .tc := ⟨.hbm, 82, rfl⟩
abbrev main_call0_call2_v0 : Ref sig .tc := ⟨.hbm, 83, rfl⟩
abbrev main_call0_call2_v1 : Ref sig .tc := ⟨.hbm, 84, rfl⟩
abbrev main_call0_v65 : Ref sig .tc := ⟨.hbm, 85, rfl⟩
abbrev main_call0_v66 : Ref sig .tc := ⟨.hbm, 86, rfl⟩
abbrev main_call0_cst_8 : Ref sig .tc := ⟨.hbm, 87, rfl⟩
abbrev main_call0_call3_v0 : Ref sig .tc := ⟨.hbm, 88, rfl⟩
abbrev main_call0_call3_v1 : Ref sig .tc := ⟨.hbm, 89, rfl⟩
abbrev main_call0_v67 : Ref sig .tc := ⟨.hbm, 90, rfl⟩
abbrev main_call0_cst_9 : Ref sig .tc := ⟨.hbm, 91, rfl⟩
abbrev main_call0_v68 : Ref sig .tc := ⟨.hbm, 92, rfl⟩
abbrev main_call0_cst_10 : Ref sig .tc := ⟨.hbm, 93, rfl⟩
abbrev main_call0_v69 : Ref sig .tc := ⟨.hbm, 94, rfl⟩
abbrev main_call0_cst_11 : Ref sig .tc := ⟨.hbm, 95, rfl⟩
abbrev main_call0_v70 : Ref sig .tc := ⟨.hbm, 96, rfl⟩
abbrev main_call0_cst_12 : Ref sig .tc := ⟨.hbm, 97, rfl⟩
abbrev main_call0_v71 : Ref sig .tc := ⟨.hbm, 98, rfl⟩
abbrev main_call0_v72 : Ref sig .tc := ⟨.hbm, 99, rfl⟩
abbrev main_call0_v73 : Ref sig .tc := ⟨.hbm, 100, rfl⟩
abbrev main_v0 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg3_0 : Ref sig .tc := ⟨.smem, 0, rfl⟩
abbrev cc0_stg3_1 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 4], ![false, false]⟩

def k0_cond1 (i : grid0.Coords) : BitVec 1 :=
  let arg1 : BitVec 32 := BitVec.ofNat 32 (i 1).val
  let c0_i32_550 : BitVec 32 := 0#32
  let v1141 : BitVec 1 := Scalar.cmpi .eq arg1 c0_i32_550
  let v1142 : BitVec 32 := Scalar.extui v1141
  let c0_i32_551 : BitVec 32 := 0#32
  let v1143 : BitVec 1 := Scalar.cmpi .ne v1142 c0_i32_551
  v1143

def k0_cond2 (i : grid0.Coords) : BitVec 1 :=
  let arg1 : BitVec 32 := BitVec.ofNat 32 (i 1).val
  let c0_i32_552 : BitVec 32 := 0#32
  let v1144 : BitVec 1 := Scalar.cmpi .ne arg1 c0_i32_552
  let v1145 : BitVec 32 := Scalar.extui v1144
  let c0_i32_553 : BitVec 32 := 0#32
  let v1146 : BitVec 1 := Scalar.cmpi .ne v1145 c0_i32_553
  v1146

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x12288x80 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x96x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S96x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .smem S1x8x20 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== KernelIdeal.lean ====
variable {F : FTy → Type} [FloatOps F] [Named F]
def κ : String → Option EReal := fun
  | "inv_ln2" => some (((Real.log 2)⁻¹ : ℝ) : EReal)
  | "neg_scale" => some (((-3 / 4) * (Real.log 2) : ℝ) : EReal)
  | "pos_scale" => some (((-1 / 4) * (Real.log 2) : ℝ) : EReal)
  | _ => none
-- ==== ReferenceIdeal.lean ====
abbrev S8x49104x80 : Shape := ⟨3, ![8, 49104, 80]⟩
abbrev S8x49104x4 : Shape := ⟨3, ![8, 49104, 4]⟩
abbrev S1x49104x4 : Shape := ⟨3, ![1, 49104, 4]⟩
abbrev S8x20x5 : Shape := ⟨3, ![8, 20, 5]⟩
abbrev S_ : Shape := ⟨0, ![]⟩
abbrev S49104x4 : Shape := ⟨2, ![49104, 4]⟩
abbrev S49104x1 : Shape := ⟨2, ![49104, 1]⟩
abbrev S49104 : Shape := ⟨1, ![49104]⟩
abbrev S8x20x1 : Shape := ⟨3, ![8, 20, 1]⟩
abbrev S8x20 : Shape := ⟨2, ![8, 20]⟩
abbrev S8x20x4 : Shape := ⟨3, ![8, 20, 4]⟩
abbrev S8x1x20 : Shape := ⟨3, ![8, 1, 20]⟩
abbrev S1x49104x1 : Shape := ⟨3, ![1, 49104, 1]⟩
abbrev S8x49104x20 : Shape := ⟨3, ![8, 49104, 20]⟩
abbrev S49104x20 : Shape := ⟨2, ![49104, 20]⟩
abbrev S8x49104 : Shape := ⟨2, ![8, 49104]⟩
abbrev S8x49104x1 : Shape := ⟨3, ![8, 49104, 1]⟩
abbrev S20 : Shape := ⟨1, ![20]⟩
abbrev S1x20 : Shape := ⟨2, ![1, 20]⟩
abbrev S8 : Shape := ⟨1, ![8]⟩
abbrev S49104x80 : Shape := ⟨2, ![49104, 80]⟩
abbrev S8x1 : Shape := ⟨2, ![8, 1]⟩
abbrev S8x49104x5 : Shape := ⟨3, ![8, 49104, 5]⟩
abbrev S1x80 : Shape := ⟨2, ![1, 80]⟩
abbrev S1x1x80 : Shape := ⟨3, ![1, 1, 80]⟩
abbrev S1x49104 : Shape := ⟨2, ![1, 49104]⟩
abbrev S1 : Shape := ⟨1, ![1]⟩
abbrev S2 : Shape := ⟨1, ![2]⟩

abbrev nBuf : Space → Nat
  | .hbm => 358
  | .vmem => 0
  | .smem => 0
  | _ => 0

abbrev hbmTy0_0 (i : Nat) : BufTy := match i % 128 with
  | 0 => ⟨S8x49104x80, .f32⟩
  | 1 => ⟨S8x49104x4, .f32⟩
  | 2 => ⟨S1x49104x4, .f32⟩
  | 3 => ⟨S8x20x5, .f32⟩
  | 4 => ⟨S_, .i32⟩
  | 5 => ⟨S49104x4, .f32⟩
  | 6 => ⟨S49104x1, .f32⟩
  | 7 => ⟨S49104, .f32⟩
  | 8 => ⟨S49104x1, .f32⟩
  | 9 => ⟨S49104, .f32⟩
  | 10 => ⟨S49104, .f32⟩
  | 11 => ⟨S49104x1, .f32⟩
  | 12 => ⟨S49104, .f32⟩
  | 13 => ⟨S49104x1, .f32⟩
  | 14 => ⟨S49104, .f32⟩
  | 15 => ⟨S49104, .f32⟩
  | 16 => ⟨S49104x1, .f32⟩
  | 17 => ⟨S49104, .f32⟩
  | 18 => ⟨S_, .f32⟩
  | 19 => ⟨S49104, .f32⟩
  | 20 => ⟨S49104, .f32⟩
  | 21 => ⟨S49104, .f32⟩
  | 22 => ⟨S49104x1, .f32⟩
  | 23 => ⟨S49104, .f32⟩
  | 24 => ⟨S_, .f32⟩
  | 25 => ⟨S49104, .f32⟩
  | 26 => ⟨S49104, .f32⟩
  | 27 => ⟨S49104, .f32⟩
  | 28 => ⟨S8x20x1, .f32⟩
  | 29 => ⟨S8x20, .f32⟩
  | 30 => ⟨S_, .f32⟩
  | 31 => ⟨S8x20, .f32⟩
  | 32 => ⟨S8x20, .i1⟩
  | 33 => ⟨S_, .f32⟩
  | 34 => ⟨S_, .f32⟩
  | 35 => ⟨S_, .f32⟩
  | 36 => ⟨S8x49104x80, .f32⟩
  | 37 => ⟨S8x49104x80, .f32⟩
  | 38 => ⟨S_, .f32⟩
  | 39 => ⟨S8x49104x80, .f32⟩
  | 40 => ⟨S8x49104x80, .f32⟩
  | 41 => ⟨S8x20x4, .f32⟩
  | 42 => ⟨S8x20x1, .f32⟩
  | 43 => ⟨S8x20, .f32⟩
  | 44 => ⟨S8x20x1, .f32⟩
  | 45 => ⟨S8x20, .f32⟩
  | 46 => ⟨S8x20, .f32⟩
  | 47 => ⟨S8x20x1, .f32⟩
  | 48 => ⟨S8x20, .f32⟩
  | 49 => ⟨S8x20x1, .f32⟩
  | 50 => ⟨S8x20, .f32⟩
  | 51 => ⟨S8x20, .f32⟩
  | 52 => ⟨S8x20, .f32⟩
  | 53 => ⟨S49104x1, .f32⟩
  | 54 => ⟨S49104, .f32⟩
  | 55 => ⟨S49104x1, .f32⟩
  | 56 => ⟨S8x20x1, .f32⟩
  | 57 => ⟨S8x20, .f32⟩
  | 58 => ⟨S8x1x20, .f32⟩
  | 59 => ⟨S1x49104x1, .f32⟩
  | 60 => ⟨S8x49104x20, .f32⟩
  | 61 => ⟨S8x49104x20, .f32⟩
  | 62 => ⟨S8x49104x20, .f32⟩
  | 63 => ⟨S49104x1, .f32⟩
  | 64 => ⟨S49104, .f32⟩
  | 65 => ⟨S49104x1, .f32⟩
  | 66 => ⟨S8x20x1, .f32⟩
  | 67 => ⟨S8x20, .f32⟩
  | 68 => ⟨S8x1x20, .f32⟩
  | 69 => ⟨S1x49104x1, .f32⟩
  | 70 => ⟨S8x49104x20, .f32⟩
  | 71 => ⟨S8x49104x20, .f32⟩
  | 72 => ⟨S8x49104x20, .f32⟩
  | 73 => ⟨S8x49104x20, .f32⟩
  | 74 => ⟨S_, .f32⟩
  | 75 => ⟨S_, .f32⟩
  | 76 => ⟨S8x49104x20, .f32⟩
  | 77 => ⟨S8x49104x20, .f32⟩
  | 78 => ⟨S49104x1, .f32⟩
  | 79 => ⟨S49104, .f32⟩
  | 80 => ⟨S49104x1, .f32⟩
  | 81 => ⟨S8x20x1, .f32⟩
  | 82 => ⟨S8x20, .f32⟩
  | 83 => ⟨S8x1x20, .f32⟩
  | 84 => ⟨S1x49104x1, .f32⟩
  | 85 => ⟨S8x49104x20, .f32⟩
  | 86 => ⟨S8x49104x20, .f32⟩
  | 87 => ⟨S8x49104x20, .f32⟩
  | 88 => ⟨S49104x1, .f32⟩
  | 89 => ⟨S49104, .f32⟩
  | 90 => ⟨S49104x1, .f32⟩
  | 91 => ⟨S8x20x1, .f32⟩
  | 92 => ⟨S8x20, .f32⟩
  | 93 => ⟨S8x1x20, .f32⟩
  | 94 => ⟨S1x49104x1, .f32⟩
  | 95 => ⟨S8x49104x20, .f32⟩
  | 96 => ⟨S8x49104x20, .f32⟩
  | 97 => ⟨S8x49104x20, .f32⟩
  | 98 => ⟨S8x49104x20, .f32⟩
  | 99 => ⟨S_, .f32⟩
  | 100 => ⟨S_, .f32⟩
  | 101 => ⟨S8x49104x20, .f32⟩
  | 102 => ⟨S8x49104x20, .f32⟩
  | 103 => ⟨S8x49104x20, .f32⟩
  | 104 => ⟨S49104, .f32⟩
  | 105 => ⟨S49104x1, .f32⟩
  | 106 => ⟨S8x1x20, .f32⟩
  | 107 => ⟨S1x49104x1, .f32⟩
  | 108 => ⟨S8x49104x20, .f32⟩
  | 109 => ⟨S8x49104x20, .f32⟩
  | 110 => ⟨S8x49104x20, .f32⟩
  | 111 => ⟨S8x49104x20, .f32⟩
  | 112 => ⟨S_, .f32⟩
  | 113 => ⟨S_, .f32⟩
  | 114 => ⟨S8x49104x20, .f32⟩
  | 115 => ⟨S8x49104x20, .f32⟩
  | 116 => ⟨S8x1x20, .i1⟩
  | 117 => ⟨S8x49104x20, .f32⟩
  | 118 => ⟨S_, .f32⟩
  | 119 => ⟨S_, .f32⟩
  | 120 => ⟨S8x49104x20, .i1⟩
  | 121 => ⟨S49104x20, .f32⟩
  | 122 => ⟨S8x49104x20, .f32⟩
  | 123 => ⟨S8x49104x20, .f32⟩
  | 124 => ⟨S_, .f32⟩
  | 125 => ⟨S8x49104, .f32⟩
  | 126 => ⟨S8x49104x1, .f32⟩
  | 127 => ⟨S8x49104x20, .f32⟩
  | _ => ⟨S8x49104x80, .f32⟩

abbrev hbmTy0_1 (i : Nat) : BufTy := match i % 128 with
  | 0 => ⟨S8x49104x20, .i1⟩
  | 1 => ⟨S20, .i32⟩
  | 2 => ⟨S1x20, .i32⟩
  | 3 => ⟨S_, .i32⟩
  | 4 => ⟨S_, .i32⟩
  | 5 => ⟨S49104x20, .i32⟩
  | 6 => ⟨S49104x20, .i32⟩
  | 7 => ⟨S8x49104x20, .i32⟩
  | 8 => ⟨S8x49104x20, .i32⟩
  | 9 => ⟨S8x49104x20, .i32⟩
  | 10 => ⟨S_, .i32⟩
  | 11 => ⟨S8x49104, .i32⟩
  | 12 => ⟨S8x20, .i32⟩
  | 13 => ⟨S_, .i32⟩
  | 14 => ⟨S8, .i32⟩
  | 15 => ⟨S_, .i32⟩
  | 16 => ⟨S8, .i32⟩
  | 17 => ⟨S8, .i1⟩
  | 18 => ⟨S_, .f32⟩
  | 19 => ⟨S49104x80, .f32⟩
  | 20 => ⟨S_, .f32⟩
  | 21 => ⟨S8x49104, .f32⟩
  | 22 => ⟨S8x49104, .i1⟩
  | 23 => ⟨S8x49104x1, .i1⟩
  | 24 => ⟨S_, .f32⟩
  | 25 => ⟨S_, .f32⟩
  | 26 => ⟨S8x49104x80, .i1⟩
  | 27 => ⟨S49104x80, .f32⟩
  | 28 => ⟨S8x49104x80, .f32⟩
  | 29 => ⟨S8x49104x80, .f32⟩
  | 30 => ⟨S8x49104x80, .f32⟩
  | 31 => ⟨S_, .f32⟩
  | 32 => ⟨S8x49104, .f32⟩
  | 33 => ⟨S8x49104, .i1⟩
  | 34 => ⟨S8x1, .i1⟩
  | 35 => ⟨S8x49104, .i1⟩
  | 36 => ⟨S8x49104, .i1⟩
  | 37 => ⟨S8x49104, .i32⟩
  | 38 => ⟨S_, .i32⟩
  | 39 => ⟨S8, .i32⟩
  | 40 => ⟨S8, .f32⟩
  | 41 => ⟨S_, .i32⟩
  | 42 => ⟨S8x49104, .i32⟩
  | 43 => ⟨S8x49104, .i1⟩
  | 44 => ⟨S_, .i32⟩
  | 45 => ⟨S8x49104, .i32⟩
  | 46 => ⟨S8x49104, .i32⟩
  | 47 => ⟨S8x49104, .i32⟩
  | 48 => ⟨S8x49104x1, .i32⟩
  | 49 => ⟨S8x49104x5, .f32⟩
  | 50 => ⟨S8x49104x1, .f32⟩
  | 51 => ⟨S8x49104, .f32⟩
  | 52 => ⟨S8x49104, .i32⟩
  | 53 => ⟨S8x49104x1, .i32⟩
  | 54 => ⟨S1x80, .i32⟩
  | 55 => ⟨S1x1x80, .i32⟩
  | 56 => ⟨S8x49104x80, .i32⟩
  | 57 => ⟨S8x49104x80, .i32⟩
  | 58 => ⟨S8x49104x80, .i1⟩
  | 59 => ⟨S8x49104x80, .f32⟩
  | 60 => ⟨S8x49104x1, .i1⟩
  | 61 => ⟨S8x49104x80, .i1⟩
  | 62 => ⟨S8x49104x80, .f32⟩
  | 63 => ⟨S_, .f32⟩
  | 64 => ⟨S8x49104x80, .f32⟩
  | 65 => ⟨S8x49104x80, .i1⟩
  | 66 => ⟨S_, .f32⟩
  | 67 => ⟨S_, .f32⟩
  | 68 => ⟨S49104x80, .f32⟩
  | 69 => ⟨S49104x80, .f32⟩
  | 70 => ⟨S8x49104x80, .f32⟩
  | 71 => ⟨S8x49104x80, .f32⟩
  | 72 => ⟨S8x49104x80, .f32⟩
  | 73 => ⟨S_, .f32⟩
  | 74 => ⟨S8x49104x80, .f32⟩
  | 75 => ⟨S8x49104x80, .i1⟩
  | 76 => ⟨S_, .f32⟩
  | 77 => ⟨S8x49104x80, .f32⟩
  | 78 => ⟨S8x49104x80, .f32⟩
  | 79 => ⟨S8x49104x80, .f32⟩
  | 80 => ⟨S_, .f32⟩
  | 81 => ⟨S8x49104x80, .f32⟩
  | 82 => ⟨S8x49104x80, .f32⟩
  | 83 => ⟨S8x49104x80, .f32⟩
  | 84 => ⟨S8x49104x80, .f32⟩
  | 85 => ⟨S8x49104x80, .f32⟩
  | 86 => ⟨S8x49104x80, .f32⟩
  | 87 => ⟨S_, .f32⟩
  | 88 => ⟨S8x49104x80, .f32⟩
  | 89 => ⟨S8x49104x80, .f32⟩
  | 90 => ⟨S_, .f32⟩
  | 91 => ⟨S8x49104x80, .f32⟩
  | 92 => ⟨S8x49104x80, .f32⟩
  | 93 => ⟨S8x49104x80, .f32⟩
  | 94 => ⟨S8x49104x80, .f32⟩
  | 95 => ⟨S8x49104x80, .f32⟩
  | 96 => ⟨S8x49104x80, .f32⟩
  | 97 => ⟨S_, .f32⟩
  | 98 => ⟨S8x49104x80, .f32⟩
  | 99 => ⟨S8x49104x80, .i1⟩
  | 100 => ⟨S8x49104x80, .f32⟩
  | 101 => ⟨S_, .f32⟩
  | 102 => ⟨S_, .f32⟩
  | 103 => ⟨S49104x80, .f32⟩
  | 104 => ⟨S8x49104x80, .f32⟩
  | 105 => ⟨S8x49104x80, .f32⟩
  | 106 => ⟨S_, .f32⟩
  | 107 => ⟨S8, .f32⟩
  | 108 => ⟨S_, .f32⟩
  | 109 => ⟨S_, .f32⟩
  | 110 => ⟨S8, .f32⟩
  | 111 => ⟨S8, .f32⟩
  | 112 => ⟨S8, .f32⟩
  | 113 => ⟨S8x49104x1, .f32⟩
  | 114 => ⟨S8x49104, .f32⟩
  | 115 => ⟨S8x49104x1, .f32⟩
  | 116 => ⟨S8x49104, .f32⟩
  | 117 => ⟨S8x49104, .f32⟩
  | 118 => ⟨S8x49104x1, .f32⟩
  | 119 => ⟨S8x49104, .f32⟩
  | 120 => ⟨S8x49104x1, .f32⟩
  | 121 => ⟨S8x49104, .f32⟩
  | 122 => ⟨S8x49104, .f32⟩
  | 123 => ⟨S8x49104x1, .f32⟩
  | 124 => ⟨S8x49104, .f32⟩
  | 125 => ⟨S_, .f32⟩
  | 126 => ⟨S8x49104, .f32⟩
  | 127 => ⟨S8x49104, .f32⟩
  | _ => ⟨S8x49104x80, .f32⟩

abbrev hbmTy0_2 (i : Nat) : BufTy := match i % 128 with
  | 0 => ⟨S8x49104, .f32⟩
  | 1 => ⟨S8x49104x1, .f32⟩
  | 2 => ⟨S8x49104, .f32⟩
  | 3 => ⟨S_, .f32⟩
  | 4 => ⟨S8x49104, .f32⟩
  | 5 => ⟨S8x49104, .f32⟩
  | 6 => ⟨S8x49104, .f32⟩
  | 7 => ⟨S_, .f32⟩
  | 8 => ⟨S_, .f32⟩
  | 9 => ⟨S8x49104, .f32⟩
  | 10 => ⟨S8x49104, .f32⟩
  | 11 => ⟨S_, .f32⟩
  | 12 => ⟨S_, .f32⟩
  | 13 => ⟨S8x49104, .f32⟩
  | 14 => ⟨S8x49104, .f32⟩
  | 15 => ⟨S_, .f32⟩
  | 16 => ⟨S_, .f32⟩
  | 17 => ⟨S_, .f32⟩
  | 18 => ⟨S_, .f32⟩
  | 19 => ⟨S_, .f32⟩
  | 20 => ⟨S_, .f32⟩
  | 21 => ⟨S1x49104, .f32⟩
  | 22 => ⟨S8x49104, .f32⟩
  | 23 => ⟨S8x49104, .f32⟩
  | 24 => ⟨S1x49104, .f32⟩
  | 25 => ⟨S8x49104, .f32⟩
  | 26 => ⟨S8x49104, .f32⟩
  | 27 => ⟨S8x49104, .f32⟩
  | 28 => ⟨S8x49104, .f32⟩
  | 29 => ⟨S1x49104, .f32⟩
  | 30 => ⟨S8x49104, .f32⟩
  | 31 => ⟨S8x49104, .f32⟩
  | 32 => ⟨S1x49104, .f32⟩
  | 33 => ⟨S8x49104, .f32⟩
  | 34 => ⟨S8x49104, .f32⟩
  | 35 => ⟨S8x49104, .f32⟩
  | 36 => ⟨S8x49104, .f32⟩
  | 37 => ⟨S1x49104, .f32⟩
  | 38 => ⟨S8x49104, .f32⟩
  | 39 => ⟨S8x49104, .f32⟩
  | 40 => ⟨S8x49104, .f32⟩
  | 41 => ⟨S8x49104, .f32⟩
  | 42 => ⟨S8x49104, .f32⟩
  | 43 => ⟨S1x49104, .f32⟩
  | 44 => ⟨S8x49104, .f32⟩
  | 45 => ⟨S8x49104, .f32⟩
  | 46 => ⟨S8x49104, .f32⟩
  | 47 => ⟨S8x49104, .f32⟩
  | 48 => ⟨S8x49104, .f32⟩
  | 49 => ⟨S8x49104x1, .f32⟩
  | 50 => ⟨S8x49104x1, .f32⟩
  | 51 => ⟨S8x49104x1, .f32⟩
  | 52 => ⟨S8x49104x1, .f32⟩
  | 53 => ⟨S8x49104x4, .f32⟩
  | 54 => ⟨S8x49104x4, .f32⟩
  | 55 => ⟨S8x49104x4, .f32⟩
  | 56 => ⟨S_, .f32⟩
  | 57 => ⟨S8x49104x4, .f32⟩
  | 58 => ⟨S8x49104x4, .i1⟩
  | 59 => ⟨S_, .f32⟩
  | 60 => ⟨S8x49104x4, .f32⟩
  | 61 => ⟨S8x49104x4, .f32⟩
  | 62 => ⟨S8x49104x4, .f32⟩
  | 63 => ⟨S_, .f32⟩
  | 64 => ⟨S8x49104x4, .f32⟩
  | 65 => ⟨S8x49104x4, .f32⟩
  | 66 => ⟨S8x49104x4, .f32⟩
  | 67 => ⟨S8x49104x1, .i1⟩
  | 68 => ⟨S_, .f32⟩
  | 69 => ⟨S_, .f32⟩
  | 70 => ⟨S8x49104x4, .i1⟩
  | 71 => ⟨S49104x4, .f32⟩
  | 72 => ⟨S8x49104x4, .f32⟩
  | 73 => ⟨S8x49104x4, .f32⟩
  | 74 => ⟨S_, .f32⟩
  | 75 => ⟨S8, .f32⟩
  | 76 => ⟨S8, .i1⟩
  | 77 => ⟨S_, .f32⟩
  | 78 => ⟨S8, .f32⟩
  | 79 => ⟨S_, .f32⟩
  | 80 => ⟨S8, .f32⟩
  | 81 => ⟨S8, .f32⟩
  | 82 => ⟨S_, .f32⟩
  | 83 => ⟨S_, .f32⟩
  | 84 => ⟨S8, .f32⟩
  | 85 => ⟨S8, .f32⟩
  | 86 => ⟨S8, .f32⟩
  | 87 => ⟨S_, .f32⟩
  | 88 => ⟨S_, .f32⟩
  | 89 => ⟨S8, .f32⟩
  | 90 => ⟨S8, .f32⟩
  | 91 => ⟨S_, .f32⟩
  | 92 => ⟨S_, .f32⟩
  | 93 => ⟨S_, .f32⟩
  | 94 => ⟨S_, .f32⟩
  | 95 => ⟨S_, .f32⟩
  | 96 => ⟨S_, .f32⟩
  | 97 => ⟨S_, .f32⟩
  | 98 => ⟨S_, .f32⟩
  | 99 => ⟨S1, .f32⟩
  | 100 => ⟨S1, .f32⟩
  | 101 => ⟨S2, .f32⟩
  | _ => ⟨S8x49104x80, .f32⟩

abbrev hbmTy (i : Nat) : BufTy := match i / 128 with
  | 0 => hbmTy0_0 i
  | 1 => hbmTy0_1 i
  | 2 => hbmTy0_2 i
  | _ => ⟨S8x49104x80, .f32⟩

abbrev bufTy : (tb : Table) → Fin (tcTables nBuf tb) → BufTy
  | .hbm, ⟨i, _⟩ => hbmTy i
  | _, _ => ⟨S8x49104x80, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_0 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_1 : Ref sig .tc := ⟨.hbm, 30, rfl⟩
abbrev main_v23 : Ref sig .tc := ⟨.hbm, 31, rfl⟩
abbrev main_v24 : Ref sig .tc := ⟨.hbm, 32, rfl⟩
abbrev main_cst_2 : Ref sig .tc := ⟨.hbm, 33, rfl⟩
abbrev main_cst_3 : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_cst_4 : Ref sig .tc := ⟨.hbm, 74, rfl⟩
abbrev main_call1_v0 : Ref sig .tc := ⟨.hbm, 75, rfl⟩
abbrev main_call1_v1 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_cst_5 : Ref sig .tc := ⟨.hbm, 99, rfl⟩
abbrev main_call2_v0 : Ref sig .tc := ⟨.hbm, 100, rfl⟩
abbrev main_call2_v1 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_cst_6 : Ref sig .tc := ⟨.hbm, 112, rfl⟩
abbrev main_call3_v0 : Ref sig .tc := ⟨.hbm, 113, rfl⟩
abbrev main_call3_v1 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_cst_7 : Ref sig .tc := ⟨.hbm, 118, rfl⟩
abbrev main_call4_v0 : Ref sig .tc := ⟨.hbm, 119, rfl⟩
abbrev main_call4_v1 : Ref sig .tc := ⟨.hbm, 120, rfl⟩
abbrev main_call4_v2 : Ref sig .tc := ⟨.hbm, 121, rfl⟩
abbrev main_call4_v3 : Ref sig .tc := ⟨.hbm, 122, rfl⟩
abbrev main_v94 : Ref sig .tc := ⟨.hbm, 123, rfl⟩
abbrev main_cst_8 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_c : Ref sig .tc := ⟨.hbm, 131, rfl⟩
abbrev main_call5_v0 : Ref sig .tc := ⟨.hbm, 132, rfl⟩
abbrev main_call5_v1 : Ref sig .tc := ⟨.hbm, 133, rfl⟩
abbrev main_call5_v2 : Ref sig .tc := ⟨.hbm, 134, rfl⟩
abbrev main_call5_v3 : Ref sig .tc := ⟨.hbm, 135, rfl⟩
abbrev main_call5_v4 : Ref sig .tc := ⟨.hbm, 136, rfl⟩
abbrev main_v101 : Ref sig .tc := ⟨.hbm, 137, rfl⟩
abbrev main_c_9 : Ref sig .tc := ⟨.hbm, 138, rfl⟩
abbrev main_v102 : Ref sig .tc := ⟨.hbm, 139, rfl⟩
abbrev main_v103 : Ref sig .tc := ⟨.hbm, 140, rfl⟩
abbrev main_c_10 : Ref sig .tc := ⟨.hbm, 141, rfl⟩
abbrev main_v104 : Ref sig .tc := ⟨.hbm, 142, rfl⟩
abbrev main_c_11 : Ref sig .tc := ⟨.hbm, 143, rfl⟩
abbrev main_v105 : Ref sig .tc := ⟨.hbm, 144, rfl⟩
abbrev main_v106 : Ref sig .tc := ⟨.hbm, 145, rfl⟩
abbrev main_cst_12 : Ref sig .tc := ⟨.hbm, 146, rfl⟩
abbrev main_v107 : Ref sig .tc := ⟨.hbm, 147, rfl⟩
abbrev main_cst_13 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_cst_14 : Ref sig .tc := ⟨.hbm, 152, rfl⟩
abbrev main_call6_v0 : Ref sig .tc := ⟨.hbm, 153, rfl⟩
abbrev main_call6_v1 : Ref sig .tc := ⟨.hbm, 154, rfl⟩
abbrev main_call6_v2 : Ref sig .tc := ⟨.hbm, 155, rfl⟩
abbrev main_call6_v3 : Ref sig .tc := ⟨.hbm, 156, rfl⟩
abbrev main_call6_v4 : Ref sig .tc := ⟨.hbm, 157, rfl⟩
abbrev main_v111 : Ref sig .tc := ⟨.hbm, 158, rfl⟩
abbrev main_cst_15 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_c_16 : Ref sig .tc := ⟨.hbm, 166, rfl⟩
abbrev main_v118 : Ref sig .tc := ⟨.hbm, 167, rfl⟩
abbrev main_v119 : Ref sig .tc := ⟨.hbm, 168, rfl⟩
abbrev main_c_17 : Ref sig .tc := ⟨.hbm, 169, rfl⟩
abbrev main_v120 : Ref sig .tc := ⟨.hbm, 170, rfl⟩
abbrev main_v121 : Ref sig .tc := ⟨.hbm, 171, rfl⟩
abbrev main_c_18 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_v127 : Ref sig .tc := ⟨.hbm, 178, rfl⟩
abbrev main_v128 : Ref sig .tc := ⟨.hbm, 179, rfl⟩
abbrev main_v129 : Ref sig .tc := ⟨.hbm, 180, rfl⟩
abbrev main_call7_v0 : Ref sig .tc := ⟨.hbm, 181, rfl⟩
abbrev main_call7_v1 : Ref sig .tc := ⟨.hbm, 182, rfl⟩
abbrev main_call7_v2 : Ref sig .tc := ⟨.hbm, 183, rfl⟩
abbrev main_call7_v3 : Ref sig .tc := ⟨.hbm, 184, rfl⟩
abbrev main_call7_v4 : Ref sig .tc := ⟨.hbm, 185, rfl⟩
abbrev main_call7_v5 : Ref sig .tc := ⟨.hbm, 186, rfl⟩
abbrev main_v130 : Ref sig .tc := ⟨.hbm, 187, rfl⟩
abbrev main_v131 : Ref sig .tc := ⟨.hbm, 188, rfl⟩
abbrev main_call8_v0 : Ref sig .tc := ⟨.hbm, 189, rfl⟩
abbrev main_v132 : Ref sig .tc := ⟨.hbm, 190, rfl⟩
abbrev main_cst_19 : Ref sig .tc := ⟨.hbm, 191, rfl⟩
abbrev main_v133 : Ref sig .tc := ⟨.hbm, 192, rfl⟩
abbrev main_v134 : Ref sig .tc := ⟨.hbm, 193, rfl⟩
abbrev main_cst_20 : Ref sig .tc := ⟨.hbm, 194, rfl⟩
abbrev main_cst_21 : Ref sig .tc := ⟨.hbm, 195, rfl⟩
abbrev main_call9_v0 : Ref sig .tc := ⟨.hbm, 196, rfl⟩
abbrev main_call9_v1 : Ref sig .tc := ⟨.hbm, 197, rfl⟩
abbrev main_call9_v2 : Ref sig .tc := ⟨.hbm, 198, rfl⟩
abbrev main_call9_v3 : Ref sig .tc := ⟨.hbm, 199, rfl⟩
abbrev main_v135 : Ref sig .tc := ⟨.hbm, 200, rfl⟩
abbrev main_cst_22 : Ref sig .tc := ⟨.hbm, 201, rfl⟩
abbrev main_v136 : Ref sig .tc := ⟨.hbm, 202, rfl⟩
abbrev main_v137 : Ref sig .tc := ⟨.hbm, 203, rfl⟩
abbrev main_cst_23 : Ref sig .tc := ⟨.hbm, 204, rfl⟩
abbrev main_v138 : Ref sig .tc := ⟨.hbm, 205, rfl⟩
abbrev main_v139 : Ref sig .tc := ⟨.hbm, 206, rfl⟩
abbrev main_v140 : Ref sig .tc := ⟨.hbm, 207, rfl⟩
abbrev main_cst_24 : Ref sig .tc := ⟨.hbm, 208, rfl⟩
abbrev main_v141 : Ref sig .tc := ⟨.hbm, 209, rfl⟩
abbrev main_v142 : Ref sig .tc := ⟨.hbm, 210, rfl⟩
abbrev main_v143 : Ref sig .tc := ⟨.hbm, 211, rfl⟩
abbrev main_v144 : Ref sig .tc := ⟨.hbm, 212, rfl⟩
abbrev main_v145 : Ref sig .tc := ⟨.hbm, 213, rfl⟩
abbrev main_v146 : Ref sig .tc := ⟨.hbm, 214, rfl⟩
abbrev main_cst_25 : Ref sig .tc := ⟨.hbm, 215, rfl⟩
abbrev main_v147 : Ref sig .tc := ⟨.hbm, 216, rfl⟩
abbrev main_v148 : Ref sig .tc := ⟨.hbm, 217, rfl⟩
abbrev main_cst_26 : Ref sig .tc := ⟨.hbm, 218, rfl⟩
abbrev main_v149 : Ref sig .tc := ⟨.hbm, 219, rfl⟩
abbrev main_v150 : Ref sig .tc := ⟨.hbm, 220, rfl⟩
abbrev main_v151 : Ref sig .tc := ⟨.hbm, 221, rfl⟩
abbrev main_v152 : Ref sig .tc := ⟨.hbm, 222, rfl⟩
abbrev main_v153 : Ref sig .tc := ⟨.hbm, 223, rfl⟩
abbrev main_v154 : Ref sig .tc := ⟨.hbm, 224, rfl⟩
abbrev main_cst_27 : Ref sig .tc := ⟨.hbm, 225, rfl⟩
abbrev main_v155 : Ref sig .tc := ⟨.hbm, 226, rfl⟩
abbrev main_v156 : Ref sig .tc := ⟨.hbm, 227, rfl⟩
abbrev main_v157 : Ref sig .tc := ⟨.hbm, 228, rfl⟩
abbrev main_cst_28 : Ref sig .tc := ⟨.hbm, 229, rfl⟩
abbrev main_call11_v0 : Ref sig .tc := ⟨.hbm, 230, rfl⟩
abbrev main_call11_v1 : Ref sig .tc := ⟨.hbm, 231, rfl⟩
abbrev main_call11_v2 : Ref sig .tc := ⟨.hbm, 232, rfl⟩
abbrev main_v158 : Ref sig .tc := ⟨.hbm, 233, rfl⟩
abbrev main_cst_29 : Ref sig .tc := ⟨.hbm, 234, rfl⟩
abbrev main_v159 : Ref sig .tc := ⟨.hbm, 235, rfl⟩
abbrev main_cst_30 : Ref sig .tc := ⟨.hbm, 236, rfl⟩
abbrev main_call12_v0 : Ref sig .tc := ⟨.hbm, 237, rfl⟩
abbrev main_call12_v1 : Ref sig .tc := ⟨.hbm, 238, rfl⟩
abbrev main_v160 : Ref sig .tc := ⟨.hbm, 239, rfl⟩
abbrev main_v161 : Ref sig .tc := ⟨.hbm, 240, rfl⟩
abbrev main_v162 : Ref sig .tc := ⟨.hbm, 241, rfl⟩
abbrev main_v163 : Ref sig .tc := ⟨.hbm, 242, rfl⟩
abbrev main_v164 : Ref sig .tc := ⟨.hbm, 243, rfl⟩
abbrev main_v165 : Ref sig .tc := ⟨.hbm, 244, rfl⟩
abbrev main_v166 : Ref sig .tc := ⟨.hbm, 245, rfl⟩
abbrev main_v167 : Ref sig .tc := ⟨.hbm, 246, rfl⟩
abbrev main_v168 : Ref sig .tc := ⟨.hbm, 247, rfl⟩
abbrev main_v169 : Ref sig .tc := ⟨.hbm, 248, rfl⟩
abbrev main_v170 : Ref sig .tc := ⟨.hbm, 249, rfl⟩
abbrev main_v171 : Ref sig .tc := ⟨.hbm, 250, rfl⟩
abbrev main_v172 : Ref sig .tc := ⟨.hbm, 251, rfl⟩
abbrev main_v173 : Ref sig .tc := ⟨.hbm, 252, rfl⟩
abbrev main_cst_31 : Ref sig .tc := ⟨.hbm, 253, rfl⟩
abbrev main_v174 : Ref sig .tc := ⟨.hbm, 254, rfl⟩
abbrev main_v175 : Ref sig .tc := ⟨.hbm, 255, rfl⟩
abbrev main_v176 : Ref sig .tc := ⟨.hbm, 256, rfl⟩
abbrev main_v177 : Ref sig .tc := ⟨.hbm, 257, rfl⟩
abbrev main_v178 : Ref sig .tc := ⟨.hbm, 258, rfl⟩
abbrev main_cst_32 : Ref sig .tc := ⟨.hbm, 259, rfl⟩
abbrev main_v179 : Ref sig .tc := ⟨.hbm, 260, rfl⟩
abbrev main_v180 : Ref sig .tc := ⟨.hbm, 261, rfl⟩
abbrev main_v181 : Ref sig .tc := ⟨.hbm, 262, rfl⟩
abbrev main_cst_33 : Ref sig .tc := ⟨.hbm, 263, rfl⟩
abbrev main_call13_v0 : Ref sig .tc := ⟨.hbm, 264, rfl⟩
abbrev main_call13_v1 : Ref sig .tc := ⟨.hbm, 265, rfl⟩
abbrev main_v182 : Ref sig .tc := ⟨.hbm, 266, rfl⟩
abbrev main_cst_34 : Ref sig .tc := ⟨.hbm, 267, rfl⟩
abbrev main_call14_v0 : Ref sig .tc := ⟨.hbm, 268, rfl⟩
abbrev main_call14_v1 : Ref sig .tc := ⟨.hbm, 269, rfl⟩
abbrev main_v183 : Ref sig .tc := ⟨.hbm, 270, rfl⟩
abbrev main_cst_35 : Ref sig .tc := ⟨.hbm, 271, rfl⟩
abbrev main_cst_36 : Ref sig .tc := ⟨.hbm, 272, rfl⟩
abbrev main_v184 : Ref sig .tc := ⟨.hbm, 273, rfl⟩
abbrev main_cst_37 : Ref sig .tc := ⟨.hbm, 274, rfl⟩
abbrev main_cst_38 : Ref sig .tc := ⟨.hbm, 275, rfl⟩
abbrev main_v185 : Ref sig .tc := ⟨.hbm, 276, rfl⟩
abbrev main_v186 : Ref sig .tc := ⟨.hbm, 277, rfl⟩
abbrev main_v187 : Ref sig .tc := ⟨.hbm, 278, rfl⟩
abbrev main_v188 : Ref sig .tc := ⟨.hbm, 279, rfl⟩
abbrev main_v189 : Ref sig .tc := ⟨.hbm, 280, rfl⟩
abbrev main_v190 : Ref sig .tc := ⟨.hbm, 281, rfl⟩
abbrev main_v191 : Ref sig .tc := ⟨.hbm, 282, rfl⟩
abbrev main_v192 : Ref sig .tc := ⟨.hbm, 283, rfl⟩
abbrev main_v193 : Ref sig .tc := ⟨.hbm, 284, rfl⟩
abbrev main_v194 : Ref sig .tc := ⟨.hbm, 285, rfl⟩
abbrev main_v195 : Ref sig .tc := ⟨.hbm, 286, rfl⟩
abbrev main_v196 : Ref sig .tc := ⟨.hbm, 287, rfl⟩
abbrev main_v197 : Ref sig .tc := ⟨.hbm, 288, rfl⟩
abbrev main_v198 : Ref sig .tc := ⟨.hbm, 289, rfl⟩
abbrev main_v199 : Ref sig .tc := ⟨.hbm, 290, rfl⟩
abbrev main_v200 : Ref sig .tc := ⟨.hbm, 291, rfl⟩
abbrev main_v201 : Ref sig .tc := ⟨.hbm, 292, rfl⟩
abbrev main_v202 : Ref sig .tc := ⟨.hbm, 293, rfl⟩
abbrev main_v203 : Ref sig .tc := ⟨.hbm, 294, rfl⟩
abbrev main_v204 : Ref sig .tc := ⟨.hbm, 295, rfl⟩
abbrev main_v205 : Ref sig .tc := ⟨.hbm, 296, rfl⟩
abbrev main_v206 : Ref sig .tc := ⟨.hbm, 297, rfl⟩
abbrev main_v207 : Ref sig .tc := ⟨.hbm, 298, rfl⟩
abbrev main_v208 : Ref sig .tc := ⟨.hbm, 299, rfl⟩
abbrev main_v209 : Ref sig .tc := ⟨.hbm, 300, rfl⟩
abbrev main_v210 : Ref sig .tc := ⟨.hbm, 301, rfl⟩
abbrev main_v211 : Ref sig .tc := ⟨.hbm, 302, rfl⟩
abbrev main_v212 : Ref sig .tc := ⟨.hbm, 303, rfl⟩
abbrev main_v213 : Ref sig .tc := ⟨.hbm, 304, rfl⟩
abbrev main_v214 : Ref sig .tc := ⟨.hbm, 305, rfl⟩
abbrev main_v215 : Ref sig .tc := ⟨.hbm, 306, rfl⟩
abbrev main_v216 : Ref sig .tc := ⟨.hbm, 307, rfl⟩
abbrev main_v217 : Ref sig .tc := ⟨.hbm, 308, rfl⟩
abbrev main_v218 : Ref sig .tc := ⟨.hbm, 309, rfl⟩
abbrev main_v219 : Ref sig .tc := ⟨.hbm, 310, rfl⟩
abbrev main_v220 : Ref sig .tc := ⟨.hbm, 311, rfl⟩
abbrev main_cst_39 : Ref sig .tc := ⟨.hbm, 312, rfl⟩
abbrev main_v221 : Ref sig .tc := ⟨.hbm, 313, rfl⟩
abbrev main_v222 : Ref sig .tc := ⟨.hbm, 314, rfl⟩
abbrev main_cst_40 : Ref sig .tc := ⟨.hbm, 315, rfl⟩
abbrev main_v223 : Ref sig .tc := ⟨.hbm, 316, rfl⟩
abbrev main_v224 : Ref sig .tc := ⟨.hbm, 317, rfl⟩
abbrev main_v225 : Ref sig .tc := ⟨.hbm, 318, rfl⟩
abbrev main_cst_41 : Ref sig .tc := ⟨.hbm, 319, rfl⟩
abbrev main_v226 : Ref sig .tc := ⟨.hbm, 320, rfl⟩
abbrev main_v227 : Ref sig .tc := ⟨.hbm, 321, rfl⟩
abbrev main_v228 : Ref sig .tc := ⟨.hbm, 322, rfl⟩
abbrev main_v229 : Ref sig .tc := ⟨.hbm, 323, rfl⟩
abbrev main_cst_42 : Ref sig .tc := ⟨.hbm, 324, rfl⟩
abbrev main_call16_v0 : Ref sig .tc := ⟨.hbm, 325, rfl⟩
abbrev main_call16_v1 : Ref sig .tc := ⟨.hbm, 326, rfl⟩
abbrev main_call16_v2 : Ref sig .tc := ⟨.hbm, 327, rfl⟩
abbrev main_call16_v3 : Ref sig .tc := ⟨.hbm, 328, rfl⟩
abbrev main_v230 : Ref sig .tc := ⟨.hbm, 329, rfl⟩
abbrev main_cst_43 : Ref sig .tc := ⟨.hbm, 330, rfl⟩
abbrev main_v231 : Ref sig .tc := ⟨.hbm, 331, rfl⟩
abbrev main_v232 : Ref sig .tc := ⟨.hbm, 332, rfl⟩
abbrev main_cst_44 : Ref sig .tc := ⟨.hbm, 333, rfl⟩
abbrev main_v233 : Ref sig .tc := ⟨.hbm, 334, rfl⟩
abbrev main_cst_45 : Ref sig .tc := ⟨.hbm, 335, rfl⟩
abbrev main_v234 : Ref sig .tc := ⟨.hbm, 336, rfl⟩
abbrev main_v235 : Ref sig .tc := ⟨.hbm, 337, rfl⟩
abbrev main_cst_46 : Ref sig .tc := ⟨.hbm, 338, rfl⟩
abbrev main_call17_v0 : Ref sig .tc := ⟨.hbm, 339, rfl⟩
abbrev main_call17_v1 : Ref sig .tc := ⟨.hbm, 340, rfl⟩
abbrev main_v236 : Ref sig .tc := ⟨.hbm, 341, rfl⟩
abbrev main_v237 : Ref sig .tc := ⟨.hbm, 342, rfl⟩
abbrev main_cst_47 : Ref sig .tc := ⟨.hbm, 343, rfl⟩
abbrev main_call18_v0 : Ref sig .tc := ⟨.hbm, 344, rfl⟩
abbrev main_call18_v1 : Ref sig .tc := ⟨.hbm, 345, rfl⟩
abbrev main_v238 : Ref sig .tc := ⟨.hbm, 346, rfl⟩
abbrev main_cst_48 : Ref sig .tc := ⟨.hbm, 347, rfl⟩
abbrev main_v239 : Ref sig .tc := ⟨.hbm, 348, rfl⟩
abbrev main_cst_49 : Ref sig .tc := ⟨.hbm, 349, rfl⟩
abbrev main_v240 : Ref sig .tc := ⟨.hbm, 350, rfl⟩
abbrev main_cst_50 : Ref sig .tc := ⟨.hbm, 351, rfl⟩
abbrev main_v241 : Ref sig .tc := ⟨.hbm, 352, rfl⟩
abbrev main_cst_51 : Ref sig .tc := ⟨.hbm, 353, rfl⟩
abbrev main_v242 : Ref sig .tc := ⟨.hbm, 354, rfl⟩
abbrev main_v243 : Ref sig .tc := ⟨.hbm, 355, rfl⟩
abbrev main_v244 : Ref sig .tc := ⟨.hbm, 356, rfl⟩
abbrev main_v245 : Ref sig .tc := ⟨.hbm, 357, rfl⟩

abbrev nD : Nat := 1
abbrev τ : Topo := Topo.v7x

variable {F : FTy → Type} [FloatOps F]
-- ==== Proof.KernelIdealKit.lean ====
/- What the launch of `KernelIdeal` does around its one region, by hand: the buffers the host operations before and
   after the region write, so that every argument is found and left as launched; the windows' blocks; and the body's
   two cases. Window 0's last block overhangs its array, so nothing here says what its buffer holds past the end. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.StableHlo.Run
public import Idealize.ShloMosaic.Lib.Pipeline.TableIdle
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## @main around the region -/

/-- The contents of core `c`'s buffers when the region is entered: after the host operations before it. -/
abbrev V0 (c : Dev nD) : Valuation τ sig (Elt F) := StableHlo.after (List.flatten [hostOps0]) (fun b => m (c, b))
/-- The same, read at a reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The buffers the host operations before the region write, -/
abbrev W0 : List (Ref sig .tc) := [main_call0_cst, main_call0_v0, main_call0_v1, main_call0_v2, main_call0_v3, main_call0_v4, main_call0_v5, main_call0_v6, main_call0_v7, main_call0_v8, main_call0_v9, main_call0_v10, main_call0_v11, main_call0_v12, main_call0_v13, main_call0_v14, main_call0_v15, main_call0_v16, main_call0_v17, main_call0_v18, main_call0_cst_0, main_call0_v19, main_call0_v20, main_call0_v21, main_call0_cst_1, main_call0_v22, main_call0_v23, main_call0_v24, main_call0_v25, main_call0_c, main_call0_call0_v0, main_call0_v26, main_call0_v27, main_call0_v28, main_call0_v29, main_call0_v30, main_call0_v31, main_call0_v32, main_call0_v33, main_call0_v34, main_call0_v35, main_call0_v36, main_call0_v37, main_call0_v38, main_call0_v39, main_call0_v40, main_call0_v41, main_call0_v42, main_call0_v43, main_call0_v44, main_call0_v45, main_call0_cst_2, main_call0_v46, main_call0_v47, main_call0_v48, main_call0_v49, main_call0_cst_3, main_call0_v50, main_call0_v51]
/-- and those the operations after it write. -/
abbrev W1 : List (Ref sig .tc) := [main_call0_v53, main_call0_v54, main_call0_v55, main_call0_v56, main_call0_v57, main_call0_v58, main_call0_cst_4, main_call0_call1_v0, main_call0_call1_v1, main_call0_v59, main_call0_v60, main_call0_cst_5, main_call0_v61, main_call0_v62, main_call0_cst_6, main_call0_v63, main_call0_v64, main_call0_cst_7, main_call0_call2_v0, main_call0_call2_v1, main_call0_v65, main_call0_v66, main_call0_cst_8, main_call0_call3_v0, main_call0_call3_v1, main_call0_v67, main_call0_cst_9, main_call0_v68, main_call0_cst_10, main_call0_v69, main_call0_cst_11, main_call0_v70, main_call0_cst_12, main_call0_v71, main_call0_v72, main_call0_v73, main_v0]

set_option maxHeartbeats 800000 in
theorem hostOps0_writes : (hostOps0 : List (HloOp τ sig (Elt F))).Forall fun op =>
    op.writes ⊆ (W0.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  all_goals
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    exact List.mem_map_of_mem (by decide)
set_option maxHeartbeats 800000 in
theorem hostOps1_writes : (hostOps1 : List (HloOp τ sig (Elt F))).Forall fun op =>
    op.writes ⊆ (W1.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  all_goals
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    exact List.mem_map_of_mem (by decide)

/-- A buffer the operations before the region do not write is found by the region as launched. -/
theorem V_keep (c : Dev nD) (b : Ref sig .tc) (h : b ∉ W0) : V m c b = m ((c : Thread nD τ).loc b) := by
  simp only [V, V0, List.flatten_cons, List.flatten_nil, List.append_nil]
  exact StableHlo.after_of_writes_sub hostOps0 _ hostOps0_writes h

set_option maxHeartbeats 800000 in
/-- @main around the region: the host lines before it, the region, the host lines after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The lines after the region touch unscoped buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  obtain rfl := List.mem_singleton.mp hops
  exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  obtain rfl := List.mem_singleton.mp hops
  exact (List.forall_iff_forall_mem.mp hostOps1_fresh) op hop
/-- They write the buffers of `W1` and no other. -/
theorem sfx_writes : ∀ ops ∈ ([hostOps1] : List (List (HloOp τ sig (Elt F)))), ∀ op ∈ ops,
    ∀ b : Ref sig .tc, Proc.devRef .tc b ∈ op.writes → b ∈ W1.toFinset := by
  intro ops hops op hop b hb
  obtain rfl := List.mem_singleton.mp hops
  have h := (List.forall_iff_forall_mem.mp hostOps1_writes) op hop hb
  rw [List.mem_toFinset] at h ⊢
  obtain ⟨r, hr, e⟩ := List.mem_map.mp h
  rwa [← Proc.devRef_injective _ e]
/-- No array of the pipeline is among those. -/
theorem sfx_keeps : ∀ ops ∈ ([hostOps1] : List (List (HloOp τ sig (Elt F)))), ∀ op ∈ ops,
    ∀ w, Proc.devRef .tc (Pipeline.arrRef spec0 w) ∉ op.writes := by
  intro ops hops op hop w h
  have h := sfx_writes ops hops op hop _ h
  revert h
  exact (by decide : ∀ w, Pipeline.arrRef spec0 w ∉ W1.toFinset) w

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 0 (mod 4) — by arithmetic of the point. -/
theorem hcond0_0 : ∀ t : Fin cfg0.N, cond0_0 (grid0.coords t) ↔ t.val % 4 = 0 :=
  (fun t => by
    have ht : t.val < 32 := Nat.lt_of_lt_of_eq t.isLt N_0
    have e0 : (grid0.coords t 0).val = t.val / 4 % 8 := Pipeline.Grid.coords_val t 0 (by decide) rfl
    have e1 : (grid0.coords t 1).val = t.val / 1 % 4 := Pipeline.Grid.coords_val t 1 (by decide) rfl
    simp only [cond0_0, k0_cond1, e0, e1]
    word_cmp
   : ∀ t : Fin grid0.N, cond0_0 (grid0.coords t) ↔ t.val % 4 = 0)

/-- The condition of the body's `scf.if` 1 (`k0_h2`), from the grid coordinates (the skeleton's scalar
    chain substituted). -/
abbrev cond0_1 (i : grid0.Coords) : Prop := k0_cond2 i = 1#1
/-- It holds at the points whose coordinates have 1 ≤ i1 — by arithmetic of the point. -/
theorem hcond0_1 : ∀ t : Fin cfg0.N, cond0_1 (grid0.coords t) ↔ 1 ≤ t.val % 4 :=
  (fun t => by
    have ht : t.val < 32 := Nat.lt_of_lt_of_eq t.isLt N_0
    have e0 : (grid0.coords t 0).val = t.val / 4 % 8 := Pipeline.Grid.coords_val t 0 (by decide) rfl
    have e1 : (grid0.coords t 1).val = t.val / 1 % 4 := Pipeline.Grid.coords_val t 1 (by decide) rfl
    simp only [cond0_1, k0_cond2, e0, e1]
    word_cmp
   : ∀ t : Fin grid0.N, cond0_1 (grid0.coords t) ↔ 1 ≤ t.val % 4)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Whether output 4's buffer is FRESH at each position `1 ‥ N` — holds nothing the body stored since the region's entry or the
    last write-back (written back at the point before, or idle there and fresh before it) —, as a bitmask the classifier
    computed, bit `n` for position `n + 1`; position 0 is fresh. `freshTab0_4_step` checks it against the configuration's own
    step point by point and Lib/Pipeline/TableIdle.lean `Cfg.fresh_tab` makes it `Cfg.fresh` (`fresh0_4_eq`). -/
def freshTab0_4 : ℕ → Bool
  | 0 => true
  | n + 1 => (0x88888888 : ℕ).testBit n
theorem freshTab0_4_step : ∀ t : Fin cfg0.N,
    freshTab0_4 (t.val + 1) = ((cfg0.win 4).flush t || (cfg0.idle 4 (cfg0.grid.coords t) && freshTab0_4 t.val)) := by decide +kernel
theorem fresh0_4_eq (t : Fin cfg0.N) : cfg0.fresh 4 t.val = freshTab0_4 t.val :=
  Pipeline.Cfg.fresh_tab cfg0 4 freshTab0_4 rfl freshTab0_4_step t.val (Nat.le_of_lt t.isLt)
/-- At the points of case A the printed configuration (`Cfg.idle`) calls output 4 live: the case stores into it. -/
theorem liveAt0_4_A : ∀ t : Fin cfg0.N, cond0_0 (grid0.coords t) → ¬cond0_1 (grid0.coords t) → cfg0.idle 4 (grid0.coords t) = false := by decide +kernel
/-- At the points of case B the printed configuration (`Cfg.idle`) calls output 4 live: the case stores into it. -/
theorem liveAt0_4_B : ∀ t : Fin cfg0.N, ¬cond0_0 (grid0.coords t) → cond0_1 (grid0.coords t) → cfg0.idle 4 (grid0.coords t) = false := by decide +kernel
/-- At the points of case B, which keeps output 4's prior contents (reads it before covering, or covers it in part), the
    window's buffer is not FRESH: something was stored into it since the region's entry or its last write-back, idle points
    between or not (Lib/Pipeline/TableIdle.lean `Cfg.fresh`, by the table `freshTab0_4`). -/
theorem notFresh0_4_B : ∀ t : Fin cfg0.N, ¬cond0_0 (grid0.coords t) → cond0_1 (grid0.coords t) → cfg0.fresh 4 t.val = false := by
  intro t; rw [fresh0_4_eq t]; revert t; decide +kernel

/-! ## The kernel body on any staging memrefs: a subtype the run finds -/

/-- One staging buffer of output window 4, through which its contents are stated (`View.read_writes_of_cover`: the
    choice does not matter). -/
abbrev VO0_4 : View sig .tc .vmem S1x1x128 .f32 := (Memref.whole cc0_stg4_0 : Memref sig .tc .vmem S1x1x128 .f32).view
/-- Each window's current staging memref at point `t`, spelled as the pipeline passes it (`bodyAt0`), and its wholeness. -/
abbrev ms0_0 (t : Fin cfg0.N) : Memref sig .tc .vmem S1x12288x80 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x96x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S96x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .smem S1x8x20 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x128 .f32 := win0_4.stage (cfg0.slots t 4)
abbrev hs0_4 (t : Fin cfg0.N) : (ms0_4 t).IsWhole := hstage0_4 ((cfg0.slots t 4).cast nbuf0_4)

end Cert.KernelIdeal.Hand

end
-- ==== Proof.KernelIdealRunA.lean ====
/- The body run at a first block of its sample, which stores the block's vector. -/
module

public import proofs.«01_k».proof.Proof.KernelIdealKit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 1000000 in
/-- On whole staging buffers the body leaves the inputs' as they were and the output's with the pieces found
    written, whatever it held. -/
noncomputable def kernelRun0_A (c : Dev nD) (i : grid0.Coords) (arg2 : Memref sig .tc .vmem S1x12288x80 .f32) (harg2 : arg2.IsWhole) (arg3 : Memref sig .tc .vmem S1x96x512 .f32) (harg3 : arg3.IsWhole) (arg4 : Memref sig .tc .vmem S96x1024 .f32) (harg4 : arg4.IsWhole) (arg5 : Memref sig .tc .smem S1x8x20 .f32) (harg5 : arg5.IsWhole) (arg6 : Memref sig .tc .vmem S1x1x128 .f32) (harg6 : arg6.IsWhole) (hc0 : cond0_0 i) (hc1 : ¬cond0_1 i)
    (x0 : Vec F S1x12288x80 .f32) (x1 : Vec F S1x96x512 .f32) (x2 : Vec F S96x1024 .f32) (x3 : Vec F S1x8x20 .f32) :
    { L4 : List (View.Piece (Elt F) S1x1x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)) -∗ K ⟨⟩))
          ⊢ wp frame (wpE (defs₀ (F := F)) Variants.none c none) E (cc0__loss_kernel i arg2 harg2 arg3 harg3 arg4 harg4 arg5 harg5 arg6 harg6) K } := by
  refine ⟨?_, fun E K => ?run⟩
  case run =>
    simp only [cc0__loss_kernel_eq_skeleton]; unfold cc0__loss_kernel_skel
    simp only [k0_part29_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton]
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg2.eq_unread hf0; obtain rfl := harg3.eq_unread hf1; obtain rfl := harg4.eq_unread hf2; obtain rfl := harg5.eq_unread hf3
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

end Cert.KernelIdeal.Hand

end
-- ==== Proof.KernelIdealRunB.lean ====
/- The body run at a later block of its sample, which adds its vector to the buffer's. -/
module

public import proofs.«01_k».proof.Proof.KernelIdealRunA

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 1000000 in
/-- On whole staging buffers the body leaves the inputs' as they were and the output's with the pieces found
    written, whatever it held of the point before being `xo4`. -/
noncomputable def kernelRun0_B (c : Dev nD) (i : grid0.Coords) (arg2 : Memref sig .tc .vmem S1x12288x80 .f32) (harg2 : arg2.IsWhole) (arg3 : Memref sig .tc .vmem S1x96x512 .f32) (harg3 : arg3.IsWhole) (arg4 : Memref sig .tc .vmem S96x1024 .f32) (harg4 : arg4.IsWhole) (arg5 : Memref sig .tc .smem S1x8x20 .f32) (harg5 : arg5.IsWhole) (arg6 : Memref sig .tc .vmem S1x1x128 .f32) (harg6 : arg6.IsWhole) (hc0 : ¬cond0_0 i) (hc1 : cond0_1 i)
    (x0 : Vec F S1x12288x80 .f32) (x1 : Vec F S1x96x512 .f32) (x2 : Vec F S96x1024 .f32) (x3 : Vec F S1x8x20 .f32) (xo4 : Vec F S1x1x128 .f32) :
    { L4 : List (View.Piece (Elt F) S1x1x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo4
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)) -∗ K ⟨⟩))
          ⊢ wp frame (wpE (defs₀ (F := F)) Variants.none c none) E (cc0__loss_kernel i arg2 harg2 arg3 harg3 arg4 harg4 arg5 harg5 arg6 harg6) K } := by
  refine ⟨?_, fun E K => ?run⟩
  case run =>
    simp only [cc0__loss_kernel_eq_skeleton]; unfold cc0__loss_kernel_skel
    simp only [k0_part29_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton]
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1; obtain rfl := harg4.eq_unread hf2; obtain rfl := harg5.eq_unread hf3; obtain rfl := harg6.eq_unread hf4
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

end Cert.KernelIdeal.Hand

end
-- ==== Proof.KernelIdealFrame.lean ====
/- The launch of `KernelIdeal` run with nothing said of what its region leaves: every argument ends as launched and
   every semaphore at zero. Window 0's last block overhangs its array: its buffer is handed over, and given back,
   at the block on the part inside, at anything past the end. -/
module

public import proofs.«01_k».proof.Proof.KernelIdealRunB
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Nothing is said of what the output window holds. -/
def forgets0 : Fin 5 → Bool := fun w => w.val == 4

/-- Some word, for the part of window 0's last block past the array's end. -/
def padWord : Elt F .f32 := Scalar.ofBits .f32 0#32

/-- Window 0's block at point `t` as a whole buffer, `padWord` past the array's end. -/
def clsBlk (c : Dev nD) (t : Fin cfg0.N) : S1x12288x80.Idx → Elt F .f32 :=
  win0_0.fill (grid0.coords t) (fun _ => padWord) (iblk m c 0 t)

/-- The proof data on core `c`: the arrays as the region finds them, each input's buffer left at its block. -/
def dats (_ : Fin 1) (c : Dev nD) : Dat τ (Elt F) Unit ℕ (UR sig nD τ) ℕ cfg0 c where
  A w := V m c (Pipeline.arrRef spec0 w)
  after w t := match w with
    | ⟨0, _⟩ => clsBlk m c t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = clsBlk m c t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]

/-- Window 0 is fetched at every point: its block moves every time. -/
theorem fetch0_0 : ∀ t : Fin cfg0.N, (cfg0.win 0).fetch t = true := by decide +kernel
/-- So its buffer holds the block inside the array and whatever it held past its end. -/
theorem before0_0 (c : Dev nD) (t : Fin cfg0.N) (d) :
    (dats m 0 c).before 0 t d = win0_0.fill (grid0.coords t) d (iblk m c 0 t) := by
  unfold Dat.before; rw [if_pos (fetch0_0 t)]; rfl
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- The part of window 0's buffer its transfers move is the block. -/
theorem cut_clsBlk (c : Dev nD) (t : Fin cfg0.N) : win0_0.cut (grid0.coords t) (clsBlk m c t) = iblk m c 0 t := by
  unfold clsBlk; exact win0_0.cut_fill (grid0.coords t) _ _

/-! ## The body at any point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare d))

/-- and what it returns: window 0's buffer at its block inside the array. -/
def bodyPost (c : Dev nD) (t : Fin cfg0.N) : sProp 𝕄 :=
  iprop((dats m 0 c).Φ t.succ ∗ (dats m 0 c).owesAt () t.succ
    ∗ (∃ d, owns (c : Thread nD τ) (ms0_0 t) fullShare (win0_0.fill (grid0.coords t) d (win0_0.cut (grid0.coords t) ((dats m 0 c).after 0 t))))
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ (∃ d, owns (c : Thread nD τ) (ms0_4 t) fullShare d))

set_option maxHeartbeats 800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, after0_0, after0_1, after0_2, after0_3, cut_clsBlk]
  rw [show (dats m 0 c).Φ t.succ = (dats m 0 c).Φ t.castSucc from rfl,
    show (dats m 0 c).owesAt () t.succ = (dats m 0 c).owesAt () t.castSucc from rfl]
  have hN : t.val < 32 := lt_of_lt_of_eq t.isLt (show cfg0.N = 32 from N_0)
  by_cases h0 : t.val % 4 = 0
  · have h1 : ¬1 ≤ t.val % 4 := by omega
    iintro ⟨HΦ, Ho, ⟨%d0, H0⟩, ⟨%d1, H1⟩, ⟨%d2, H2⟩, ⟨%d3, H3⟩, ⟨%d4, H4⟩⟩
    iapply ((kernelRun0_A c (grid0.coords t) _ _ _ _ _ _ _ _ _ _ ((hcond0_0 t).mpr h0) (fun h => h1 ((hcond0_1 t).mp h)) (win0_0.fill (grid0.coords t) d0 (iblk m c 0 t)) (iblk m c 1 t) (iblk m c 2 t) (iblk m c 3 t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e4, H4⟩⟩
    isplitl [HΦ]; · iexact HΦ
    isplitl [Ho]; · iexact Ho
    isplitl [H0]; · iexists d0; erw [cut_clsBlk m c t]; iexact H0
    isplitl [H1]; · iexact H1
    isplitl [H2]; · iexact H2
    isplitl [H3]; · iexact H3
    iexists _; unfold owns; iexists _; isplitr
    swap; · iexact H4
    ipureintro; rfl
  · have h1 : 1 ≤ t.val % 4 := by omega
    iintro ⟨HΦ, Ho, ⟨%d0, H0⟩, ⟨%d1, H1⟩, ⟨%d2, H2⟩, ⟨%d3, H3⟩, ⟨%d4, H4⟩⟩
    iapply ((kernelRun0_B c (grid0.coords t) _ _ _ _ _ _ _ _ _ _ (fun h => h0 ((hcond0_0 t).mp h)) ((hcond0_1 t).mpr h1) (win0_0.fill (grid0.coords t) d0 (iblk m c 0 t)) (iblk m c 1 t) (iblk m c 2 t) (iblk m c 3 t) d4).2 Set.univ _)
    isplitl [H0]; · iexact H0
    isplitl [H1]; · iexact H1
    isplitl [H2]; · iexact H2
    isplitl [H3]; · iexact H3
    isplitl [H4]; · iexact H4
    iintro ⟨H0, H1, H2, H3, ⟨%e4, H4⟩⟩
    isplitl [HΦ]; · iexact HΦ
    isplitl [Ho]; · iexact Ho
    isplitl [H0]; · iexists d0; erw [cut_clsBlk m c t]; iexact H0
    isplitl [H1]; · iexact H1
    isplitl [H2]; · iexact H2
    isplitl [H3]; · iexact H3
    iexists _; unfold owns; iexists _; isplitr
    swap; · iexact H4
    ipureintro; rfl

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligationLoose (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

set_option backward.isDefEq.respectTransparency.types false in
set_option maxHeartbeats 800000 in
theorem run_main : θ_run defs (onTc (τ := τ) (main (F := F))) (s₀ m ρ) (fun r => (Pipeline.RDat.FramePostR (cfgs 0) (fun c => (dats m 0 c).toRForget forgets0) W1.toFinset (V m)) r ∧ r.2.sem = fun _ => 0) :=
  Pipeline.θ_run_frame_around_T_forget (Q' := _) cfgs (dats m) (0 : Fin 1) launch0 defs₀ Variants.none forgets0 W1.toFinset m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hΦ := fun _ _ => rfl)

/-- The frame: every argument ends as launched, every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  refine (θ_run defs _ _).mono (fun r h => ⟨fun c => ?_, h.2⟩) (run_main m ρ)
  have keep : ∀ b : Ref sig .tc, b ∉ W0 → b ∈ Pipeline.restRefs sig spec0 \ W1.toFinset →
      r.2.mem ((c.tc : Thread nD τ).loc b) = m ((c.tc : Thread nD τ).loc b) := fun b hb hr =>
    ((h.1 c).2 b hr).trans (V_keep m c b hb)
  exact ⟨(Pipeline.RDat.FramePostR.arr_in h.1 c 0 rfl).trans ((A_eq m c 0).trans (V_keep m c main_arg0 (by decide))),
    keep main_arg1 (by decide) (Finset.mem_sdiff.mpr ⟨Pipeline.mem_restRefs_of main_arg1 (by decide) (by decide), by decide⟩),
    keep main_arg2 (by decide) (Finset.mem_sdiff.mpr ⟨Pipeline.mem_restRefs_of main_arg2 (by decide) (by decide), by decide⟩),
    keep main_arg3 (by decide) (Finset.mem_sdiff.mpr ⟨Pipeline.mem_restRefs_of main_arg3 (by decide) (by decide), by decide⟩),
    keep main_arg4 (by decide) (Finset.mem_sdiff.mpr ⟨Pipeline.mem_restRefs_of main_arg4 (by decide) (by decide), by decide⟩)⟩

end Cert.KernelIdeal.Hand

end
-- ==== Proof.LossDefs.lean ====
/- What both programs compute at one anchor, over the extended reals: the overlap of an anchor with an annotation, the
   annotation the kernel's running maximum picks, and the terms of the three sums. -/
module

public import Idealize.ShloMosaic.Lib.Pointwise
public import Idealize.ShloMosaic.PureOps.Ideal.Laws

@[expose] public section

noncomputable section

namespace Cert.Loss

open Idealize.ShloMosaic

/-- An anchor: its corners, its width and height, its centre. -/
structure Geo where
  x1 : EReal
  y1 : EReal
  x2 : EReal
  y2 : EReal
  w : EReal
  h : EReal
  cx : EReal
  cy : EReal

/-- An annotation: its corners, its label, its area, and whether it is there (one or zero). -/
structure Ann where
  x1 : EReal
  y1 : EReal
  x2 : EReal
  y2 : EReal
  lab : EReal
  area : EReal
  val : EReal

/-- What the running maximum holds: the greatest overlap so far and the annotation it came from. -/
structure Pick where
  m : EReal
  lab : EReal
  x1 : EReal
  y1 : EReal
  x2 : EReal
  y2 : EReal

/-- A float word's value. -/
abbrev word (b : BitVec 32) : EReal := Ideal.ofBits .f32 b

/-- Intersection over union of an anchor and an annotation. -/
def iou (g : Geo) (a : Ann) : EReal :=
  Ideal.div (max (min g.x2 a.x2 - max g.x1 a.x1) (word 0x00000000#32) * max (min g.y2 a.y2 - max g.y1 a.y1) (word 0x00000000#32))
    (max (g.w * g.h + a.area - max (min g.x2 a.x2 - max g.x1 a.x1) (word 0x00000000#32) * max (min g.y2 a.y2 - max g.y1 a.y1) (word 0x00000000#32)) (word 0x322BCC77#32))

/-- The same, minus one for an annotation that is not there, by arithmetic. -/
def score (g : Geo) (a : Ann) : EReal := iou g a * a.val + (a.val - word 0x3F800000#32)

/-- One annotation taken into the running maximum. -/
def step (g : Geo) (p : Pick) (a : Ann) : Pick where
  m := Scalar.select (Ideal.cmp .ogt (score g a) p.m) (score g a) p.m
  lab := Scalar.select (Ideal.cmp .ogt (score g a) p.m) a.lab p.lab
  x1 := Scalar.select (Ideal.cmp .ogt (score g a) p.m) a.x1 p.x1
  y1 := Scalar.select (Ideal.cmp .ogt (score g a) p.m) a.y1 p.y1
  x2 := Scalar.select (Ideal.cmp .ogt (score g a) p.m) a.x2 p.x2
  y2 := Scalar.select (Ideal.cmp .ogt (score g a) p.m) a.y2 p.y2

/-- The running maximum before any annotation. -/
def start : Pick := ⟨word 0xBF800000#32, word 0x00000000#32, word 0x00000000#32, word 0x00000000#32, word 0x00000000#32, word 0x00000000#32⟩

/-- The running maximum after `n` annotations. -/
def pick (g : Geo) (a : ℕ → Ann) : ℕ → Pick
  | 0 => start
  | n + 1 => step g (pick g a n) (a n)

end Cert.Loss

end
-- ==== Proof.BodyPick.lean ====
/- The kernel's body at one anchor: its twenty rounds of the running maximum are those of `Cert.Loss.pick`. -/
module

public import proofs.«01_k».proof.Proof.KernelIdealRunB
public import proofs.«01_k».proof.Proof.LossDefs
public import Idealize.ShloMosaic.Lib.WholeRead

@[expose] public section

noncomputable section

namespace Cert.KernelIdeal.Hand

open Cert.KernelIdeal Cert.KernelIdeal.Gen
open Idealize.ShloMosaic Idealize.ShloMosaic.TcCoe Idealize.ShloMosaic.Tactic

/-- The anchor at row `r`, lane `l` of a packed block: eight bands of 128 lanes. -/
def geoOf (x2 : S96x1024.Idx → EReal) (r : Fin 96) (l : Fin 128) : Cert.Loss.Geo where
  x1 := x2 (ix2 r ⟨0 + l.val, by omega⟩)
  y1 := x2 (ix2 r ⟨128 + l.val, by omega⟩)
  x2 := x2 (ix2 r ⟨256 + l.val, by omega⟩)
  y2 := x2 (ix2 r ⟨384 + l.val, by omega⟩)
  w := x2 (ix2 r ⟨512 + l.val, by omega⟩)
  h := x2 (ix2 r ⟨640 + l.val, by omega⟩)
  cx := x2 (ix2 r ⟨768 + l.val, by omega⟩)
  cy := x2 (ix2 r ⟨896 + l.val, by omega⟩)

/-- Annotation `j` of a packed table, one field a row. -/
def annOf (x3 : S1x8x20.Idx → EReal) (j : Fin 20) : Cert.Loss.Ann where
  x1 := x3 (ix3 0 0 j)
  y1 := x3 (ix3 0 1 j)
  x2 := x3 (ix3 0 2 j)
  y2 := x3 (ix3 0 3 j)
  lab := x3 (ix3 0 4 j)
  area := x3 (ix3 0 5 j)
  val := x3 (ix3 0 6 j)

/-- A word of the annotation table, loaded at its coordinates. -/
theorem annWord (arg5 : Memref sig .tc .smem S1x8x20 .f32) (harg5 : arg5.IsWhole) (x3 : Vec Ideal S1x8x20 .f32) (k j : ℕ) (hk : k < 8) (hj : j < 20)
    (h : ∀ a, (![0, k, j] : Fin 3 → ℕ) a + S1x1x1.size a ≤ S1x8x20.size a) (y : (Rect.unit (s := S1x8x20) ![0, k, j] S1x1x1.size h).toLoadRect.shape.Idx) :
    View.readAt (Elt Ideal) arg5.view (Rect.unit (s := S1x8x20) ![0, k, j] S1x1x1.size h).toLoadRect (harg5.unread x3) y = x3 (ix3 0 ⟨k, hk⟩ ⟨j, hj⟩) := by
  rw [Memref.IsWhole.readAt_unread]
  refine congrArg x3 (funext fun a => Fin.ext ?_)
  match a with
  | ⟨0, _⟩ => show 0 + 1 * (y 0).val = 0; have : (y 0).val < 1 := (y 0).isLt; omega
  | ⟨1, _⟩ => show k + 1 * (y 1).val = k; have : (y 1).val < 1 := (y 1).isLt; omega
  | ⟨2, _⟩ => show j + 1 * (y 2).val = j; have : (y 2).val < 1 := (y 2).isLt; omega

/-- A vector chosen where one is greater than another, at an index. -/
theorem roundAt (a p x q : FVec Ideal S96x128 .f32) (i : S96x128.Idx) : select (cmpf .ogt a p) x q i = Scalar.select (Ideal.cmp .ogt (a i) (p i)) (x i) (q i) := rfl

/-- The same with one number for the chosen vector. -/
theorem roundAtWord (a p q : FVec Ideal S96x128 .f32) (x : EReal) (i : S96x128.Idx) : select (cmpf .ogt a p) (broadcast S96x128 x) q i = Scalar.select (Ideal.cmp .ogt (a i) (p i)) x (q i) := rfl

variable (c : Dev nD) (arg4 : Memref sig .tc .vmem S96x1024 .f32) (harg4 : arg4.IsWhole) (arg5 : Memref sig .tc .smem S1x8x20 .f32) (harg5 : arg5.IsWhole) (x2 : Vec Ideal S96x1024 .f32) (x3 : Vec Ideal S1x8x20 .f32) (r : Fin 96) (l : Fin 128)

/-- The anchor block as the body loads it. -/
theorem v1_eq (p : Fin 96) (q : Fin 1024) : kernelRun0_B.sl.v1 c arg4 harg4 x2 (ix2 p q) = x2 (ix2 p q) := by
  unfold kernelRun0_B.sl.v1
  rw [shapeCast_apply _ _ (ix2 p q) (ix2 p q) rfl, Memref.IsWhole.readAt_unread]
  refine congrArg x2 (funext fun a => Fin.ext ?_)
  match a with
  | ⟨0, _⟩ => show 0 + 1 * p.val = p.val; omega
  | ⟨1, _⟩ => show 0 + 1 * q.val = q.val; omega

theorem v2_eq : kernelRun0_B.sl.v2 c arg4 harg4 x2 (ix2 r l) = (geoOf x2 r l).x1 := by
  unfold kernelRun0_B.sl.v2
  rw [extractStridedSlice_apply _ _ _ (ix2 r l) (ix2 r ⟨0 + l.val, by omega⟩) (fun a => match a with
    | ⟨0, _⟩ => by show r.val = 0 + r.val; omega
    | ⟨1, _⟩ => rfl), v1_eq]
  rfl

theorem v3_eq : kernelRun0_B.sl.v3 c arg4 harg4 x2 (ix2 r l) = (geoOf x2 r l).y1 := by
  unfold kernelRun0_B.sl.v3
  rw [extractStridedSlice_apply _ _ _ (ix2 r l) (ix2 r ⟨128 + l.val, by omega⟩) (fun a => match a with
    | ⟨0, _⟩ => by show r.val = 0 + r.val; omega
    | ⟨1, _⟩ => rfl), v1_eq]
  rfl

theorem v4_eq : kernelRun0_B.sl.v4 c arg4 harg4 x2 (ix2 r l) = (geoOf x2 r l).x2 := by
  unfold kernelRun0_B.sl.v4
  rw [extractStridedSlice_apply _ _ _ (ix2 r l) (ix2 r ⟨256 + l.val, by omega⟩) (fun a => match a with
    | ⟨0, _⟩ => by show r.val = 0 + r.val; omega
    | ⟨1, _⟩ => rfl), v1_eq]
  rfl

theorem v5_eq : kernelRun0_B.sl.v5 c arg4 harg4 x2 (ix2 r l) = (geoOf x2 r l).y2 := by
  unfold kernelRun0_B.sl.v5
  rw [extractStridedSlice_apply _ _ _ (ix2 r l) (ix2 r ⟨384 + l.val, by omega⟩) (fun a => match a with
    | ⟨0, _⟩ => by show r.val = 0 + r.val; omega
    | ⟨1, _⟩ => rfl), v1_eq]
  rfl

theorem v6_eq : kernelRun0_B.sl.v6 c arg4 harg4 x2 (ix2 r l) = (geoOf x2 r l).w := by
  unfold kernelRun0_B.sl.v6
  rw [extractStridedSlice_apply _ _ _ (ix2 r l) (ix2 r ⟨512 + l.val, by omega⟩) (fun a => match a with
    | ⟨0, _⟩ => by show r.val = 0 + r.val; omega
    | ⟨1, _⟩ => rfl), v1_eq]
  rfl

theorem v7_eq : kernelRun0_B.sl.v7 c arg4 harg4 x2 (ix2 r l) = (geoOf x2 r l).h := by
  unfold kernelRun0_B.sl.v7
  rw [extractStridedSlice_apply _ _ _ (ix2 r l) (ix2 r ⟨640 + l.val, by omega⟩) (fun a => match a with
    | ⟨0, _⟩ => by show r.val = 0 + r.val; omega
    | ⟨1, _⟩ => rfl), v1_eq]
  rfl

theorem v8_eq : kernelRun0_B.sl.v8 c arg4 harg4 x2 (ix2 r l) = (geoOf x2 r l).cx := by
  unfold kernelRun0_B.sl.v8
  rw [extractStridedSlice_apply _ _ _ (ix2 r l) (ix2 r ⟨768 + l.val, by omega⟩) (fun a => match a with
    | ⟨0, _⟩ => by show r.val = 0 + r.val; omega
    | ⟨1, _⟩ => rfl), v1_eq]
  rfl

theorem v9_eq : kernelRun0_B.sl.v9 c arg4 harg4 x2 (ix2 r l) = (geoOf x2 r l).cy := by
  unfold kernelRun0_B.sl.v9
  rw [extractStridedSlice_apply _ _ _ (ix2 r l) (ix2 r ⟨896 + l.val, by omega⟩) (fun a => match a with
    | ⟨0, _⟩ => by show r.val = 0 + r.val; omega
    | ⟨1, _⟩ => rfl), v1_eq]
  rfl

/-- The anchor at row `r`, lane `l`, from the vectors the body slices. -/
def geoB : Cert.Loss.Geo := ⟨kernelRun0_B.sl.v2 c arg4 harg4 x2 (ix2 r l), kernelRun0_B.sl.v3 c arg4 harg4 x2 (ix2 r l), kernelRun0_B.sl.v4 c arg4 harg4 x2 (ix2 r l), kernelRun0_B.sl.v5 c arg4 harg4 x2 (ix2 r l), kernelRun0_B.sl.v6 c arg4 harg4 x2 (ix2 r l), kernelRun0_B.sl.v7 c arg4 harg4 x2 (ix2 r l), kernelRun0_B.sl.v8 c arg4 harg4 x2 (ix2 r l), kernelRun0_B.sl.v9 c arg4 harg4 x2 (ix2 r l)⟩

theorem geoB_eq : geoB c arg4 harg4 x2 r l = geoOf x2 r l := by
  unfold geoB
  rw [v2_eq, v3_eq, v4_eq, v5_eq, v6_eq, v7_eq, v8_eq, v9_eq]

theorem ann_0 : (⟨kernelRun0_B.sl.r c arg5 harg5 x3, kernelRun0_B.sl.r_1 c arg5 harg5 x3, kernelRun0_B.sl.r_2 c arg5 harg5 x3, kernelRun0_B.sl.r_3 c arg5 harg5 x3, kernelRun0_B.sl.r_4 c arg5 harg5 x3, kernelRun0_B.sl.r_5 c arg5 harg5 x3, kernelRun0_B.sl.r_6 c arg5 harg5 x3⟩ : Cert.Loss.Ann) = annOf x3 0 := by
  unfold kernelRun0_B.sl.r kernelRun0_B.sl.r_1 kernelRun0_B.sl.r_2 kernelRun0_B.sl.r_3 kernelRun0_B.sl.r_4 kernelRun0_B.sl.r_5 kernelRun0_B.sl.r_6
  rw [annWord arg5 harg5 x3 0 0 (by decide) (by decide), annWord arg5 harg5 x3 1 0 (by decide) (by decide), annWord arg5 harg5 x3 2 0 (by decide) (by decide), annWord arg5 harg5 x3 3 0 (by decide) (by decide), annWord arg5 harg5 x3 4 0 (by decide) (by decide), annWord arg5 harg5 x3 5 0 (by decide) (by decide), annWord arg5 harg5 x3 6 0 (by decide) (by decide)]
  rfl

theorem score_0 : kernelRun0_B.sl.v49 c arg4 harg4 arg5 harg5 x2 x3 (ix2 r l) = Cert.Loss.score (geoB c arg4 harg4 x2 r l) ⟨kernelRun0_B.sl.r c arg5 harg5 x3, kernelRun0_B.sl.r_1 c arg5 harg5 x3, kernelRun0_B.sl.r_2 c arg5 harg5 x3, kernelRun0_B.sl.r_3 c arg5 harg5 x3, kernelRun0_B.sl.r_4 c arg5 harg5 x3, kernelRun0_B.sl.r_5 c arg5 harg5 x3, kernelRun0_B.sl.r_6 c arg5 harg5 x3⟩ := by
  exact (rfl)

theorem round_0 : (⟨kernelRun0_B.sl.v51 c arg4 harg4 arg5 harg5 x2 x3 (ix2 r l), kernelRun0_B.sl.v53 c arg4 harg4 arg5 harg5 x2 x3 (ix2 r l), kernelRun0_B.sl.v55 c arg4 harg4 arg5 harg5 x2 x3 (ix2 r l), kernelRun0_B.sl.v57 c arg4 harg4 arg5 harg5 x2 x3 (ix2 r l), kernelRun0_B.sl.v59 c arg4 harg4 arg5 harg5 x2 x3 (ix2 r l), kernelRun0_B.sl.v61 c arg4 harg4 arg5 harg5 x2 x3 (ix2 r l)⟩ : Cert.Loss.Pick) = Cert.Loss.step (geoB c arg4 harg4 x2 r l) Cert.Loss.start ⟨kernelRun0_B.sl.r c arg5 harg5 x3, kernelRun0_B.sl.r_1 c arg5 harg5 x3, kernelRun0_B.sl.r_2 c arg5 harg5 x3, kernelRun0_B.sl.r_3 c arg5 harg5 x3, kernelRun0_B.sl.r_4 c arg5 harg5 x3, kernelRun0_B.sl.r_5 c arg5 harg5 x3, kernelRun0_B.sl.r_6 c arg5 harg5 x3⟩ := by
  unfold Cert.Loss.step
  rw [← score_0]
  delta kernelRun0_B.sl.v51 kernelRun0_B.sl.v53 kernelRun0_B.sl.v55 kernelRun0_B.sl.v57 kernelRun0_B.sl.v59 kernelRun0_B.sl.v61 kernelRun0_B.sl.v50 kernelRun0_B.sl.v52 kernelRun0_B.sl.v26 kernelRun0_B.sl.v33 kernelRun0_B.sl.v24 kernelRun0_B.sl.v31
  simp only [roundAt, roundAtWord]
  rfl

theorem ann_1 : (⟨kernelRun0_B.sl.r_7 c arg5 harg5 x3, kernelRun0_B.sl.r_8 c arg5 harg5 x3, kernelRun0_B.sl.r_9 c arg5 harg5 x3, kernelRun0_B.sl.r_10 c arg5 harg5 x3, kernelRun0_B.sl.r_11 c arg5 harg5 x3, kernelRun0_B.sl.r_12 c arg5 harg5 x3, kernelRun0_B.sl.r_13 c arg5 harg5 x3⟩ : Cert.Loss.Ann) = annOf x3 1 := by
  unfold kernelRun0_B.sl.r_7 kernelRun0_B.sl.r_8 kernelRun0_B.sl.r_9 kernelRun0_B.sl.r_10 kernelRun0_B.sl.r_11 kernelRun0_B.sl.r_12 kernelRun0_B.sl.r_13
  rw [annWord arg5 harg5 x3 0 1 (by decide) (by decide), annWord arg5 harg5 x3 1 1 (by decide) (by decide), annWord arg5 harg5 x3 2 1 (by decide) (by decide), annWord arg5 harg5 x3 3 1 (by decide) (by decide), annWord arg5 harg5 x3 4 1 (by decide) (by decide), annWord arg5 harg5 x3 5 1 (by decide) (by decide), annWord arg5 harg5 x3 6 1 (by decide) (by decide)]
  rfl

theorem score_1 : kernelRun0_B.sl.v94 c arg4 harg4 arg5 harg5 x2 x3 (ix2 r l) = Cert.Loss.score (geoB c arg4 harg4 x2 r l) ⟨kernelRun0_B.sl.r_7 c arg5 harg5 x3, kernelRun0_B.sl.r_8 c arg5 harg5 x3, kernelRun0_B.sl.r_9 c arg5 harg5 x3, kernelRun0_B.sl.r_10 c arg5 harg5 x3, kernelRun0_B.sl.r_11 c arg5 harg5 x3, kernelRun0_B.sl.r_12 c arg5 harg5 x3, kernelRun0_B.sl.r_13 c arg5 harg5 x3⟩ := by
  exact (rfl)

theorem round_1 : (⟨kernelRun0_B.sl.v96 c arg4 harg4 arg5 harg5 x2 x3 (ix2 r l), kernelRun0_B.sl.v98 c arg4 harg4 arg5 harg5 x2 x3 (ix2 r l), kernelRun0_B.sl.v100 c arg4 harg4 arg5 harg5 x2 x3 (ix2 r l), kernelRun0_B.sl.v102 c arg4 harg4 arg5 harg5 x2 x3 (ix2 r l), kernelRun0_B.sl.v104 c arg4 harg4 arg5 harg5 x2 x3 (ix2 r l), kernelRun0_B.sl.v106 c arg4 harg4 arg5 harg5 x2 x3 (ix2 r l)⟩ : Cert.Loss.Pick) = Cert.Loss.step (geoB c arg4 harg4 x2 r l) ⟨kernelRun0_B.sl.v51 c arg4 harg4 arg5 harg5 x2 x3 (ix2 r l), kernelRun0_B.sl.v53 c arg4 harg4 arg5 harg5 x2 x3 (ix2 r l), kernelRun0_B.sl.v55 c arg4 harg4 arg5 harg5 x2 x3 (ix2 r l), kernelRun0_B.sl.v57 c arg4 harg4 arg5 harg5 x2 x3 (ix2 r l), kernelRun0_B.sl.v59 c arg4 harg4 arg5 harg5 x2 x3 (ix2 r l), kernelRun0_B.sl.v61 c arg4 harg4 arg5 harg5 x2 x3 (ix2 r l)⟩ ⟨kernelRun0_B.sl.r_7 c arg5 harg5 x3, kernelRun0_B.sl.r_8 c arg5 harg5 x3, kernelRun0_B.sl.r_9 c arg5 harg5 x3, kernelRun0_B.sl.r_10 c arg5 harg5 x3, kernelRun0_B.sl.r_11 c arg5 harg5 x3, kernelRun0_B.sl.r_12 c arg5 harg5 x3, kernelRun0_B.sl.r_13 c arg5 harg5 x3⟩ := by
  unfold Cert.Loss.step
  rw [← score_1]
  delta kernelRun0_B.sl.v96 kernelRun0_B.sl.v98 kernelRun0_B.sl.v100 kernelRun0_B.sl.v102 kernelRun0_B.sl.v104 kernelRun0_B.sl.v106 kernelRun0_B.sl.v95 kernelRun0_B.sl.v97 kernelRun0_B.sl.v71 kernelRun0_B.sl.v78 kernelRun0_B.sl.v69 kernelRun0_B.sl.v76
  simp only [roundAt, roundAtWord]
  rfl

theorem ann_2 : (⟨kernelRun0_B.sl.r_14 c arg5 harg5 x3, kernelRun0_B.sl.r_15 c arg5 harg5 x3, kernelRun0_B.sl.r_16 c arg5 harg5 x3, kernelRun0_B.sl.r_17 c arg5 harg5 x3, kernelRun0_B.sl.r_18 c arg5 harg5 x3, kernelRun0_B.sl.r_19 c arg5 harg5 x3, kernelRun0_B.sl.r_20 c arg5 harg5 x3⟩ : Cert.Loss.Ann) = annOf x3 2 := by
  unfold kernelRun0_B.sl.r_14 kernelRun0_B.sl.r_15 kernelRun0_B.sl.r_16 kernelRun0_B.sl.r_17 kernelRun0_B.sl.r_18 kernelRun0_B.sl.r_19 kernelRun0_B.sl.r_20
  rw [annWord arg5 harg5 x3 0 2 (by decide) (by decide), annWord arg5 harg5 x3 1 2 (by decide) (by decide), annWord arg5 harg5 x3 2 2 (by decide) (by decide), annWord arg5 harg5 x3 3 2 (by decide) (by decide), annWord arg5 harg5 x3 4 2 (by decide) (by decide), annWord arg5 harg5 x3 5 2 (by decide) (by decide), annWord arg5 harg5 x3 6 2 (by decide) (by decide)]
  rfl

theorem score_2 : kernelRun0_B.sl.v139 c arg4 harg4 arg5 harg5 x2 x3 (ix2 r l) = Cert.Loss.score (geoB c arg4 harg4 x2 r l) ⟨kernelRun0_B.sl.r_14 c arg5 harg5 x3, kernelRun0_B.sl.r_15 c arg5 harg5 x3, kernelRun0_B.sl.r_16 c arg5 harg5 x3, kernelRun0_B.sl.r_17 c arg5 harg5 x3, kernelRun0_B.sl.r_18 c arg5 harg5 x3, kernelRun0_B.sl.r_19 c arg5 harg5 x3, kernelRun0_B.sl.r_20 c arg5 harg5 x3⟩ := by
  exact (rfl)

theorem round_2 : (⟨kernelRun0_B.sl.v141 c arg4 harg4 arg5 harg5 x2 x3 (ix2 r l), kernelRun0_B.sl.v143 c arg4 harg4 arg5 harg5 x2 x3 (ix2 r l), kernelRun0_B.sl.v145 c arg4 harg4 arg5 harg5 x2 x3 (ix2 r l), kernelRun0_B.sl.v147 c arg4 harg4 arg5 harg5 x2 x3 (ix2 r l), kernelRun0_B.sl.v149 c arg4 harg4 arg5 harg5 x2 x3 (ix2 r l), kernelRun0_B.sl.v151 c arg4 harg4 arg5 harg5 x2 x3 (ix2 r l)⟩ : Cert.Loss.Pick) = Cert.Loss.step (geoB c arg4 harg4 x2 r l) ⟨kernelRun0_B.sl.v96 c arg4 harg4 arg5 harg5 x2 x3 (ix2 r l), kernelRun0_B.sl.v98 c arg4 harg4 arg5 harg5 x2 x3 (ix2 r l), kernelRun0_B.sl.v100 c arg4 harg4 arg5 harg5 x2 x3 (ix2 r l), kernelRun0_B.sl.v102 c arg4 harg4 arg5 harg5 x2 x3 (ix2 r l), kernelRun0_B.sl.v104 c arg4 harg4 arg5 harg5 x2 x3 (ix2 r l), kernelRun0_B.sl.v106 c arg4 harg4 arg5 harg5 x2 x3 (ix2 r l)⟩ ⟨kernelRun0_B.sl.r_14 c arg5 harg5 x3, kernelRun0_B.sl.r_15 c arg5 harg5 x3, kernelRun0_B.sl.r_16 c arg5 harg5 x3, kernelRun0_B.sl.r_17 c arg5 harg5 x3, kernelRun0_B.sl.r_18 c arg5 harg5 x3, kernelRun0_B.sl.r_19 c arg5 harg5 x3, kernelRun0_B.sl.r_20 c arg5 harg5 x3⟩ := by
  unfold Cert.Loss.step
  rw [← score_2]
  delta kernelRun0_B.sl.v141 kernelRun0_B.sl.v143 kernelRun0_B.sl.v145 kernelRun0_B.sl.v147 kernelRun0_B.sl.v149 kernelRun0_B.sl.v151 kernelRun0_B.sl.v140 kernelRun0_B.sl.v142 kernelRun0_B.sl.v116 kernelRun0_B.sl.v123 kernelRun0_B.sl.v114 kernelRun0_B.sl.v121
  simp only [roundAt, roundAtWord]
  rfl

theorem ann_3 : (⟨kernelRun0_B.sl.r_21 c arg5 harg5 x3, kernelRun0_B.sl.r_22 c arg5 harg5 x3, kernelRun0_B.sl.r_23 c arg5 harg5 x3, kernelRun0_B.sl.r_24 c arg5 harg5 x3, kernelRun0_B.sl.r_25 c arg5 harg5 x3, kernelRun0_B.sl.r_26 c arg5 harg5 x3, kernelRun0_B.sl.r_27 c arg5 harg5 x3⟩ : Cert.Loss.Ann) = annOf x3 3 := by
  unfold kernelRun0_B.sl.r_21 kernelRun0_B.sl.r_22 kernelRun0_B.sl.r_23 kernelRun0_B.sl.r_24 kernelRun0_B.sl.r_25 kernelRun0_B.sl.r_26 kernelRun0_B.sl.r_27
  rw [annWord arg5 harg5 x3 0 3 (by decide) (by decide), annWord arg5 harg5 x3 1 3 (by decide) (by decide), annWord arg5 harg5 x3 2 3 (by decide) (by decide), annWord arg5 harg5 x3 3 3 (by decide) (by decide), annWord arg5 harg5 x3 4 3 (by decide) (by decide), annWord arg5 harg5 x3 5 3 (by decide) (by decide), annWord arg5 harg5 x3 6 3 (by decide) (by decide)]
  rfl

theorem score_3 : kernelRun0_B.sl.v184 c arg4 harg4 arg5 harg5 x2 x3 (ix2 r l) = Cert.Loss.score (geoB c arg4 harg4 x2 r l) ⟨kernelRun0_B.sl.r_21 c arg5 harg5 x3, kernelRun0_B.sl.r_22 c arg5 harg5 x3, kernelRun0_B.sl.r_23 c arg5 harg5 x3, kernelRun0_B.sl.r_24 c arg5 harg5 x3, kernelRun0_B.sl.r_25 c arg5 harg5 x3, kernelRun0_B.sl.r_26 c arg5 harg5 x3, kernelRun0_B.sl.r_27 c arg5 harg5 x3⟩ := by
  exact (rfl)

theorem round_3 : (⟨kernelRun0_B.sl.v186 c arg4 harg4 arg5 harg5 x2 x3 (ix2 r l), kernelRun0_B.sl.v188 c arg4 harg4 arg5 harg5 x2 x3 (ix2 r l), kernelRun0_B.sl.v190 c arg4 harg4 arg5 harg5 x2 x3 (ix2 r l), kernelRun0_B.sl.v192 c arg4 harg4 arg5 harg5 x2 x3 (ix2 r l), kernelRun0_B.sl.v194 c arg4 harg4 arg5 harg5 x2 x3 (ix2 r l), kernelRun0_B.sl.v196 c arg4 harg4 arg5 harg5 x2 x3 (ix2 r l)⟩ : Cert.Loss.Pick) = Cert.Loss.step (geoB c arg4 harg4 x2 r l) ⟨kernelRun0_B.sl.v141 c arg4 harg4 arg5 harg5 x2 x3 (ix2 r l), kernelRun0_B.sl.v143 c arg4 harg4 arg5 harg5 x2 x3 (ix2 r l), kernelRun0_B.sl.v145 c arg4 harg4 arg5 harg5 x2 x3 (ix2 r l), kernelRun0_B.sl.v147 c arg4 harg4 arg5 harg5 x2 x3 (ix2 r l), kernelRun0_B.sl.v149 c arg4 harg4 arg5 harg5 x2 x3 (ix2 r l), kernelRun0_B.sl.v151 c arg4 harg4 arg5 harg5 x2 x3 (ix2 r l)⟩ ⟨kernelRun0_B.sl.r_21 c arg5 harg5 x3, kernelRun0_B.sl.r_22 c arg5 harg5 x3, kernelRun0_B.sl.r_23 c arg5 harg5 x3, kernelRun0_B.sl.r_24 c arg5 harg5 x3, kernelRun0_B.sl.r_25 c arg5 harg5 x3, kernelRun0_B.sl.r_26 c arg5 harg5 x3, kernelRun0_B.sl.r_27 c arg5 harg5 x3⟩ := by
  unfold Cert.Loss.step
  rw [← score_3]
  delta kernelRun0_B.sl.v186 kernelRun0_B.sl.v188 kernelRun0_B.sl.v190 kernelRun0_B.sl.v192 kernelRun0_B.sl.v194 kernelRun0_B.sl.v196 kernelRun0_B.sl.v185 kernelRun0_B.sl.v187 kernelRun0_B.sl.v161 kernelRun0_B.sl.v168 kernelRun0_B.sl.v159 kernelRun0_B.sl.v166
  simp only [roundAt, roundAtWord]
  rfl

theorem ann_4 : (⟨kernelRun0_B.sl.r_28 c arg5 harg5 x3, kernelRun0_B.sl.r_29 c arg5 harg5 x3, kernelRun0_B.sl.r_30 c arg5 harg5 x3, kernelRun0_B.sl.r_31 c arg5 harg5 x3, kernelRun0_B.sl.r_32 c arg5 harg5 x3, kernelRun0_B.sl.r_33 c arg5 harg5 x3, kernelRun0_B.sl.r_34 c arg5 harg5 x3⟩ : Cert.Loss.Ann) = annOf x3 4 := by
  unfold kernelRun0_B.sl.r_28 kernelRun0_B.sl.r_29 kernelRun0_B.sl.r_30 kernelRun0_B.sl.r_31 kernelRun0_B.sl.r_32 kernelRun0_B.sl.r_33 kernelRun0_B.sl.r_34
  rw [annWord arg5 harg5 x3 0 4 (by decide) (by decide), annWord arg5 harg5 x3 1 4 (by decide) (by decide), annWord arg5 harg5 x3 2 4 (by decide) (by decide), annWord arg5 harg5 x3 3 4 (by decide) (by decide), annWord arg5 harg5 x3 4 4 (by decide) (by decide), annWord arg5 harg5 x3 5 4 (by decide) (by decide), annWord arg5 harg5 x3 6 4 (by decide) (by decide)]
  rfl

theorem score_4 : kernelRun0_B.sl.v229 c arg4 harg4 arg5 harg5 x2 x3 (ix2 r l) = Cert.Loss.score (geoB c arg4 harg4 x2 r l) ⟨kernelRun0_B.sl.r_28 c arg5 harg5 x3, kernelRun0_B.sl.r_29 c arg5 harg5 x3, kernelRun0_B.sl.r_30 c arg5 harg5 x3, kernelRun0_B.sl.r_31 c arg5 harg5 x3, kernelRun0_B.sl.r_32 c arg5 harg5 x3, kernelRun0_B.sl.r_33 c arg5 harg5 x3, kernelRun0_B.sl.r_34 c arg5 harg5 x3⟩ := by
  exact (rfl)

theorem round_4 : (⟨kernelRun0_B.sl.v231 c arg4 harg4 arg5 harg5 x2 x3 (ix2 r l), kernelRun0_B.sl.v233 c arg4 harg4 arg5 harg5 x2 x3 (ix2 r l), kernelRun0_B.sl.v235 c arg4 harg4 arg5 harg5 x2 x3 (ix2 r l), kernelRun0_B.sl.v237 c arg4 harg4 arg5 harg5 x2 x3 (ix2 r l), kernelRun0_B.sl.v239 c arg4 harg4 arg5 harg5 x2 x3 (ix2 r l), kernelRun0_B.sl.v241 c arg4 harg4 arg5 harg5 x2 x3 (ix2 r l)⟩ : Cert.Loss.Pick) = Cert.Loss.step (geoB c arg4 harg4 x2 r l) ⟨kernelRun0_B.sl.v186 c arg4 harg4 arg5 harg5 x2 x3 (ix2 r l), kernelRun0_B.sl.v188 c arg4 harg4 arg5 harg5 x2 x3 (ix2 r l), kernelRun0_B.sl.v190 c arg4 harg4 arg5 harg5 x2 x3 (ix2 r l), kernelRun0_B.sl.v192 c arg4 harg4 arg5 harg5 x2 x3 (ix2 r l), kernelRun0_B.sl.v194 c arg4 harg4 arg5 harg5 x2 x3 (ix2 r l), kernelRun0_B.sl.v196 c arg4 harg4 arg5 harg5 x2 x3 (ix2 r l)⟩ ⟨kernelRun0_B.sl.r_28 c arg5 harg5 x3, kernelRun0_B.sl.r_29 c arg5 harg5 x3, kernelRun0_B.sl.r_30 c arg5 harg5 x3, kernelRun0_B.sl.r_31 c arg5 harg5 x3, kernelRun0_B.sl.r_32 c arg5 harg5 x3, kernelRun0_B.sl.r_33 c arg5 harg5 x3, kernelRun0_B.sl.r_34 c arg5 harg5 x3⟩ := by
  unfold Cert.Loss.step
  rw [← score_4]
  delta kernelRun0_B.sl.v231 kernelRun0_B.sl.v233 kernelRun0_B.sl.v235 kernelRun0_B.sl.v237 kernelRun0_B.sl.v239 kernelRun0_B.sl.v241 kernelRun0_B.sl.v230 kernelRun0_B.sl.v232 kernelRun0_B.sl.v206 kernelRun0_B.sl.v213 kernelRun0_B.sl.v204 kernelRun0_B.sl.v211
  simp only [roundAt, roundAtWord]
  rfl

theorem ann_5 : (⟨kernelRun0_B.sl.r_35 c arg5 harg5 x3, kernelRun0_B.sl.r_36 c arg5 harg5 x3, kernelRun0_B.sl.r_37 c arg5 harg5 x3, kernelRun0_B.sl.r_38 c arg5 harg5 x3, kernelRun0_B.sl.r_39 c arg5 harg5 x3, kernelRun0_B.sl.r_40 c arg5 harg5 x3, kernelRun0_B.sl.r_41 c arg5 harg5 x3⟩ : Cert.Loss.Ann) = annOf x3 5 := by
  unfold kernelRun0_B.sl.r_35 kernelRun0_B.sl.r_36 kernelRun0_B.sl.r_37 kernelRun0_B.sl.r_38 kernelRun0_B.sl.r_39 kernelRun0_B.sl.r_40 kernelRun0_B.sl.r_41
  rw [annWord arg5 harg5 x3 0 5 (by decide) (by decide), annWord arg5 harg5 x3 1 5 (by decide) (by decide), annWord arg5 harg5 x3 2 5 (by decide) (by decide), annWord arg5 harg5 x3 3 5 (by decide) (by decide), annWord arg5 harg5 x3 4 5 (by decide) (by decide), annWord arg5 harg5 x3 5 5 (by decide) (by decide), annWord arg5 harg5 x3 6 5 (by decide) (by decide)]
  rfl

theorem score_5 : kernelRun0_B.sl.v274 c arg4 harg4 arg5 harg5 x2 x3 (ix2 r l) = Cert.Loss.score (geoB c arg4 harg4 x2 r l) ⟨kernelRun0_B.sl.r_35 c arg5 harg5 x3, kernelRun0_B.sl.r_36 c arg5 harg5 x3, kernelRun0_B.sl.r_37 c arg5 harg5 x3, kernelRun0_B.sl.r_38 c arg5 harg5 x3, kernelRun0_B.sl.r_39 c arg5 harg5 x3, kernelRun0_B.sl.r_40 c arg5 harg5 x3, kernelRun0_B.sl.r_41 c arg5 harg5 x3⟩ := by
  exact (rfl)

theorem round_5 : (⟨kernelRun0_B.sl.v276 c arg4 harg4 arg5 harg5 x2 x3 (ix2 r l), kernelRun0_B.sl.v278 c arg4 harg4 arg5 harg5 x2 x3 (ix2 r l), kernelRun0_B.sl.v280 c arg4 harg4 arg5 harg5 x2 x3 (ix2 r l), kernelRun0_B.sl.v282 c arg4 harg4 arg5 harg5 x2 x3 (ix2 r l), kernelRun0_B.sl.v284 c arg4 harg4 arg5 harg5 x2 x3 (ix2 r l), kernelRun0_B.sl.v286 c arg4 harg4 arg5 harg5 x2 x3 (ix2 r l)⟩ : Cert.Loss.Pick) = Cert.Loss.step (geoB c arg4 harg4 x2 r l) ⟨kernelRun0_B.sl.v231 c arg4 harg4 arg5 harg5 x2 x3 (ix2 r l), kernelRun0_B.sl.v233 c arg4 harg4 arg5 harg5 x2 x3 (ix2 r l), kernelRun0_B.sl.v235 c arg4 harg4 arg5 harg5 x2 x3 (ix2 r l), kernelRun0_B.sl.v237 c arg4 harg4 arg5 harg5 x2 x3 (ix2 r l), kernelRun0_B.sl.v239 c arg4 harg4 arg5 harg5 x2 x3 (ix2 r l), kernelRun0_B.sl.v241 c arg4 harg4 arg5 harg5 x2 x3 (ix2 r l)⟩ ⟨kernelRun0_B.sl.r_35 c arg5 harg5 x3, kernelRun0_B.sl.r_36 c arg5 harg5 x3, kernelRun0_B.sl.r_37 c arg5 harg5 x3, kernelRun0_B.sl.r_38 c arg5 harg5 x3, kernelRun0_B.sl.r_39 c arg5 harg5 x3, kernelRun0_B.sl.r_40 c arg5 harg5 x3, kernelRun0_B.sl.r_41 c arg5 harg5 x3⟩ := by
  unfold Cert.Loss.step
  rw [← score_5]
  delta kernelRun0_B.sl.v276 kernelRun0_B.sl.v278 kernelRun0_B.sl.v280 kernelRun0_B.sl.v282 kernelRun0_B.sl.v284 kernelRun0_B.sl.v286 kernelRun0_B.sl.v275 kernelRun0_B.sl.v277 kernelRun0_B.sl.v251 kernelRun0_B.sl.v258 kernelRun0_B.sl.v249 kernelRun0_B.sl.v256
  simp only [roundAt, roundAtWord]
  rfl

theorem ann_6 : (⟨kernelRun0_B.sl.r_42 c arg5 harg5 x3, kernelRun0_B.sl.r_43 c arg5 harg5 x3, kernelRun0_B.sl.r_44 c arg5 harg5 x3, kernelRun0_B.sl.r_45 c arg5 harg5 x3, kernelRun0_B.sl.r_46 c arg5 harg5 x3, kernelRun0_B.sl.r_47 c arg5 harg5 x3, kernelRun0_B.sl.r_48 c arg5 harg5 x3⟩ : Cert.Loss.Ann) = annOf x3 6 := by
  unfold kernelRun0_B.sl.r_42 kernelRun0_B.sl.r_43 kernelRun0_B.sl.r_44 kernelRun0_B.sl.r_45 kernelRun0_B.sl.r_46 kernelRun0_B.sl.r_47 kernelRun0_B.sl.r_48
  rw [annWord arg5 harg5 x3 0 6 (by decide) (by decide), annWord arg5 harg5 x3 1 6 (by decide) (by decide), annWord arg5 harg5 x3 2 6 (by decide) (by decide), annWord arg5 harg5 x3 3 6 (by decide) (by decide), annWord arg5 harg5 x3 4 6 (by decide) (by decide), annWord arg5 harg5 x3 5 6 (by decide) (by decide), annWord arg5 harg5 x3 6 6 (by decide) (by decide)]
  rfl

theorem score_6 : kernelRun0_B.sl.v319 c arg4 harg4 arg5 harg5 x2 x3 (ix2 r l) = Cert.Loss.score (geoB c arg4 harg4 x2 r l) ⟨kernelRun0_B.sl.r_42 c arg5 harg5 x3, kernelRun0_B.sl.r_43 c arg5 harg5 x3, kernelRun0_B.sl.r_44 c arg5 harg5 x3, kernelRun0_B.sl.r_45 c arg5 harg5 x3, kernelRun0_B.sl.r_46 c arg5 harg5 x3, kernelRun0_B.sl.r_47 c arg5 harg5 x3, kernelRun0_B.sl.r_48 c arg5 harg5 x3⟩ := by
  exact (rfl)

theorem round_6 : (⟨kernelRun0_B.sl.v321 c arg4 harg4 arg5 harg5 x2 x3 (ix2 r l), kernelRun0_B.sl.v323 c arg4 harg4 arg5 harg5 x2 x3 (ix2 r l), kernelRun0_B.sl.v325 c arg4 harg4 arg5 harg5 x2 x3 (ix2 r l), kernelRun0_B.sl.v327 c arg4 harg4 arg5 harg5 x2 x3 (ix2 r l), kernelRun0_B.sl.v329 c arg4 harg4 arg5 harg5 x2 x3 (ix2 r l), kernelRun0_B.sl.v331 c arg4 harg4 arg5 harg5 x2 x3 (ix2 r l)⟩ : Cert.Loss.Pick) = Cert.Loss.step (geoB c arg4 harg4 x2 r l) ⟨kernelRun0_B.sl.v276 c arg4 harg4 arg5 harg5 x2 x3 (ix2 r l), kernelRun0_B.sl.v278 c arg4 harg4 arg5 harg5 x2 x3 (ix2 r l), kernelRun0_B.sl.v280 c arg4 harg4 arg5 harg5 x2 x3 (ix2 r l), kernelRun0_B.sl.v282 c arg4 harg4 arg5 harg5 x2 x3 (ix2 r l), kernelRun0_B.sl.v284 c arg4 harg4 arg5 harg5 x2 x3 (ix2 r l), kernelRun0_B.sl.v286 c arg4 harg4 arg5 harg5 x2 x3 (ix2 r l)⟩ ⟨kernelRun0_B.sl.r_42 c arg5 harg5 x3, kernelRun0_B.sl.r_43 c arg5 harg5 x3, kernelRun0_B.sl.r_44 c arg5 harg5 x3, kernelRun0_B.sl.r_45 c arg5 harg5 x3, kernelRun0_B.sl.r_46 c arg5 harg5 x3, kernelRun0_B.sl.r_47 c arg5 harg5 x3, kernelRun0_B.sl.r_48 c arg5 harg5 x3⟩ := by
  unfold Cert.Loss.step
  rw [← score_6]
  delta kernelRun0_B.sl.v321 kernelRun0_B.sl.v323 kernelRun0_B.sl.v325 kernelRun0_B.sl.v327 kernelRun0_B.sl.v329 kernelRun0_B.sl.v331 kernelRun0_B.sl.v320 kernelRun0_B.sl.v322 kernelRun0_B.sl.v296 kernelRun0_B.sl.v303 kernelRun0_B.sl.v294 kernelRun0_B.sl.v301
  simp only [roundAt, roundAtWord]
  rfl

theorem ann_7 : (⟨kernelRun0_B.sl.r_49 c arg5 harg5 x3, kernelRun0_B.sl.r_50 c arg5 harg5 x3, kernelRun0_B.sl.r_51 c arg5 harg5 x3, kernelRun0_B.sl.r_52 c arg5 harg5 x3, kernelRun0_B.sl.r_53 c arg5 harg5 x3, kernelRun0_B.sl.r_54 c arg5 harg5 x3, kernelRun0_B.sl.r_55 c arg5 harg5 x3⟩ : Cert.Loss.Ann) = annOf x3 7 := by
  unfold kernelRun0_B.sl.r_49 kernelRun0_B.sl.r_50 kernelRun0_B.sl.r_51 kernelRun0_B.sl.r_52 kernelRun0_B.sl.r_53 kernelRun0_B.sl.r_54 kernelRun0_B.sl.r_55
  rw [annWord arg5 harg5 x3 0 7 (by decide) (by decide), annWord arg5 harg5 x3 1 7 (by decide) (by decide), annWord arg5 harg5 x3 2 7 (by decide) (by decide), annWord arg5 harg5 x3 3 7 (by decide) (by decide), annWord arg5 harg5 x3 4 7 (by decide) (by decide), annWord arg5 harg5 x3 5 7 (by decide) (by decide), annWord arg5 harg5 x3 6 7 (by decide) (by decide)]
  rfl

theorem score_7 : kernelRun0_B.sl.v364 c arg4 harg4 arg5 harg5 x2 x3 (ix2 r l) = Cert.Loss.score (geoB c arg4 harg4 x2 r l) ⟨kernelRun0_B.sl.r_49 c arg5 harg5 x3, kernelRun0_B.sl.r_50 c arg5 harg5 x3, kernelRun0_B.sl.r_51 c arg5 harg5 x3, kernelRun0_B.sl.r_52 c arg5 harg5 x3, kernelRun0_B.sl.r_53 c arg5 harg5 x3, kernelRun0_B.sl.r_54 c arg5 harg5 x3, kernelRun0_B.sl.r_55 c arg5 harg5 x3⟩ := by
  exact (rfl)

theorem round_7 : (⟨kernelRun0_B.sl.v366 c arg4 harg4 arg5 harg5 x2 x3 (ix2 r l), kernelRun0_B.sl.v368 c arg4 harg4 arg5 harg5 x2 x3 (ix2 r l), kernelRun0_B.sl.v370 c arg4 harg4 arg5 harg5 x2 x3 (ix2 r l), kernelRun0_B.sl.v372 c arg4 harg4 arg5 harg5 x2 x3 (ix2 r l), kernelRun0_B.sl.v374 c arg4 harg4 arg5 harg5 x2 x3 (ix2 r l), kernelRun0_B.sl.v376 c arg4 harg4 arg5 harg5 x2 x3 (ix2 r l)⟩ : Cert.Loss.Pick) = Cert.Loss.step (geoB c arg4 harg4 x2 r l) ⟨kernelRun0_B.sl.v321 c arg4 harg4 arg5 harg5 x2 x3 (ix2 r l), kernelRun0_B.sl.v323 c arg4 harg4 arg5 harg5 x2 x3 (ix2 r l), kernelRun0_B.sl.v325 c arg4 harg4 arg5 harg5 x2 x3 (ix2 r l), kernelRun0_B.sl.v327 c arg4 harg4 arg5 harg5 x2 x3 (ix2 r l), kernelRun0_B.sl.v329 c arg4 harg4 arg5 harg5 x2 x3 (ix2 r l), kernelRun0_B.sl.v331 c arg4 harg4 arg5 harg5 x2 x3 (ix2 r l)⟩ ⟨kernelRun0_B.sl.r_49 c arg5 harg5 x3, kernelRun0_B.sl.r_50 c arg5 harg5 x3, kernelRun0_B.sl.r_51 c arg5 harg5 x3, kernelRun0_B.sl.r_52 c arg5 harg5 x3, kernelRun0_B.sl.r_53 c arg5 harg5 x3, kernelRun0_B.sl.r_54 c arg5 harg5 x3, kernelRun0_B.sl.r_55 c arg5 harg5 x3⟩ := by
  unfold Cert.Loss.step
  rw [← score_7]
  delta kernelRun0_B.sl.v366 kernelRun0_B.sl.v368 kernelRun0_B.sl.v370 kernelRun0_B.sl.v372 kernelRun0_B.sl.v374 kernelRun0_B.sl.v376 kernelRun0_B.sl.v365 kernelRun0_B.sl.v367 kernelRun0_B.sl.v341 kernelRun0_B.sl.v348 kernelRun0_B.sl.v339 kernelRun0_B.sl.v346
  simp only [roundAt, roundAtWord]
  rfl

theorem ann_8 : (⟨kernelRun0_B.sl.r_56 c arg5 harg5 x3, kernelRun0_B.sl.r_57 c arg5 harg5 x3, kernelRun0_B.sl.r_58 c arg5 harg5 x3, kernelRun0_B.sl.r_59 c arg5 harg5 x3, kernelRun0_B.sl.r_60 c arg5 harg5 x3, kernelRun0_B.sl.r_61 c arg5 harg5 x3, kernelRun0_B.sl.r_62 c arg5 harg5 x3⟩ : Cert.Loss.Ann) = annOf x3 8 := by
  unfold kernelRun0_B.sl.r_56 kernelRun0_B.sl.r_57 kernelRun0_B.sl.r_58 kernelRun0_B.sl.r_59 kernelRun0_B.sl.r_60 kernelRun0_B.sl.r_61 kernelRun0_B.sl.r_62
  rw [annWord arg5 harg5 x3 0 8 (by decide) (by decide), annWord arg5 harg5 x3 1 8 (by decide) (by decide), annWord arg5 harg5 x3 2 8 (by decide) (by decide), annWord arg5 harg5 x3 3 8 (by decide) (by decide), annWord arg5 harg5 x3 4 8 (by decide) (by decide), annWord arg5 harg5 x3 5 8 (by decide) (by decide), annWord arg5 harg5 x3 6 8 (by decide) (by decide)]
  rfl

theorem score_8 : kernelRun0_B.sl.v409 c arg4 harg4 arg5 harg5 x2 x3 (ix2 r l) = Cert.Loss.score (geoB c arg4 harg4 x2 r l) ⟨kernelRun0_B.sl.r_56 c arg5 harg5 x3, kernelRun0_B.sl.r_57 c arg5 harg5 x3, kernelRun0_B.sl.r_58 c arg5 harg5 x3, kernelRun0_B.sl.r_59 c arg5 harg5 x3, kernelRun0_B.sl.r_60 c arg5 harg5 x3, kernelRun0_B.sl.r_61 c arg5 harg5 x3, kernelRun0_B.sl.r_62 c arg5 harg5 x3⟩ := by
  exact (rfl)

theorem round_8 : (⟨kernelRun0_B.sl.v411 c arg4 harg4 arg5 harg5 x2 x3 (ix2 r l), kernelRun0_B.sl.v413 c arg4 harg4 arg5 harg5 x2 x3 (ix2 r l), kernelRun0_B.sl.v415 c arg4 harg4 arg5 harg5 x2 x3 (ix2 r l), kernelRun0_B.sl.v417 c arg4 harg4 arg5 harg5 x2 x3 (ix2 r l), kernelRun0_B.sl.v419 c arg4 harg4 arg5 harg5 x2 x3 (ix2 r l), kernelRun0_B.sl.v421 c arg4 harg4 arg5 harg5 x2 x3 (ix2 r l)⟩ : Cert.Loss.Pick) = Cert.Loss.step (geoB c arg4 harg4 x2 r l) ⟨kernelRun0_B.sl.v366 c arg4 harg4 arg5 harg5 x2 x3 (ix2 r l), kernelRun0_B.sl.v368 c arg4 harg4 arg5 harg5 x2 x3 (ix2 r l), kernelRun0_B.sl.v370 c arg4 harg4 arg5 harg5 x2 x3 (ix2 r l), kernelRun0_B.sl.v372 c arg4 harg4 arg5 harg5 x2 x3 (ix2 r l), kernelRun0_B.sl.v374 c arg4 harg4 arg5 harg5 x2 x3 (ix2 r l), kernelRun0_B.sl.v376 c arg4 harg4 arg5 harg5 x2 x3 (ix2 r l)⟩ ⟨kernelRun0_B.sl.r_56 c arg5 harg5 x3, kernelRun0_B.sl.r_57 c arg5 harg5 x3, kernelRun0_B.sl.r_58 c arg5 harg5 x3, kernelRun0_B.sl.r_59 c arg5 harg5 x3, kernelRun0_B.sl.r_60 c arg5 harg5 x3, kernelRun0_B.sl.r_61 c arg5 harg5 x3, kernelRun0_B.sl.r_62 c arg5 harg5 x3⟩ := by
  unfold Cert.Loss.step
  rw [← score_8]
  delta kernelRun0_B.sl.v411 kernelRun0_B.sl.v413 kernelRun0_B.sl.v415 kernelRun0_B.sl.v417 kernelRun0_B.sl.v419 kernelRun0_B.sl.v421 kernelRun0_B.sl.v410 kernelRun0_B.sl.v412 kernelRun0_B.sl.v386 kernelRun0_B.sl.v393 kernelRun0_B.sl.v384 kernelRun0_B.sl.v391
  simp only [roundAt, roundAtWord]
  rfl

theorem ann_9 : (⟨kernelRun0_B.sl.r_63 c arg5 harg5 x3, kernelRun0_B.sl.r_64 c arg5 harg5 x3, kernelRun0_B.sl.r_65 c arg5 harg5 x3, kernelRun0_B.sl.r_66 c arg5 harg5 x3, kernelRun0_B.sl.r_67 c arg5 harg5 x3, kernelRun0_B.sl.r_68 c arg5 harg5 x3, kernelRun0_B.sl.r_69 c arg5 harg5 x3⟩ : Cert.Loss.Ann) = annOf x3 9 := by
  unfold kernelRun0_B.sl.r_63 kernelRun0_B.sl.r_64 kernelRun0_B.sl.r_65 kernelRun0_B.sl.r_66 kernelRun0_B.sl.r_67 kernelRun0_B.sl.r_68 kernelRun0_B.sl.r_69
  rw [annWord arg5 harg5 x3 0 9 (by decide) (by decide), annWord arg5 harg5 x3 1 9 (by decide) (by decide), annWord arg5 harg5 x3 2 9 (by decide) (by decide), annWord arg5 harg5 x3 3 9 (by decide) (by decide), annWord arg5 harg5 x3 4 9 (by decide) (by decide), annWord arg5 harg5 x3 5 9 (by decide) (by decide), annWord arg5 harg5 x3 6 9 (by decide) (by decide)]
  rfl

theorem score_9 : kernelRun0_B.sl.v454 c arg4 harg4 arg5 harg5 x2 x3 (ix2 r l) = Cert.Loss.score (geoB c arg4 harg4 x2 r l) ⟨kernelRun0_B.sl.r_63 c arg5 harg5 x3, kernelRun0_B.sl.r_64 c arg5 harg5 x3, kernelRun0_B.sl.r_65 c arg5 harg5 x3, kernelRun0_B.sl.r_66 c arg5 harg5 x3, kernelRun0_B.sl.r_67 c arg5 harg5 x3, kernelRun0_B.sl.r_68 c arg5 harg5 x3, kernelRun0_B.sl.r_69 c arg5 harg5 x3⟩ := by
  exact (rfl)

theorem round_9 : (⟨kernelRun0_B.sl.v456 c arg4 harg4 arg5 harg5 x2 x3 (ix2 r l), kernelRun0_B.sl.v458 c arg4 harg4 arg5 harg5 x2 x3 (ix2 r l), kernelRun0_B.sl.v460 c arg4 harg4 arg5 harg5 x2 x3 (ix2 r l), kernelRun0_B.sl.v462 c arg4 harg4 arg5 harg5 x2 x3 (ix2 r l), kernelRun0_B.sl.v464 c arg4 harg4 arg5 harg5 x2 x3 (ix2 r l), kernelRun0_B.sl.v466 c arg4 harg4 arg5 harg5 x2 x3 (ix2 r l)⟩ : Cert.Loss.Pick) = Cert.Loss.step (geoB c arg4 harg4 x2 r l) ⟨kernelRun0_B.sl.v411 c arg4 harg4 arg5 harg5 x2 x3 (ix2 r l), kernelRun0_B.sl.v413 c arg4 harg4 arg5 harg5 x2 x3 (ix2 r l), kernelRun0_B.sl.v415 c arg4 harg4 arg5 harg5 x2 x3 (ix2 r l), kernelRun0_B.sl.v417 c arg4 harg4 arg5 harg5 x2 x3 (ix2 r l), kernelRun0_B.sl.v419 c arg4 harg4 arg5 harg5 x2 x3 (ix2 r l), kernelRun0_B.sl.v421 c arg4 harg4 arg5 harg5 x2 x3 (ix2 r l)⟩ ⟨kernelRun0_B.sl.r_63 c arg5 harg5 x3, kernelRun0_B.sl.r_64 c arg5 harg5 x3, kernelRun0_B.sl.r_65 c arg5 harg5 x3, kernelRun0_B.sl.r_66 c arg5 harg5 x3, kernelRun0_B.sl.r_67 c arg5 harg5 x3, kernelRun0_B.sl.r_68 c arg5 harg5 x3, kernelRun0_B.sl.r_69 c arg5 harg5 x3⟩ := by
  unfold Cert.Loss.step
  rw [← score_9]
  delta kernelRun0_B.sl.v456 kernelRun0_B.sl.v458 kernelRun0_B.sl.v460 kernelRun0_B.sl.v462 kernelRun0_B.sl.v464 kernelRun0_B.sl.v466 kernelRun0_B.sl.v455 kernelRun0_B.sl.v457 kernelRun0_B.sl.v431 kernelRun0_B.sl.v438 kernelRun0_B.sl.v429 kernelRun0_B.sl.v436
  simp only [roundAt, roundAtWord]
  rfl

theorem ann_10 : (⟨kernelRun0_B.sl.r_70 c arg5 harg5 x3, kernelRun0_B.sl.r_71 c arg5 harg5 x3, kernelRun0_B.sl.r_72 c arg5 harg5 x3, kernelRun0_B.sl.r_73 c arg5 harg5 x3, kernelRun0_B.sl.r_74 c arg5 harg5 x3, kernelRun0_B.sl.r_75 c arg5 harg5 x3, kernelRun0_B.sl.r_76 c arg5 harg5 x3⟩ : Cert.Loss.Ann) = annOf x3 10 := by
  unfold kernelRun0_B.sl.r_70 kernelRun0_B.sl.r_71 kernelRun0_B.sl.r_72 kernelRun0_B.sl.r_73 kernelRun0_B.sl.r_74 kernelRun0_B.sl.r_75 kernelRun0_B.sl.r_76
  rw [annWord arg5 harg5 x3 0 10 (by decide) (by decide), annWord arg5 harg5 x3 1 10 (by decide) (by decide), annWord arg5 harg5 x3 2 10 (by decide) (by decide), annWord arg5 harg5 x3 3 10 (by decide) (by decide), annWord arg5 harg5 x3 4 10 (by decide) (by decide), annWord arg5 harg5 x3 5 10 (by decide) (by decide), annWord arg5 harg5 x3 6 10 (by decide) (by decide)]
  rfl

theorem score_10 : kernelRun0_B.sl.v499 c arg4 harg4 arg5 harg5 x2 x3 (ix2 r l) = Cert.Loss.score (geoB c arg4 harg4 x2 r l) ⟨kernelRun0_B.sl.r_70 c arg5 harg5 x3, kernelRun0_B.sl.r_71 c arg5 harg5 x3, kernelRun0_B.sl.r_72 c arg5 harg5 x3, kernelRun0_B.sl.r_73 c arg5 harg5 x3, kernelRun0_B.sl.r_74 c arg5 harg5 x3, kernelRun0_B.sl.r_75 c arg5 harg5 x3, kernelRun0_B.sl.r_76 c arg5 harg5 x3⟩ := by
  exact (rfl)

theorem round_10 : (⟨kernelRun0_B.sl.v501 c arg4 harg4 arg5 harg5 x2 x3 (ix2 r l), kernelRun0_B.sl.v503 c arg4 harg4 arg5 harg5 x2 x3 (ix2 r l), kernelRun0_B.sl.v505 c arg4 harg4 arg5 harg5 x2 x3 (ix2 r l), kernelRun0_B.sl.v507 c arg4 harg4 arg5 harg5 x2 x3 (ix2 r l), kernelRun0_B.sl.v509 c arg4 harg4 arg5 harg5 x2 x3 (ix2 r l), kernelRun0_B.sl.v511 c arg4 harg4 arg5 harg5 x2 x3 (ix2 r l)⟩ : Cert.Loss.Pick) = Cert.Loss.step (geoB c arg4 harg4 x2 r l) ⟨kernelRun0_B.sl.v456 c arg4 harg4 arg5 harg5 x2 x3 (ix2 r l), kernelRun0_B.sl.v458 c arg4 harg4 arg5 harg5 x2 x3 (ix2 r l), kernelRun0_B.sl.v460 c arg4 harg4 arg5 harg5 x2 x3 (ix2 r l), kernelRun0_B.sl.v462 c arg4 harg4 arg5 harg5 x2 x3 (ix2 r l), kernelRun0_B.sl.v464 c arg4 harg4 arg5 harg5 x2 x3 (ix2 r l), kernelRun0_B.sl.v466 c arg4 harg4 arg5 harg5 x2 x3 (ix2 r l)⟩ ⟨kernelRun0_B.sl.r_70 c arg5 harg5 x3, kernelRun0_B.sl.r_71 c arg5 harg5 x3, kernelRun0_B.sl.r_72 c arg5 harg5 x3, kernelRun0_B.sl.r_73 c arg5 harg5 x3, kernelRun0_B.sl.r_74 c arg5 harg5 x3, kernelRun0_B.sl.r_75 c arg5 harg5 x3, kernelRun0_B.sl.r_76 c arg5 harg5 x3⟩ := by
  unfold Cert.Loss.step
  rw [← score_10]
  delta kernelRun0_B.sl.v501 kernelRun0_B.sl.v503 kernelRun0_B.sl.v505 kernelRun0_B.sl.v507 kernelRun0_B.sl.v509 kernelRun0_B.sl.v511 kernelRun0_B.sl.v500 kernelRun0_B.sl.v502 kernelRun0_B.sl.v476 kernelRun0_B.sl.v483 kernelRun0_B.sl.v474 kernelRun0_B.sl.v481
  simp only [roundAt, roundAtWord]
  rfl

theorem ann_11 : (⟨kernelRun0_B.sl.r_77 c arg5 harg5 x3, kernelRun0_B.sl.r_78 c arg5 harg5 x3, kernelRun0_B.sl.r_79 c arg5 harg5 x3, kernelRun0_B.sl.r_80 c arg5 harg5 x3, kernelRun0_B.sl.r_81 c arg5 harg5 x3, kernelRun0_B.sl.r_82 c arg5 harg5 x3, kernelRun0_B.sl.r_83 c arg5 harg5 x3⟩ : Cert.Loss.Ann) = annOf x3 11 := by
  unfold kernelRun0_B.sl.r_77 kernelRun0_B.sl.r_78 kernelRun0_B.sl.r_79 kernelRun0_B.sl.r_80 kernelRun0_B.sl.r_81 kernelRun0_B.sl.r_82 kernelRun0_B.sl.r_83
  rw [annWord arg5 harg5 x3 0 11 (by decide) (by decide), annWord arg5 harg5 x3 1 11 (by decide) (by decide), annWord arg5 harg5 x3 2 11 (by decide) (by decide), annWord arg5 harg5 x3 3 11 (by decide) (by decide), annWord arg5 harg5 x3 4 11 (by decide) (by decide), annWord arg5 harg5 x3 5 11 (by decide) (by decide), annWord arg5 harg5 x3 6 11 (by decide) (by decide)]
  rfl

theorem score_11 : kernelRun0_B.sl.v544 c arg4 harg4 arg5 harg5 x2 x3 (ix2 r l) = Cert.Loss.score (geoB c arg4 harg4 x2 r l) ⟨kernelRun0_B.sl.r_77 c arg5 harg5 x3, kernelRun0_B.sl.r_78 c arg5 harg5 x3, kernelRun0_B.sl.r_79 c arg5 harg5 x3, kernelRun0_B.sl.r_80 c arg5 harg5 x3, kernelRun0_B.sl.r_81 c arg5 harg5 x3, kernelRun0_B.sl.r_82 c arg5 harg5 x3, kernelRun0_B.sl.r_83 c arg5 harg5 x3⟩ := by
  exact (rfl)

theorem round_11 : (⟨kernelRun0_B.sl.v546 c arg4 harg4 arg5 harg5 x2 x3 (ix2 r l), kernelRun0_B.sl.v548 c arg4 harg4 arg5 harg5 x2 x3 (ix2 r l), kernelRun0_B.sl.v550 c arg4 harg4 arg5 harg5 x2 x3 (ix2 r l), kernelRun0_B.sl.v552 c arg4 harg4 arg5 harg5 x2 x3 (ix2 r l), kernelRun0_B.sl.v554 c arg4 harg4 arg5 harg5 x2 x3 (ix2 r l), kernelRun0_B.sl.v556 c arg4 harg4 arg5 harg5 x2 x3 (ix2 r l)⟩ : Cert.Loss.Pick) = Cert.Loss.step (geoB c arg4 harg4 x2 r l) ⟨kernelRun0_B.sl.v501 c arg4 harg4 arg5 harg5 x2 x3 (ix2 r l), kernelRun0_B.sl.v503 c arg4 harg4 arg5 harg5 x2 x3 (ix2 r l), kernelRun0_B.sl.v505 c arg4 harg4 arg5 harg5 x2 x3 (ix2 r l), kernelRun0_B.sl.v507 c arg4 harg4 arg5 harg5 x2 x3 (ix2 r l), kernelRun0_B.sl.v509 c arg4 harg4 arg5 harg5 x2 x3 (ix2 r l), kernelRun0_B.sl.v511 c arg4 harg4 arg5 harg5 x2 x3 (ix2 r l)⟩ ⟨kernelRun0_B.sl.r_77 c arg5 harg5 x3, kernelRun0_B.sl.r_78 c arg5 harg5 x3, kernelRun0_B.sl.r_79 c arg5 harg5 x3, kernelRun0_B.sl.r_80 c arg5 harg5 x3, kernelRun0_B.sl.r_81 c arg5 harg5 x3, kernelRun0_B.sl.r_82 c arg5 harg5 x3, kernelRun0_B.sl.r_83 c arg5 harg5 x3⟩ := by
  unfold Cert.Loss.step
  rw [← score_11]
  delta kernelRun0_B.sl.v546 kernelRun0_B.sl.v548 kernelRun0_B.sl.v550 kernelRun0_B.sl.v552 kernelRun0_B.sl.v554 kernelRun0_B.sl.v556 kernelRun0_B.sl.v545 kernelRun0_B.sl.v547 kernelRun0_B.sl.v521 kernelRun0_B.sl.v528 kernelRun0_B.sl.v519 kernelRun0_B.sl.v526
  simp only [roundAt, roundAtWord]
  rfl

theorem ann_12 : (⟨kernelRun0_B.sl.r_84 c arg5 harg5 x3, kernelRun0_B.sl.r_85 c arg5 harg5 x3, kernelRun0_B.sl.r_86 c arg5 harg5 x3, kernelRun0_B.sl.r_87 c arg5 harg5 x3, kernelRun0_B.sl.r_88 c arg5 harg5 x3, kernelRun0_B.sl.r_89 c arg5 harg5 x3, kernelRun0_B.sl.r_90 c arg5 harg5 x3⟩ : Cert.Loss.Ann) = annOf x3 12 := by
  unfold kernelRun0_B.sl.r_84 kernelRun0_B.sl.r_85 kernelRun0_B.sl.r_86 kernelRun0_B.sl.r_87 kernelRun0_B.sl.r_88 kernelRun0_B.sl.r_89 kernelRun0_B.sl.r_90
  rw [annWord arg5 harg5 x3 0 12 (by decide) (by decide), annWord arg5 harg5 x3 1 12 (by decide) (by decide), annWord arg5 harg5 x3 2 12 (by decide) (by decide), annWord arg5 harg5 x3 3 12 (by decide) (by decide), annWord arg5 harg5 x3 4 12 (by decide) (by decide), annWord arg5 harg5 x3 5 12 (by decide) (by decide), annWord arg5 harg5 x3 6 12 (by decide) (by decide)]
  rfl

theorem score_12 : kernelRun0_B.sl.v589 c arg4 harg4 arg5 harg5 x2 x3 (ix2 r l) = Cert.Loss.score (geoB c arg4 harg4 x2 r l) ⟨kernelRun0_B.sl.r_84 c arg5 harg5 x3, kernelRun0_B.sl.r_85 c arg5 harg5 x3, kernelRun0_B.sl.r_86 c arg5 harg5 x3, kernelRun0_B.sl.r_87 c arg5 harg5 x3, kernelRun0_B.sl.r_88 c arg5 harg5 x3, kernelRun0_B.sl.r_89 c arg5 harg5 x3, kernelRun0_B.sl.r_90 c arg5 harg5 x3⟩ := by
  exact (rfl)

theorem round_12 : (⟨kernelRun0_B.sl.v591 c arg4 harg4 arg5 harg5 x2 x3 (ix2 r l), kernelRun0_B.sl.v593 c arg4 harg4 arg5 harg5 x2 x3 (ix2 r l), kernelRun0_B.sl.v595 c arg4 harg4 arg5 harg5 x2 x3 (ix2 r l), kernelRun0_B.sl.v597 c arg4 harg4 arg5 harg5 x2 x3 (ix2 r l), kernelRun0_B.sl.v599 c arg4 harg4 arg5 harg5 x2 x3 (ix2 r l), kernelRun0_B.sl.v601 c arg4 harg4 arg5 harg5 x2 x3 (ix2 r l)⟩ : Cert.Loss.Pick) = Cert.Loss.step (geoB c arg4 harg4 x2 r l) ⟨kernelRun0_B.sl.v546 c arg4 harg4 arg5 harg5 x2 x3 (ix2 r l), kernelRun0_B.sl.v548 c arg4 harg4 arg5 harg5 x2 x3 (ix2 r l), kernelRun0_B.sl.v550 c arg4 harg4 arg5 harg5 x2 x3 (ix2 r l), kernelRun0_B.sl.v552 c arg4 harg4 arg5 harg5 x2 x3 (ix2 r l), kernelRun0_B.sl.v554 c arg4 harg4 arg5 harg5 x2 x3 (ix2 r l), kernelRun0_B.sl.v556 c arg4 harg4 arg5 harg5 x2 x3 (ix2 r l)⟩ ⟨kernelRun0_B.sl.r_84 c arg5 harg5 x3, kernelRun0_B.sl.r_85 c arg5 harg5 x3, kernelRun0_B.sl.r_86 c arg5 harg5 x3, kernelRun0_B.sl.r_87 c arg5 harg5 x3, kernelRun0_B.sl.r_88 c arg5 harg5 x3, kernelRun0_B.sl.r_89 c arg5 harg5 x3, kernelRun0_B.sl.r_90 c arg5 harg5 x3⟩ := by
  unfold Cert.Loss.step
  rw [← score_12]
  delta kernelRun0_B.sl.v591 kernelRun0_B.sl.v593 kernelRun0_B.sl.v595 kernelRun0_B.sl.v597 kernelRun0_B.sl.v599 kernelRun0_B.sl.v601 kernelRun0_B.sl.v590 kernelRun0_B.sl.v592 kernelRun0_B.sl.v566 kernelRun0_B.sl.v573 kernelRun0_B.sl.v564 kernelRun0_B.sl.v571
  simp only [roundAt, roundAtWord]
  rfl

theorem ann_13 : (⟨kernelRun0_B.sl.r_91 c arg5 harg5 x3, kernelRun0_B.sl.r_92 c arg5 harg5 x3, kernelRun0_B.sl.r_93 c arg5 harg5 x3, kernelRun0_B.sl.r_94 c arg5 harg5 x3, kernelRun0_B.sl.r_95 c arg5 harg5 x3, kernelRun0_B.sl.r_96 c arg5 harg5 x3, kernelRun0_B.sl.r_97 c arg5 harg5 x3⟩ : Cert.Loss.Ann) = annOf x3 13 := by
  unfold kernelRun0_B.sl.r_91 kernelRun0_B.sl.r_92 kernelRun0_B.sl.r_93 kernelRun0_B.sl.r_94 kernelRun0_B.sl.r_95 kernelRun0_B.sl.r_96 kernelRun0_B.sl.r_97
  rw [annWord arg5 harg5 x3 0 13 (by decide) (by decide), annWord arg5 harg5 x3 1 13 (by decide) (by decide), annWord arg5 harg5 x3 2 13 (by decide) (by decide), annWord arg5 harg5 x3 3 13 (by decide) (by decide), annWord arg5 harg5 x3 4 13 (by decide) (by decide), annWord arg5 harg5 x3 5 13 (by decide) (by decide), annWord arg5 harg5 x3 6 13 (by decide) (by decide)]
  rfl

theorem score_13 : kernelRun0_B.sl.v634 c arg4 harg4 arg5 harg5 x2 x3 (ix2 r l) = Cert.Loss.score (geoB c arg4 harg4 x2 r l) ⟨kernelRun0_B.sl.r_91 c arg5 harg5 x3, kernelRun0_B.sl.r_92 c arg5 harg5 x3, kernelRun0_B.sl.r_93 c arg5 harg5 x3, kernelRun0_B.sl.r_94 c arg5 harg5 x3, kernelRun0_B.sl.r_95 c arg5 harg5 x3, kernelRun0_B.sl.r_96 c arg5 harg5 x3, kernelRun0_B.sl.r_97 c arg5 harg5 x3⟩ := by
  exact (rfl)

theorem round_13 : (⟨kernelRun0_B.sl.v636 c arg4 harg4 arg5 harg5 x2 x3 (ix2 r l), kernelRun0_B.sl.v638 c arg4 harg4 arg5 harg5 x2 x3 (ix2 r l), kernelRun0_B.sl.v640 c arg4 harg4 arg5 harg5 x2 x3 (ix2 r l), kernelRun0_B.sl.v642 c arg4 harg4 arg5 harg5 x2 x3 (ix2 r l), kernelRun0_B.sl.v644 c arg4 harg4 arg5 harg5 x2 x3 (ix2 r l), kernelRun0_B.sl.v646 c arg4 harg4 arg5 harg5 x2 x3 (ix2 r l)⟩ : Cert.Loss.Pick) = Cert.Loss.step (geoB c arg4 harg4 x2 r l) ⟨kernelRun0_B.sl.v591 c arg4 harg4 arg5 harg5 x2 x3 (ix2 r l), kernelRun0_B.sl.v593 c arg4 harg4 arg5 harg5 x2 x3 (ix2 r l), kernelRun0_B.sl.v595 c arg4 harg4 arg5 harg5 x2 x3 (ix2 r l), kernelRun0_B.sl.v597 c arg4 harg4 arg5 harg5 x2 x3 (ix2 r l), kernelRun0_B.sl.v599 c arg4 harg4 arg5 harg5 x2 x3 (ix2 r l), kernelRun0_B.sl.v601 c arg4 harg4 arg5 harg5 x2 x3 (ix2 r l)⟩ ⟨kernelRun0_B.sl.r_91 c arg5 harg5 x3, kernelRun0_B.sl.r_92 c arg5 harg5 x3, kernelRun0_B.sl.r_93 c arg5 harg5 x3, kernelRun0_B.sl.r_94 c arg5 harg5 x3, kernelRun0_B.sl.r_95 c arg5 harg5 x3, kernelRun0_B.sl.r_96 c arg5 harg5 x3, kernelRun0_B.sl.r_97 c arg5 harg5 x3⟩ := by
  unfold Cert.Loss.step
  rw [← score_13]
  delta kernelRun0_B.sl.v636 kernelRun0_B.sl.v638 kernelRun0_B.sl.v640 kernelRun0_B.sl.v642 kernelRun0_B.sl.v644 kernelRun0_B.sl.v646 kernelRun0_B.sl.v635 kernelRun0_B.sl.v637 kernelRun0_B.sl.v611 kernelRun0_B.sl.v618 kernelRun0_B.sl.v609 kernelRun0_B.sl.v616
  simp only [roundAt, roundAtWord]
  rfl

theorem ann_14 : (⟨kernelRun0_B.sl.r_98 c arg5 harg5 x3, kernelRun0_B.sl.r_99 c arg5 harg5 x3, kernelRun0_B.sl.r_100 c arg5 harg5 x3, kernelRun0_B.sl.r_101 c arg5 harg5 x3, kernelRun0_B.sl.r_102 c arg5 harg5 x3, kernelRun0_B.sl.r_103 c arg5 harg5 x3, kernelRun0_B.sl.r_104 c arg5 harg5 x3⟩ : Cert.Loss.Ann) = annOf x3 14 := by
  unfold kernelRun0_B.sl.r_98 kernelRun0_B.sl.r_99 kernelRun0_B.sl.r_100 kernelRun0_B.sl.r_101 kernelRun0_B.sl.r_102 kernelRun0_B.sl.r_103 kernelRun0_B.sl.r_104
  rw [annWord arg5 harg5 x3 0 14 (by decide) (by decide), annWord arg5 harg5 x3 1 14 (by decide) (by decide), annWord arg5 harg5 x3 2 14 (by decide) (by decide), annWord arg5 harg5 x3 3 14 (by decide) (by decide), annWord arg5 harg5 x3 4 14 (by decide) (by decide), annWord arg5 harg5 x3 5 14 (by decide) (by decide), annWord arg5 harg5 x3 6 14 (by decide) (by decide)]
  rfl

theorem score_14 : kernelRun0_B.sl.v679 c arg4 harg4 arg5 harg5 x2 x3 (ix2 r l) = Cert.Loss.score (geoB c arg4 harg4 x2 r l) ⟨kernelRun0_B.sl.r_98 c arg5 harg5 x3, kernelRun0_B.sl.r_99 c arg5 harg5 x3, kernelRun0_B.sl.r_100 c arg5 harg5 x3, kernelRun0_B.sl.r_101 c arg5 harg5 x3, kernelRun0_B.sl.r_102 c arg5 harg5 x3, kernelRun0_B.sl.r_103 c arg5 harg5 x3, kernelRun0_B.sl.r_104 c arg5 harg5 x3⟩ := by
  exact (rfl)

theorem round_14 : (⟨kernelRun0_B.sl.v681 c arg4 harg4 arg5 harg5 x2 x3 (ix2 r l), kernelRun0_B.sl.v683 c arg4 harg4 arg5 harg5 x2 x3 (ix2 r l), kernelRun0_B.sl.v685 c arg4 harg4 arg5 harg5 x2 x3 (ix2 r l), kernelRun0_B.sl.v687 c arg4 harg4 arg5 harg5 x2 x3 (ix2 r l), kernelRun0_B.sl.v689 c arg4 harg4 arg5 harg5 x2 x3 (ix2 r l), kernelRun0_B.sl.v691 c arg4 harg4 arg5 harg5 x2 x3 (ix2 r l)⟩ : Cert.Loss.Pick) = Cert.Loss.step (geoB c arg4 harg4 x2 r l) ⟨kernelRun0_B.sl.v636 c arg4 harg4 arg5 harg5 x2 x3 (ix2 r l), kernelRun0_B.sl.v638 c arg4 harg4 arg5 harg5 x2 x3 (ix2 r l), kernelRun0_B.sl.v640 c arg4 harg4 arg5 harg5 x2 x3 (ix2 r l), kernelRun0_B.sl.v642 c arg4 harg4 arg5 harg5 x2 x3 (ix2 r l), kernelRun0_B.sl.v644 c arg4 harg4 arg5 harg5 x2 x3 (ix2 r l), kernelRun0_B.sl.v646 c arg4 harg4 arg5 harg5 x2 x3 (ix2 r l)⟩ ⟨kernelRun0_B.sl.r_98 c arg5 harg5 x3, kernelRun0_B.sl.r_99 c arg5 harg5 x3, kernelRun0_B.sl.r_100 c arg5 harg5 x3, kernelRun0_B.sl.r_101 c arg5 harg5 x3, kernelRun0_B.sl.r_102 c arg5 harg5 x3, kernelRun0_B.sl.r_103 c arg5 harg5 x3, kernelRun0_B.sl.r_104 c arg5 harg5 x3⟩ := by
  unfold Cert.Loss.step
  rw [← score_14]
  delta kernelRun0_B.sl.v681 kernelRun0_B.sl.v683 kernelRun0_B.sl.v685 kernelRun0_B.sl.v687 kernelRun0_B.sl.v689 kernelRun0_B.sl.v691 kernelRun0_B.sl.v680 kernelRun0_B.sl.v682 kernelRun0_B.sl.v656 kernelRun0_B.sl.v663 kernelRun0_B.sl.v654 kernelRun0_B.sl.v661
  simp only [roundAt, roundAtWord]
  rfl

theorem ann_15 : (⟨kernelRun0_B.sl.r_105 c arg5 harg5 x3, kernelRun0_B.sl.r_106 c arg5 harg5 x3, kernelRun0_B.sl.r_107 c arg5 harg5 x3, kernelRun0_B.sl.r_108 c arg5 harg5 x3, kernelRun0_B.sl.r_109 c arg5 harg5 x3, kernelRun0_B.sl.r_110 c arg5 harg5 x3, kernelRun0_B.sl.r_111 c arg5 harg5 x3⟩ : Cert.Loss.Ann) = annOf x3 15 := by
  unfold kernelRun0_B.sl.r_105 kernelRun0_B.sl.r_106 kernelRun0_B.sl.r_107 kernelRun0_B.sl.r_108 kernelRun0_B.sl.r_109 kernelRun0_B.sl.r_110 kernelRun0_B.sl.r_111
  rw [annWord arg5 harg5 x3 0 15 (by decide) (by decide), annWord arg5 harg5 x3 1 15 (by decide) (by decide), annWord arg5 harg5 x3 2 15 (by decide) (by decide), annWord arg5 harg5 x3 3 15 (by decide) (by decide), annWord arg5 harg5 x3 4 15 (by decide) (by decide), annWord arg5 harg5 x3 5 15 (by decide) (by decide), annWord arg5 harg5 x3 6 15 (by decide) (by decide)]
  rfl

theorem score_15 : kernelRun0_B.sl.v724 c arg4 harg4 arg5 harg5 x2 x3 (ix2 r l) = Cert.Loss.score (geoB c arg4 harg4 x2 r l) ⟨kernelRun0_B.sl.r_105 c arg5 harg5 x3, kernelRun0_B.sl.r_106 c arg5 harg5 x3, kernelRun0_B.sl.r_107 c arg5 harg5 x3, kernelRun0_B.sl.r_108 c arg5 harg5 x3, kernelRun0_B.sl.r_109 c arg5 harg5 x3, kernelRun0_B.sl.r_110 c arg5 harg5 x3, kernelRun0_B.sl.r_111 c arg5 harg5 x3⟩ := by
  exact (rfl)

theorem round_15 : (⟨kernelRun0_B.sl.v726 c arg4 harg4 arg5 harg5 x2 x3 (ix2 r l), kernelRun0_B.sl.v728 c arg4 harg4 arg5 harg5 x2 x3 (ix2 r l), kernelRun0_B.sl.v730 c arg4 harg4 arg5 harg5 x2 x3 (ix2 r l), kernelRun0_B.sl.v732 c arg4 harg4 arg5 harg5 x2 x3 (ix2 r l), kernelRun0_B.sl.v734 c arg4 harg4 arg5 harg5 x2 x3 (ix2 r l), kernelRun0_B.sl.v736 c arg4 harg4 arg5 harg5 x2 x3 (ix2 r l)⟩ : Cert.Loss.Pick) = Cert.Loss.step (geoB c arg4 harg4 x2 r l) ⟨kernelRun0_B.sl.v681 c arg4 harg4 arg5 harg5 x2 x3 (ix2 r l), kernelRun0_B.sl.v683 c arg4 harg4 arg5 harg5 x2 x3 (ix2 r l), kernelRun0_B.sl.v685 c arg4 harg4 arg5 harg5 x2 x3 (ix2 r l), kernelRun0_B.sl.v687 c arg4 harg4 arg5 harg5 x2 x3 (ix2 r l), kernelRun0_B.sl.v689 c arg4 harg4 arg5 harg5 x2 x3 (ix2 r l), kernelRun0_B.sl.v691 c arg4 harg4 arg5 harg5 x2 x3 (ix2 r l)⟩ ⟨kernelRun0_B.sl.r_105 c arg5 harg5 x3, kernelRun0_B.sl.r_106 c arg5 harg5 x3, kernelRun0_B.sl.r_107 c arg5 harg5 x3, kernelRun0_B.sl.r_108 c arg5 harg5 x3, kernelRun0_B.sl.r_109 c arg5 harg5 x3, kernelRun0_B.sl.r_110 c arg5 harg5 x3, kernelRun0_B.sl.r_111 c arg5 harg5 x3⟩ := by
  unfold Cert.Loss.step
  rw [← score_15]
  delta kernelRun0_B.sl.v726 kernelRun0_B.sl.v728 kernelRun0_B.sl.v730 kernelRun0_B.sl.v732 kernelRun0_B.sl.v734 kernelRun0_B.sl.v736 kernelRun0_B.sl.v725 kernelRun0_B.sl.v727 kernelRun0_B.sl.v701 kernelRun0_B.sl.v708 kernelRun0_B.sl.v699 kernelRun0_B.sl.v706
  simp only [roundAt, roundAtWord]
  rfl

theorem ann_16 : (⟨kernelRun0_B.sl.r_112 c arg5 harg5 x3, kernelRun0_B.sl.r_113 c arg5 harg5 x3, kernelRun0_B.sl.r_114 c arg5 harg5 x3, kernelRun0_B.sl.r_115 c arg5 harg5 x3, kernelRun0_B.sl.r_116 c arg5 harg5 x3, kernelRun0_B.sl.r_117 c arg5 harg5 x3, kernelRun0_B.sl.r_118 c arg5 harg5 x3⟩ : Cert.Loss.Ann) = annOf x3 16 := by
  unfold kernelRun0_B.sl.r_112 kernelRun0_B.sl.r_113 kernelRun0_B.sl.r_114 kernelRun0_B.sl.r_115 kernelRun0_B.sl.r_116 kernelRun0_B.sl.r_117 kernelRun0_B.sl.r_118
  rw [annWord arg5 harg5 x3 0 16 (by decide) (by decide), annWord arg5 harg5 x3 1 16 (by decide) (by decide), annWord arg5 harg5 x3 2 16 (by decide) (by decide), annWord arg5 harg5 x3 3 16 (by decide) (by decide), annWord arg5 harg5 x3 4 16 (by decide) (by decide), annWord arg5 harg5 x3 5 16 (by decide) (by decide), annWord arg5 harg5 x3 6 16 (by decide) (by decide)]
  rfl

theorem score_16 : kernelRun0_B.sl.v769 c arg4 harg4 arg5 harg5 x2 x3 (ix2 r l) = Cert.Loss.score (geoB c arg4 harg4 x2 r l) ⟨kernelRun0_B.sl.r_112 c arg5 harg5 x3, kernelRun0_B.sl.r_113 c arg5 harg5 x3, kernelRun0_B.sl.r_114 c arg5 harg5 x3, kernelRun0_B.sl.r_115 c arg5 harg5 x3, kernelRun0_B.sl.r_116 c arg5 harg5 x3, kernelRun0_B.sl.r_117 c arg5 harg5 x3, kernelRun0_B.sl.r_118 c arg5 harg5 x3⟩ := by
  exact (rfl)

theorem round_16 : (⟨kernelRun0_B.sl.v771 c arg4 harg4 arg5 harg5 x2 x3 (ix2 r l), kernelRun0_B.sl.v773 c arg4 harg4 arg5 harg5 x2 x3 (ix2 r l), kernelRun0_B.sl.v775 c arg4 harg4 arg5 harg5 x2 x3 (ix2 r l), kernelRun0_B.sl.v777 c arg4 harg4 arg5 harg5 x2 x3 (ix2 r l), kernelRun0_B.sl.v779 c arg4 harg4 arg5 harg5 x2 x3 (ix2 r l), kernelRun0_B.sl.v781 c arg4 harg4 arg5 harg5 x2 x3 (ix2 r l)⟩ : Cert.Loss.Pick) = Cert.Loss.step (geoB c arg4 harg4 x2 r l) ⟨kernelRun0_B.sl.v726 c arg4 harg4 arg5 harg5 x2 x3 (ix2 r l), kernelRun0_B.sl.v728 c arg4 harg4 arg5 harg5 x2 x3 (ix2 r l), kernelRun0_B.sl.v730 c arg4 harg4 arg5 harg5 x2 x3 (ix2 r l), kernelRun0_B.sl.v732 c arg4 harg4 arg5 harg5 x2 x3 (ix2 r l), kernelRun0_B.sl.v734 c arg4 harg4 arg5 harg5 x2 x3 (ix2 r l), kernelRun0_B.sl.v736 c arg4 harg4 arg5 harg5 x2 x3 (ix2 r l)⟩ ⟨kernelRun0_B.sl.r_112 c arg5 harg5 x3, kernelRun0_B.sl.r_113 c arg5 harg5 x3, kernelRun0_B.sl.r_114 c arg5 harg5 x3, kernelRun0_B.sl.r_115 c arg5 harg5 x3, kernelRun0_B.sl.r_116 c arg5 harg5 x3, kernelRun0_B.sl.r_117 c arg5 harg5 x3, kernelRun0_B.sl.r_118 c arg5 harg5 x3⟩ := by
  unfold Cert.Loss.step
  rw [← score_16]
  delta kernelRun0_B.sl.v771 kernelRun0_B.sl.v773 kernelRun0_B.sl.v775 kernelRun0_B.sl.v777 kernelRun0_B.sl.v779 kernelRun0_B.sl.v781 kernelRun0_B.sl.v770 kernelRun0_B.sl.v772 kernelRun0_B.sl.v746 kernelRun0_B.sl.v753 kernelRun0_B.sl.v744 kernelRun0_B.sl.v751
  simp only [roundAt, roundAtWord]
  rfl

theorem ann_17 : (⟨kernelRun0_B.sl.r_119 c arg5 harg5 x3, kernelRun0_B.sl.r_120 c arg5 harg5 x3, kernelRun0_B.sl.r_121 c arg5 harg5 x3, kernelRun0_B.sl.r_122 c arg5 harg5 x3, kernelRun0_B.sl.r_123 c arg5 harg5 x3, kernelRun0_B.sl.r_124 c arg5 harg5 x3, kernelRun0_B.sl.r_125 c arg5 harg5 x3⟩ : Cert.Loss.Ann) = annOf x3 17 := by
  unfold kernelRun0_B.sl.r_119 kernelRun0_B.sl.r_120 kernelRun0_B.sl.r_121 kernelRun0_B.sl.r_122 kernelRun0_B.sl.r_123 kernelRun0_B.sl.r_124 kernelRun0_B.sl.r_125
  rw [annWord arg5 harg5 x3 0 17 (by decide) (by decide), annWord arg5 harg5 x3 1 17 (by decide) (by decide), annWord arg5 harg5 x3 2 17 (by decide) (by decide), annWord arg5 harg5 x3 3 17 (by decide) (by decide), annWord arg5 harg5 x3 4 17 (by decide) (by decide), annWord arg5 harg5 x3 5 17 (by decide) (by decide), annWord arg5 harg5 x3 6 17 (by decide) (by decide)]
  rfl

theorem score_17 : kernelRun0_B.sl.v814 c arg4 harg4 arg5 harg5 x2 x3 (ix2 r l) = Cert.Loss.score (geoB c arg4 harg4 x2 r l) ⟨kernelRun0_B.sl.r_119 c arg5 harg5 x3, kernelRun0_B.sl.r_120 c arg5 harg5 x3, kernelRun0_B.sl.r_121 c arg5 harg5 x3, kernelRun0_B.sl.r_122 c arg5 harg5 x3, kernelRun0_B.sl.r_123 c arg5 harg5 x3, kernelRun0_B.sl.r_124 c arg5 harg5 x3, kernelRun0_B.sl.r_125 c arg5 harg5 x3⟩ := by
  exact (rfl)

theorem round_17 : (⟨kernelRun0_B.sl.v816 c arg4 harg4 arg5 harg5 x2 x3 (ix2 r l), kernelRun0_B.sl.v818 c arg4 harg4 arg5 harg5 x2 x3 (ix2 r l), kernelRun0_B.sl.v820 c arg4 harg4 arg5 harg5 x2 x3 (ix2 r l), kernelRun0_B.sl.v822 c arg4 harg4 arg5 harg5 x2 x3 (ix2 r l), kernelRun0_B.sl.v824 c arg4 harg4 arg5 harg5 x2 x3 (ix2 r l), kernelRun0_B.sl.v826 c arg4 harg4 arg5 harg5 x2 x3 (ix2 r l)⟩ : Cert.Loss.Pick) = Cert.Loss.step (geoB c arg4 harg4 x2 r l) ⟨kernelRun0_B.sl.v771 c arg4 harg4 arg5 harg5 x2 x3 (ix2 r l), kernelRun0_B.sl.v773 c arg4 harg4 arg5 harg5 x2 x3 (ix2 r l), kernelRun0_B.sl.v775 c arg4 harg4 arg5 harg5 x2 x3 (ix2 r l), kernelRun0_B.sl.v777 c arg4 harg4 arg5 harg5 x2 x3 (ix2 r l), kernelRun0_B.sl.v779 c arg4 harg4 arg5 harg5 x2 x3 (ix2 r l), kernelRun0_B.sl.v781 c arg4 harg4 arg5 harg5 x2 x3 (ix2 r l)⟩ ⟨kernelRun0_B.sl.r_119 c arg5 harg5 x3, kernelRun0_B.sl.r_120 c arg5 harg5 x3, kernelRun0_B.sl.r_121 c arg5 harg5 x3, kernelRun0_B.sl.r_122 c arg5 harg5 x3, kernelRun0_B.sl.r_123 c arg5 harg5 x3, kernelRun0_B.sl.r_124 c arg5 harg5 x3, kernelRun0_B.sl.r_125 c arg5 harg5 x3⟩ := by
  unfold Cert.Loss.step
  rw [← score_17]
  delta kernelRun0_B.sl.v816 kernelRun0_B.sl.v818 kernelRun0_B.sl.v820 kernelRun0_B.sl.v822 kernelRun0_B.sl.v824 kernelRun0_B.sl.v826 kernelRun0_B.sl.v815 kernelRun0_B.sl.v817 kernelRun0_B.sl.v791 kernelRun0_B.sl.v798 kernelRun0_B.sl.v789 kernelRun0_B.sl.v796
  simp only [roundAt, roundAtWord]
  rfl

theorem ann_18 : (⟨kernelRun0_B.sl.r_126 c arg5 harg5 x3, kernelRun0_B.sl.r_127 c arg5 harg5 x3, kernelRun0_B.sl.r_128 c arg5 harg5 x3, kernelRun0_B.sl.r_129 c arg5 harg5 x3, kernelRun0_B.sl.r_130 c arg5 harg5 x3, kernelRun0_B.sl.r_131 c arg5 harg5 x3, kernelRun0_B.sl.r_132 c arg5 harg5 x3⟩ : Cert.Loss.Ann) = annOf x3 18 := by
  unfold kernelRun0_B.sl.r_126 kernelRun0_B.sl.r_127 kernelRun0_B.sl.r_128 kernelRun0_B.sl.r_129 kernelRun0_B.sl.r_130 kernelRun0_B.sl.r_131 kernelRun0_B.sl.r_132
  rw [annWord arg5 harg5 x3 0 18 (by decide) (by decide), annWord arg5 harg5 x3 1 18 (by decide) (by decide), annWord arg5 harg5 x3 2 18 (by decide) (by decide), annWord arg5 harg5 x3 3 18 (by decide) (by decide), annWord arg5 harg5 x3 4 18 (by decide) (by decide), annWord arg5 harg5 x3 5 18 (by decide) (by decide), annWord arg5 harg5 x3 6 18 (by decide) (by decide)]
  rfl

theorem score_18 : kernelRun0_B.sl.v859 c arg4 harg4 arg5 harg5 x2 x3 (ix2 r l) = Cert.Loss.score (geoB c arg4 harg4 x2 r l) ⟨kernelRun0_B.sl.r_126 c arg5 harg5 x3, kernelRun0_B.sl.r_127 c arg5 harg5 x3, kernelRun0_B.sl.r_128 c arg5 harg5 x3, kernelRun0_B.sl.r_129 c arg5 harg5 x3, kernelRun0_B.sl.r_130 c arg5 harg5 x3, kernelRun0_B.sl.r_131 c arg5 harg5 x3, kernelRun0_B.sl.r_132 c arg5 harg5 x3⟩ := by
  exact (rfl)

theorem round_18 : (⟨kernelRun0_B.sl.v861 c arg4 harg4 arg5 harg5 x2 x3 (ix2 r l), kernelRun0_B.sl.v863 c arg4 harg4 arg5 harg5 x2 x3 (ix2 r l), kernelRun0_B.sl.v865 c arg4 harg4 arg5 harg5 x2 x3 (ix2 r l), kernelRun0_B.sl.v867 c arg4 harg4 arg5 harg5 x2 x3 (ix2 r l), kernelRun0_B.sl.v869 c arg4 harg4 arg5 harg5 x2 x3 (ix2 r l), kernelRun0_B.sl.v871 c arg4 harg4 arg5 harg5 x2 x3 (ix2 r l)⟩ : Cert.Loss.Pick) = Cert.Loss.step (geoB c arg4 harg4 x2 r l) ⟨kernelRun0_B.sl.v816 c arg4 harg4 arg5 harg5 x2 x3 (ix2 r l), kernelRun0_B.sl.v818 c arg4 harg4 arg5 harg5 x2 x3 (ix2 r l), kernelRun0_B.sl.v820 c arg4 harg4 arg5 harg5 x2 x3 (ix2 r l), kernelRun0_B.sl.v822 c arg4 harg4 arg5 harg5 x2 x3 (ix2 r l), kernelRun0_B.sl.v824 c arg4 harg4 arg5 harg5 x2 x3 (ix2 r l), kernelRun0_B.sl.v826 c arg4 harg4 arg5 harg5 x2 x3 (ix2 r l)⟩ ⟨kernelRun0_B.sl.r_126 c arg5 harg5 x3, kernelRun0_B.sl.r_127 c arg5 harg5 x3, kernelRun0_B.sl.r_128 c arg5 harg5 x3, kernelRun0_B.sl.r_129 c arg5 harg5 x3, kernelRun0_B.sl.r_130 c arg5 harg5 x3, kernelRun0_B.sl.r_131 c arg5 harg5 x3, kernelRun0_B.sl.r_132 c arg5 harg5 x3⟩ := by
  unfold Cert.Loss.step
  rw [← score_18]
  delta kernelRun0_B.sl.v861 kernelRun0_B.sl.v863 kernelRun0_B.sl.v865 kernelRun0_B.sl.v867 kernelRun0_B.sl.v869 kernelRun0_B.sl.v871 kernelRun0_B.sl.v860 kernelRun0_B.sl.v862 kernelRun0_B.sl.v836 kernelRun0_B.sl.v843 kernelRun0_B.sl.v834 kernelRun0_B.sl.v841
  simp only [roundAt, roundAtWord]
  rfl

theorem ann_19 : (⟨kernelRun0_B.sl.r_133 c arg5 harg5 x3, kernelRun0_B.sl.r_134 c arg5 harg5 x3, kernelRun0_B.sl.r_135 c arg5 harg5 x3, kernelRun0_B.sl.r_136 c arg5 harg5 x3, kernelRun0_B.sl.r_137 c arg5 harg5 x3, kernelRun0_B.sl.r_138 c arg5 harg5 x3, kernelRun0_B.sl.r_139 c arg5 harg5 x3⟩ : Cert.Loss.Ann) = annOf x3 19 := by
  unfold kernelRun0_B.sl.r_133 kernelRun0_B.sl.r_134 kernelRun0_B.sl.r_135 kernelRun0_B.sl.r_136 kernelRun0_B.sl.r_137 kernelRun0_B.sl.r_138 kernelRun0_B.sl.r_139
  rw [annWord arg5 harg5 x3 0 19 (by decide) (by decide), annWord arg5 harg5 x3 1 19 (by decide) (by decide), annWord arg5 harg5 x3 2 19 (by decide) (by decide), annWord arg5 harg5 x3 3 19 (by decide) (by decide), annWord arg5 harg5 x3 4 19 (by decide) (by decide), annWord arg5 harg5 x3 5 19 (by decide) (by decide), annWord arg5 harg5 x3 6 19 (by decide) (by decide)]
  rfl

theorem score_19 : kernelRun0_B.sl.v904 c arg4 harg4 arg5 harg5 x2 x3 (ix2 r l) = Cert.Loss.score (geoB c arg4 harg4 x2 r l) ⟨kernelRun0_B.sl.r_133 c arg5 harg5 x3, kernelRun0_B.sl.r_134 c arg5 harg5 x3, kernelRun0_B.sl.r_135 c arg5 harg5 x3, kernelRun0_B.sl.r_136 c arg5 harg5 x3, kernelRun0_B.sl.r_137 c arg5 harg5 x3, kernelRun0_B.sl.r_138 c arg5 harg5 x3, kernelRun0_B.sl.r_139 c arg5 harg5 x3⟩ := by
  exact (rfl)

theorem round_19 : (⟨kernelRun0_B.sl.v906 c arg4 harg4 arg5 harg5 x2 x3 (ix2 r l), kernelRun0_B.sl.v908 c arg4 harg4 arg5 harg5 x2 x3 (ix2 r l), kernelRun0_B.sl.v910 c arg4 harg4 arg5 harg5 x2 x3 (ix2 r l), kernelRun0_B.sl.v912 c arg4 harg4 arg5 harg5 x2 x3 (ix2 r l), kernelRun0_B.sl.v914 c arg4 harg4 arg5 harg5 x2 x3 (ix2 r l), kernelRun0_B.sl.v916 c arg4 harg4 arg5 harg5 x2 x3 (ix2 r l)⟩ : Cert.Loss.Pick) = Cert.Loss.step (geoB c arg4 harg4 x2 r l) ⟨kernelRun0_B.sl.v861 c arg4 harg4 arg5 harg5 x2 x3 (ix2 r l), kernelRun0_B.sl.v863 c arg4 harg4 arg5 harg5 x2 x3 (ix2 r l), kernelRun0_B.sl.v865 c arg4 harg4 arg5 harg5 x2 x3 (ix2 r l), kernelRun0_B.sl.v867 c arg4 harg4 arg5 harg5 x2 x3 (ix2 r l), kernelRun0_B.sl.v869 c arg4 harg4 arg5 harg5 x2 x3 (ix2 r l), kernelRun0_B.sl.v871 c arg4 harg4 arg5 harg5 x2 x3 (ix2 r l)⟩ ⟨kernelRun0_B.sl.r_133 c arg5 harg5 x3, kernelRun0_B.sl.r_134 c arg5 harg5 x3, kernelRun0_B.sl.r_135 c arg5 harg5 x3, kernelRun0_B.sl.r_136 c arg5 harg5 x3, kernelRun0_B.sl.r_137 c arg5 harg5 x3, kernelRun0_B.sl.r_138 c arg5 harg5 x3, kernelRun0_B.sl.r_139 c arg5 harg5 x3⟩ := by
  unfold Cert.Loss.step
  rw [← score_19]
  delta kernelRun0_B.sl.v906 kernelRun0_B.sl.v908 kernelRun0_B.sl.v910 kernelRun0_B.sl.v912 kernelRun0_B.sl.v914 kernelRun0_B.sl.v916 kernelRun0_B.sl.v905 kernelRun0_B.sl.v907 kernelRun0_B.sl.v881 kernelRun0_B.sl.v888 kernelRun0_B.sl.v879 kernelRun0_B.sl.v886
  simp only [roundAt, roundAtWord]
  rfl

/-- The annotations of a table, numbered by the naturals. -/
def annSeq (x3 : S1x8x20.Idx → EReal) (n : ℕ) : Cert.Loss.Ann := if h : n < 20 then annOf x3 ⟨n, h⟩ else annOf x3 0

/-- After the last round the body holds the pick over all twenty annotations. -/
theorem rounds : (⟨kernelRun0_B.sl.v906 c arg4 harg4 arg5 harg5 x2 x3 (ix2 r l), kernelRun0_B.sl.v908 c arg4 harg4 arg5 harg5 x2 x3 (ix2 r l), kernelRun0_B.sl.v910 c arg4 harg4 arg5 harg5 x2 x3 (ix2 r l), kernelRun0_B.sl.v912 c arg4 harg4 arg5 harg5 x2 x3 (ix2 r l), kernelRun0_B.sl.v914 c arg4 harg4 arg5 harg5 x2 x3 (ix2 r l), kernelRun0_B.sl.v916 c arg4 harg4 arg5 harg5 x2 x3 (ix2 r l)⟩ : Cert.Loss.Pick) = Cert.Loss.pick (geoOf x2 r l) (annSeq x3) 20 := by
  rw [round_19 c arg4 harg4 arg5 harg5 x2 x3 r l, round_18 c arg4 harg4 arg5 harg5 x2 x3 r l, round_17 c arg4 harg4 arg5 harg5 x2 x3 r l, round_16 c arg4 harg4 arg5 harg5 x2 x3 r l, round_15 c arg4 harg4 arg5 harg5 x2 x3 r l, round_14 c arg4 harg4 arg5 harg5 x2 x3 r l, round_13 c arg4 harg4 arg5 harg5 x2 x3 r l, round_12 c arg4 harg4 arg5 harg5 x2 x3 r l, round_11 c arg4 harg4 arg5 harg5 x2 x3 r l, round_10 c arg4 harg4 arg5 harg5 x2 x3 r l, round_9 c arg4 harg4 arg5 harg5 x2 x3 r l, round_8 c arg4 harg4 arg5 harg5 x2 x3 r l, round_7 c arg4 harg4 arg5 harg5 x2 x3 r l, round_6 c arg4 harg4 arg5 harg5 x2 x3 r l, round_5 c arg4 harg4 arg5 harg5 x2 x3 r l, round_4 c arg4 harg4 arg5 harg5 x2 x3 r l, round_3 c arg4 harg4 arg5 harg5 x2 x3 r l, round_2 c arg4 harg4 arg5 harg5 x2 x3 r l, round_1 c arg4 harg4 arg5 harg5 x2 x3 r l, round_0 c arg4 harg4 arg5 harg5 x2 x3 r l]
  rw [ann_0, ann_1, ann_2, ann_3, ann_4, ann_5, ann_6, ann_7, ann_8, ann_9, ann_10, ann_11, ann_12, ann_13, ann_14, ann_15, ann_16, ann_17, ann_18, ann_19, geoB_eq]
  rfl

end Cert.KernelIdeal.Hand

end
-- ==== Proof.LossTerm.lean ====
/- The terms of the three sums at one anchor, as the kernel writes them. -/
module

public import proofs.«01_k».proof.Proof.LossDefs

@[expose] public section

noncomputable section

namespace Cert.Loss

open Idealize.ShloMosaic

/-- Whether the anchor is matched: its best overlap is at least a half, and it is an anchor of the array. -/
def posBit (p : Pick) (inb : BitVec 1) : BitVec 1 := Ideal.cmp .oge p.m (word 0x3F000000#32) &&& inb

/-- Whether the anchor counts at all: matched, or its best overlap is under two fifths. -/
def useBit (p : Pick) (inb : BitVec 1) : BitVec 1 := (posBit p inb ||| Ideal.cmp .olt p.m (word 0x3ECCCCCD#32)) &&& inb

/-- A truth value as a number. -/
def bitVal (b : BitVec 1) : EReal := FloatOps.sitofp (F := Ideal) .f32 (b.setWidth 32)

/-- One number an anchor: two more than its label if matched, else one if it counts and zero if not. -/
def code (p : Pick) (inb : BitVec 1) : EReal := Scalar.select (posBit p inb) (p.lab + word 0x40000000#32) (bitVal (useBit p inb))

/-- The targets of the regression. -/
def tx (g : Geo) (p : Pick) : EReal := Ideal.div (p.x1 + word 0x3F000000#32 * (p.x2 - p.x1) - g.cx) g.w * word 0x41200000#32
def ty (g : Geo) (p : Pick) : EReal := Ideal.div (p.y1 + word 0x3F000000#32 * (p.y2 - p.y1) - g.cy) g.h * word 0x41200000#32
def tw (g : Geo) (p : Pick) : EReal := Ideal.log (Ideal.div (max (p.x2 - p.x1) (word 0x3F800000#32)) g.w) * word 0x40A00000#32
def th (g : Geo) (p : Pick) : EReal := Ideal.log (Ideal.div (max (p.y2 - p.y1) (word 0x3F800000#32)) g.h) * word 0x40A00000#32

/-- The distance of two numbers. -/
def dist (t d : EReal) : EReal := max (t - d) (-(t - d))

/-- The smoothed distance. -/
def huber (t d : EReal) : EReal :=
  Scalar.select (Ideal.cmp .ole (dist t d) (word 0x3DE38E39#32)) (word 0x40900000#32 * dist t d * dist t d) (dist t d - word 0x3D638E39#32)

/-- The regression term of an anchor whose prediction is `d`. -/
def regSum (g : Geo) (p : Pick) (d : Fin 4 → EReal) : EReal :=
  huber (tx g p) (d 0) + huber (ty g p) (d 1) + huber (tw g p) (d 2) + huber (th g p) (d 3)

/-- The regression term, where the anchor is matched. -/
def regTerm (g : Geo) (p : Pick) (inb : BitVec 1) (d : Fin 4 → EReal) : EReal := Scalar.select (posBit p inb) (regSum g p d) (word 0x00000000#32)

/-- The classification's two terms at a class `k`, of a code `w` and a probability `c`; `κ` is one over the logarithm of two. -/
def clsNeg (κ w c : EReal) : EReal :=
  Scalar.select (Ideal.cmp .oge w (word 0x3F000000#32)) (c * c * (Ideal.log (word 0x3F800000#32 - c) * κ)) (word 0x00000000#32)
def clsPos (κ w c k : EReal) : EReal :=
  Scalar.select (Ideal.cmp .oeq k (w - word 0x40000000#32))
    ((word 0x3F800000#32 - c) * (word 0x3F800000#32 - c) * (Ideal.log c * κ) - c * c * word 0x40400000#32 * (Ideal.log (word 0x3F800000#32 - c) * κ)) (word 0x00000000#32)

end Cert.Loss

end
-- ==== Proof.BodyTail.lean ====
/- The kernel's body after its twenty rounds: the matched bit, the code of an anchor and its spread to the rows of the
   classification block, the regression terms, and the three totals of a block. -/
module

public import proofs.«01_k».proof.Proof.BodyPick
public import proofs.«01_k».proof.Proof.LossTerm
public import Idealize.ShloMosaic.Lib.Routing.Words
public import Idealize.ShloMosaic.Lib.WordArith

@[expose] public section

noncomputable section

/-! ## Words -/

namespace Cert.Loss

open Idealize.ShloMosaic Idealize.ShloMosaic.WordArith

/-- A truth value as a number is one or zero. -/
theorem bitVal_eq (b : BitVec 1) : bitVal b = if b = 1#1 then 1 else 0 := by
  have h : b = 0#1 ∨ b = 1#1 := by revert b; decide
  rcases h with h | h <;> subst h
  · show (((BitVec.setWidth 32 0#1).toInt : ℝ) : EReal) = _
    simp
  · show (((BitVec.setWidth 32 1#1).toInt : ℝ) : EReal) = _
    simp

theorem slt_zero_word {a : ℕ} (h : a < 2 ^ 31) : IntOp.cmpi .slt (BitVec.ofNat 32 a) 0#32 = 0#1 := by
  unfold IntOp.cmpi
  simp only [BitVec.slt, toInt_ofNat_small a h]
  have e : ¬ ((a : ℤ) < (0#32).toInt) := by simp
  rw [decide_eq_false e]
  rfl

theorem sgt_zero_word {a : ℕ} (h : a < 2 ^ 31) (h0 : 0 < a) : IntOp.cmpi .sgt (BitVec.ofNat 32 a) 0#32 = 1#1 := by
  unfold IntOp.cmpi
  simp only [BitVec.slt, toInt_ofNat_small a h]
  simp [h0]

theorem eq_word {a b : ℕ} (ha : a < 2 ^ 31) (hb : b < 2 ^ 31) : IntOp.cmpi .eq (BitVec.ofNat 32 a) (BitVec.ofNat 32 b) = if a = b then 1#1 else 0#1 := by
  unfold IntOp.cmpi
  by_cases h : a = b
  · subst h; simp
  · have e : BitVec.ofNat 32 a ≠ BitVec.ofNat 32 b := fun e => h (by
      have := congrArg BitVec.toNat e
      rwa [toNat_ofNat_of_lt a (by omega), toNat_ofNat_of_lt b (by omega)] at this)
    rw [if_neg h, beq_false_of_ne e]
    rfl

/-- Two small naturals compared as words, as a number. -/
theorem hot {a b : ℕ} (ha : a < 2 ^ 31) (hb : b < 2 ^ 31) :
    FloatOps.sitofp (F := Ideal) .f32 (BitVec.setWidth 32 (IntOp.cmpi .eq (BitVec.ofNat 32 a) (BitVec.ofNat 32 b))) = if a = b then (1 : EReal) else 0 := by
  rw [eq_word ha hb]
  refine (bitVal_eq _).trans ?_
  by_cases h : a = b <;> simp [h]

/-- The rounded-down quotient by 128 as the kernel writes it. -/
theorem rowWord {n : ℕ} (h : n < 2 ^ 31) :
    Scalar.select (IntOp.andi (IntOp.cmpi .ne (IntOp.subi (BitVec.setWidth 32 (IntOp.cmpi .sgt (BitVec.ofNat 32 n) 0#32)) (BitVec.setWidth 32 (IntOp.cmpi .slt (BitVec.ofNat 32 n) 0#32))) 1#32)
        (IntOp.cmpi .ne (IntOp.remsi .vector (BitVec.ofNat 32 n) 128#32) 0#32))
      (IntOp.subi (IntOp.divsi .vector (BitVec.ofNat 32 n) 128#32) 1#32) (IntOp.divsi .vector (BitVec.ofNat 32 n) 128#32) = BitVec.ofNat 32 (n / 128) := by
  rw [Routing.remsi_word .vector h (by decide) (by decide), Routing.divsi_word .vector h (by decide) (by decide), slt_zero_word h]
  rcases Nat.eq_zero_or_pos n with rfl | hn
  · decide
  · rw [sgt_zero_word h hn]
    have e : IntOp.cmpi .ne (IntOp.subi (BitVec.setWidth 32 1#1) (BitVec.setWidth 32 0#1)) 1#32 = 0#1 := by decide
    rw [e]
    simp [IntOp.andi, Scalar.select]

/-- The remainder by 128 as the kernel writes it. -/
theorem laneWord {n : ℕ} (h : n < 2 ^ 31) :
    Scalar.select (IntOp.andi (IntOp.xori (IntOp.cmpi .slt (IntOp.remsi .vector (BitVec.ofNat 32 n) 128#32) 0#32) (Scalar.cmpi .slt 128#32 0#32))
        (IntOp.cmpi .ne (IntOp.remsi .vector (BitVec.ofNat 32 n) 128#32) 0#32))
      (IntOp.addi (IntOp.remsi .vector (BitVec.ofNat 32 n) 128#32) 128#32) (IntOp.remsi .vector (BitVec.ofNat 32 n) 128#32) = BitVec.ofNat 32 (n % 128) := by
  rw [Routing.remsi_word .vector h (by decide) (by decide), slt_zero_word (by omega)]
  have e : IntOp.xori 0#1 (Scalar.cmpi .slt 128#32 0#32) = 0#1 := by decide
  rw [e]
  simp [IntOp.andi, Scalar.select]

end Cert.Loss

namespace Cert.KernelIdeal.Hand

open Cert.KernelIdeal Cert.KernelIdeal.Gen
open Idealize.ShloMosaic Idealize.ShloMosaic.TcCoe Idealize.ShloMosaic.Tactic

/-- The row of the classification block in which anchor `(r, l)` lies. -/
def rowOf (n : Fin 12288) : Fin 96 := ⟨n.val / 128, by omega⟩
def laneOf (n : Fin 12288) : Fin 128 := ⟨n.val % 128, by omega⟩

/-- The two products that spread a number of each anchor over the rows of the classification block. -/
theorem spread (w : FVec Ideal S96x128 .f32) (n : Fin 12288) (k : Fin 80) :
    k0_pay222 w kernelRun0_B.sl.v1056 kernelRun0_B.sl.v1057 128#32 (remsi kernelRun0_B.sl.v1058 kernelRun0_B.sl.v1061) kernelRun0_B.sl.v1064 kernelRun0_B.sl.v1063 (ix2 n k)
      = w (ix2 (rowOf n) (laneOf n)) := by
  unfold k0_pay222
  pointwise [kernelRun0_B.sl.v1056, kernelRun0_B.sl.v1055, kernelRun0_B.sl.v1053, kernelRun0_B.sl.v1052, kernelRun0_B.sl.v1049, kernelRun0_B.sl.v1045, kernelRun0_B.sl.v1044, kernelRun0_B.sl.v1037, kernelRun0_B.sl.v1034, kernelRun0_B.sl.v1032, kernelRun0_B.sl.v1030, kernelRun0_B.sl.v1029, kernelRun0_B.sl.v1028, kernelRun0_B.sl.v1057, kernelRun0_B.sl.v1058, kernelRun0_B.sl.v1061, kernelRun0_B.sl.v1063, kernelRun0_B.sl.v1064]
  have hn : n.val < 2 ^ 31 := by omega
  simp only [Cert.Loss.rowWord hn, Cert.Loss.laneWord hn]
  have e1 : ∀ x : Fin 96, FloatOps.sitofp (F := Ideal) .f32 (BitVec.setWidth 32 (IntOp.cmpi .eq (BitVec.ofNat 32 x.val) (BitVec.ofNat 32 (n.val / 128)))) = if x = rowOf n then (1 : EReal) else 0 := fun x => by
    rw [Cert.Loss.hot (by omega) (by omega)]; simp only [rowOf, Fin.ext_iff]
  have e2 : ∀ x : Fin 128, FloatOps.sitofp (F := Ideal) .f32 (BitVec.setWidth 32 (IntOp.cmpi .eq (BitVec.ofNat 32 x.val) (BitVec.ofNat 32 (n.val % 128)))) = if x = laneOf n then (1 : EReal) else 0 := fun x => by
    rw [Cert.Loss.hot (by omega) (by omega)]; simp only [laneOf, Fin.ext_iff]
  simp only [e1, e2, ite_mul, mul_ite, one_mul, mul_one, zero_mul, mul_zero, Finset.sum_ite_eq', Finset.mem_univ, if_true]

variable (c : Dev nD) (i : grid0.Coords) (arg2 : Memref sig .tc .vmem S1x12288x80 .f32) (harg2 : arg2.IsWhole) (arg3 : Memref sig .tc .vmem S1x96x512 .f32) (harg3 : arg3.IsWhole)
  (arg4 : Memref sig .tc .vmem S96x1024 .f32) (harg4 : arg4.IsWhole) (arg5 : Memref sig .tc .smem S1x8x20 .f32) (harg5 : arg5.IsWhole)
  (x0 : Vec Ideal S1x12288x80 .f32) (x1 : Vec Ideal S1x96x512 .f32) (x2 : Vec Ideal S96x1024 .f32) (x3 : Vec Ideal S1x8x20 .f32) (r : Fin 96) (l : Fin 128)

/-- The pick at row `r`, lane `l`. -/
def pickOf (x2 : S96x1024.Idx → EReal) (x3 : S1x8x20.Idx → EReal) (r : Fin 96) (l : Fin 128) : Cert.Loss.Pick := Cert.Loss.pick (geoOf x2 r l) (annSeq x3) 20

/-- Whether row `r`, lane `l` of block `i` is an anchor of the array. -/
def inbOf (i : grid0.Coords) (r : Fin 96) (l : Fin 128) : BitVec 1 := kernelRun0_B.sl.v926 i (ix2 r l)

/-- The prediction at row `r`, lane `l` of a packed block. -/
def predOf (x1 : S1x96x512.Idx → EReal) (r : Fin 96) (l : Fin 128) (j : Fin 4) : EReal := x1 (ix3 0 r ⟨128 * j.val + l.val, by omega⟩)

theorem v906_eq : kernelRun0_B.sl.v906 c arg4 harg4 arg5 harg5 x2 x3 (ix2 r l) = (pickOf x2 x3 r l).m := congrArg Cert.Loss.Pick.m (rounds c arg4 harg4 arg5 harg5 x2 x3 r l)
theorem v908_eq : kernelRun0_B.sl.v908 c arg4 harg4 arg5 harg5 x2 x3 (ix2 r l) = (pickOf x2 x3 r l).lab := congrArg Cert.Loss.Pick.lab (rounds c arg4 harg4 arg5 harg5 x2 x3 r l)
theorem v910_eq : kernelRun0_B.sl.v910 c arg4 harg4 arg5 harg5 x2 x3 (ix2 r l) = (pickOf x2 x3 r l).x1 := congrArg Cert.Loss.Pick.x1 (rounds c arg4 harg4 arg5 harg5 x2 x3 r l)
theorem v912_eq : kernelRun0_B.sl.v912 c arg4 harg4 arg5 harg5 x2 x3 (ix2 r l) = (pickOf x2 x3 r l).y1 := congrArg Cert.Loss.Pick.y1 (rounds c arg4 harg4 arg5 harg5 x2 x3 r l)
theorem v914_eq : kernelRun0_B.sl.v914 c arg4 harg4 arg5 harg5 x2 x3 (ix2 r l) = (pickOf x2 x3 r l).x2 := congrArg Cert.Loss.Pick.x2 (rounds c arg4 harg4 arg5 harg5 x2 x3 r l)
theorem v916_eq : kernelRun0_B.sl.v916 c arg4 harg4 arg5 harg5 x2 x3 (ix2 r l) = (pickOf x2 x3 r l).y2 := congrArg Cert.Loss.Pick.y2 (rounds c arg4 harg4 arg5 harg5 x2 x3 r l)

theorem v929_eq : kernelRun0_B.sl.v929 c i arg4 harg4 arg5 harg5 x2 x3 (ix2 r l) = Cert.Loss.posBit (pickOf x2 x3 r l) (inbOf i r l) := by
  unfold Cert.Loss.posBit
  rw [← v906_eq c arg4 harg4 arg5 harg5]
  exact (rfl)

theorem v933_eq : kernelRun0_B.sl.v933 c i arg4 harg4 arg5 harg5 x2 x3 (ix2 r l) = Cert.Loss.useBit (pickOf x2 x3 r l) (inbOf i r l) := by
  unfold Cert.Loss.useBit
  rw [← v906_eq c arg4 harg4 arg5 harg5, ← v929_eq c i arg4 harg4 arg5 harg5]
  exact (rfl)

theorem v944_eq : kernelRun0_B.sl.v944 c i arg4 harg4 arg5 harg5 x2 x3 (ix2 r l) = Cert.Loss.code (pickOf x2 x3 r l) (inbOf i r l) := by
  unfold Cert.Loss.code Cert.Loss.bitVal
  rw [← v908_eq c arg4 harg4 arg5 harg5, ← v929_eq c i arg4 harg4 arg5 harg5, ← v933_eq c i arg4 harg4 arg5 harg5]
  delta kernelRun0_B.sl.v944 kernelRun0_B.sl.v941 kernelRun0_B.sl.v943 kernelRun0_B.sl.v942 kernelRun0_B.sl.v940
  exact (rfl)

theorem v935_eq : kernelRun0_B.sl.v935 c i arg4 harg4 arg5 harg5 x2 x3 (ix2 r l) = Cert.Loss.bitVal (Cert.Loss.posBit (pickOf x2 x3 r l) (inbOf i r l)) := by
  unfold Cert.Loss.bitVal
  rw [← v929_eq c i arg4 harg4 arg5 harg5]
  exact (rfl)

/-- The block's count of matched anchors. -/
theorem count_eq : kernelRun0_B.sl.v939 c i arg4 harg4 arg5 harg5 x2 x3 = ∑ r : Fin 96, ∑ l : Fin 128, Cert.Loss.bitVal (Cert.Loss.posBit (pickOf x2 x3 r l) (inbOf i r l)) := by
  unfold kernelRun0_B.sl.v939 kernelRun0_B.sl.v938 kernelRun0_B.sl.v937 kernelRun0_B.sl.v936
  pointwise
  simp only [v935_eq]

theorem v946_eq (p : Fin 96) (q : Fin 512) : kernelRun0_B.sl.v946 c arg3 harg3 x1 (ix2 p q) = x1 (ix3 0 p q) := by
  unfold kernelRun0_B.sl.v946
  pointwise
  rw [Memref.IsWhole.readAt_unread]
  refine congrArg x1 (funext fun a => Fin.ext ?_)
  match a with
  | ⟨0, _⟩ => rfl
  | ⟨1, _⟩ => show 0 + 1 * p.val = p.val; omega
  | ⟨2, _⟩ => show 0 + 1 * q.val = q.val; omega

theorem pred_0 : kernelRun0_B.sl.v975 c arg3 harg3 x1 (ix2 r l) = predOf x1 r l 0 := by
  unfold kernelRun0_B.sl.v975
  pointwise
  rw [v946_eq]
  refine congrArg x1 (congrArg (ix3 0 r) (Fin.ext ?_))
  show _ = 128 * 0 + l.val
  simp

theorem pred_1 : kernelRun0_B.sl.v978 c arg3 harg3 x1 (ix2 r l) = predOf x1 r l 1 := by
  unfold kernelRun0_B.sl.v978
  pointwise
  rw [v946_eq]
  exact congrArg x1 (congrArg (ix3 0 r) (Fin.ext rfl))

theorem pred_2 : kernelRun0_B.sl.v981 c arg3 harg3 x1 (ix2 r l) = predOf x1 r l 2 := by
  unfold kernelRun0_B.sl.v981
  pointwise
  rw [v946_eq]
  exact congrArg x1 (congrArg (ix3 0 r) (Fin.ext rfl))

theorem pred_3 : kernelRun0_B.sl.v984 c arg3 harg3 x1 (ix2 r l) = predOf x1 r l 3 := by
  unfold kernelRun0_B.sl.v984
  pointwise
  rw [v946_eq]
  exact congrArg x1 (congrArg (ix3 0 r) (Fin.ext rfl))

theorem v962_eq : kernelRun0_B.sl.v962 c arg4 harg4 arg5 harg5 x2 x3 (ix2 r l) = Cert.Loss.tx (geoOf x2 r l) (pickOf x2 x3 r l) := by
  unfold Cert.Loss.tx
  rw [← v910_eq c arg4 harg4 arg5 harg5, ← v914_eq c arg4 harg4 arg5 harg5, ← v8_eq c arg4 harg4, ← v6_eq c arg4 harg4]
  exact (rfl)

theorem v966_eq : kernelRun0_B.sl.v966 c arg4 harg4 arg5 harg5 x2 x3 (ix2 r l) = Cert.Loss.ty (geoOf x2 r l) (pickOf x2 x3 r l) := by
  unfold Cert.Loss.ty
  rw [← v912_eq c arg4 harg4 arg5 harg5, ← v916_eq c arg4 harg4 arg5 harg5, ← v9_eq c arg4 harg4, ← v7_eq c arg4 harg4]
  exact (rfl)

theorem v970_eq : kernelRun0_B.sl.v970 c arg4 harg4 arg5 harg5 x2 x3 (ix2 r l) = Cert.Loss.tw (geoOf x2 r l) (pickOf x2 x3 r l) := by
  unfold Cert.Loss.tw
  rw [← v910_eq c arg4 harg4 arg5 harg5, ← v914_eq c arg4 harg4 arg5 harg5, ← v6_eq c arg4 harg4]
  exact (rfl)

theorem v974_eq : kernelRun0_B.sl.v974 c arg4 harg4 arg5 harg5 x2 x3 (ix2 r l) = Cert.Loss.th (geoOf x2 r l) (pickOf x2 x3 r l) := by
  unfold Cert.Loss.th
  rw [← v912_eq c arg4 harg4 arg5 harg5, ← v916_eq c arg4 harg4 arg5 harg5, ← v7_eq c arg4 harg4]
  exact (rfl)

/-- The distance, and the smoothed distance, of two vectors at an index. -/
theorem distAt (t d : FVec Ideal S96x128 .f32) (j : S96x128.Idx) : absf (subf t d) j = Cert.Loss.dist (t j) (d j) := rfl

theorem huberAt (t d : FVec Ideal S96x128 .f32) (j : S96x128.Idx) :
    select (cmpf .ole (absf (subf t d)) (broadcast S96x128 (FloatOps.ofBits .f32 1038323257#32)))
      (mulf (mulf (broadcast S96x128 (FloatOps.ofBits .f32 1083179008#32)) (absf (subf t d))) (absf (subf t d)))
      (subf (absf (subf t d)) (broadcast S96x128 (FloatOps.ofBits .f32 1029934649#32))) j = Cert.Loss.huber (t j) (d j) := rfl

theorem v994_eq : kernelRun0_B.sl.v994 c arg3 harg3 arg4 harg4 arg5 harg5 x1 x2 x3 (ix2 r l) = Cert.Loss.huber (Cert.Loss.tx (geoOf x2 r l) (pickOf x2 x3 r l)) (predOf x1 r l 0) := by
  rw [← v962_eq c arg4 harg4 arg5 harg5, ← pred_0 c arg3 harg3]
  exact huberAt _ _ _

theorem v1002_eq : kernelRun0_B.sl.v1002 c arg3 harg3 arg4 harg4 arg5 harg5 x1 x2 x3 (ix2 r l) = Cert.Loss.huber (Cert.Loss.ty (geoOf x2 r l) (pickOf x2 x3 r l)) (predOf x1 r l 1) := by
  rw [← v966_eq c arg4 harg4 arg5 harg5, ← pred_1 c arg3 harg3]
  exact huberAt _ _ _

theorem v1011_eq : kernelRun0_B.sl.v1011 c arg3 harg3 arg4 harg4 arg5 harg5 x1 x2 x3 (ix2 r l) = Cert.Loss.huber (Cert.Loss.tw (geoOf x2 r l) (pickOf x2 x3 r l)) (predOf x1 r l 2) := by
  rw [← v970_eq c arg4 harg4 arg5 harg5, ← pred_2 c arg3 harg3]
  exact huberAt _ _ _

theorem v1020_eq : kernelRun0_B.sl.v1020 c arg3 harg3 arg4 harg4 arg5 harg5 x1 x2 x3 (ix2 r l) = Cert.Loss.huber (Cert.Loss.th (geoOf x2 r l) (pickOf x2 x3 r l)) (predOf x1 r l 3) := by
  rw [← v974_eq c arg4 harg4 arg5 harg5, ← pred_3 c arg3 harg3]
  exact huberAt _ _ _

theorem v1021_eq : kernelRun0_B.sl.v1021 c arg3 harg3 arg4 harg4 arg5 harg5 x1 x2 x3 (ix2 r l) = Cert.Loss.regSum (geoOf x2 r l) (pickOf x2 x3 r l) (predOf x1 r l) := by
  unfold Cert.Loss.regSum
  rw [← v994_eq c arg3 harg3 arg4 harg4 arg5 harg5, ← v1002_eq c arg3 harg3 arg4 harg4 arg5 harg5, ← v1011_eq c arg3 harg3 arg4 harg4 arg5 harg5, ← v1020_eq c arg3 harg3 arg4 harg4 arg5 harg5]
  exact (rfl)

theorem v1023_eq : kernelRun0_B.sl.v1023 c i arg3 harg3 arg4 harg4 arg5 harg5 x1 x2 x3 (ix2 r l) = Cert.Loss.regTerm (geoOf x2 r l) (pickOf x2 x3 r l) (inbOf i r l) (predOf x1 r l) := by
  unfold Cert.Loss.regTerm
  rw [← v1021_eq c arg3 harg3 arg4 harg4 arg5 harg5, ← v929_eq c i arg4 harg4 arg5 harg5]
  exact (rfl)

/-- The block's regression total. -/
theorem reg_eq : kernelRun0_B.sl.v1027 c i arg3 harg3 arg4 harg4 arg5 harg5 x1 x2 x3 = ∑ r : Fin 96, ∑ l : Fin 128, Cert.Loss.regTerm (geoOf x2 r l) (pickOf x2 x3 r l) (inbOf i r l) (predOf x1 r l) := by
  unfold kernelRun0_B.sl.v1027 kernelRun0_B.sl.v1026 kernelRun0_B.sl.v1025 kernelRun0_B.sl.v1024
  pointwise
  simp only [v1023_eq]

/-- The constants the kernel names, at their values. -/
def invLn2 : EReal := (((Real.log 2)⁻¹ : ℝ) : EReal)
def negScale : EReal := (((-3 / 4) * (Real.log 2) : ℝ) : EReal)
def posScale : EReal := (((-1 / 4) * (Real.log 2) : ℝ) : EReal)

/-- The probability at row `n`, class `k` of a block. -/
def probOf (x0 : S1x12288x80.Idx → EReal) (n : Fin 12288) (k : Fin 80) : EReal := x0 (ix3 0 n k)

/-- The code at row `n` of the classification block. -/
def codeOf (i : grid0.Coords) (x2 : S96x1024.Idx → EReal) (x3 : S1x8x20.Idx → EReal) (n : Fin 12288) : EReal :=
  Cert.Loss.code (pickOf x2 x3 (rowOf n) (laneOf n)) (inbOf i (rowOf n) (laneOf n))

/-- A block's classification total. -/
def clsTotal (i : grid0.Coords) (x0 : S1x12288x80.Idx → EReal) (x2 : S96x1024.Idx → EReal) (x3 : S1x8x20.Idx → EReal) : EReal :=
  negScale * (∑ n : Fin 12288, ∑ k : Fin 80, Cert.Loss.clsNeg invLn2 (codeOf i x2 x3 n) (probOf x0 n k))
    + posScale * (∑ n : Fin 12288, ∑ k : Fin 80, Cert.Loss.clsPos invLn2 (codeOf i x2 x3 n) (probOf x0 n k) (FloatOps.sitofp (F := Ideal) .f32 (BitVec.ofNat 32 k.val)))

/-- A block's regression total, and its count. -/
def regTotal (i : grid0.Coords) (x1 : S1x96x512.Idx → EReal) (x2 : S96x1024.Idx → EReal) (x3 : S1x8x20.Idx → EReal) : EReal :=
  ∑ r : Fin 96, ∑ l : Fin 128, Cert.Loss.regTerm (geoOf x2 r l) (pickOf x2 x3 r l) (inbOf i r l) (predOf x1 r l)
def numTotal (i : grid0.Coords) (x2 : S96x1024.Idx → EReal) (x3 : S1x8x20.Idx → EReal) : EReal :=
  ∑ r : Fin 96, ∑ l : Fin 128, Cert.Loss.bitVal (Cert.Loss.posBit (pickOf x2 x3 r l) (inbOf i r l))

theorem prob_eq (n : Fin 12288) (k : Fin 80) :
    k0_pay223 (View.readAt (Elt Ideal) arg2.view (Rect.unit (s := S1x12288x80) ![0, 0, 0] S1x12288x80.size inb_S1x12288x80_S1x12288x80_0_0_0).toLoadRect (harg2.unread x0)) (ix2 n k) = probOf x0 n k := by
  unfold k0_pay223 probOf
  pointwise
  rw [Memref.IsWhole.readAt_unread]
  refine congrArg x0 (funext fun a => Fin.ext ?_)
  match a with
  | ⟨0, _⟩ => rfl
  | ⟨1, _⟩ => show 0 + 1 * n.val = n.val; omega
  | ⟨2, _⟩ => show 0 + 1 * k.val = k.val; omega

theorem named_inv : (Named.named (F := Ideal) (φ := .f32) κ "inv_ln2" 1069066811#32) = invLn2 := IdealRules.named_const.ideal_named_scalar κ "inv_ln2" _ _ rfl
theorem named_neg : (Named.named (F := Ideal) (φ := .f32) κ "neg_scale" 3204781458#32) = negScale := IdealRules.named_const.ideal_named_scalar κ "neg_scale" _ _ rfl
theorem named_pos : (Named.named (F := Ideal) (φ := .f32) κ "pos_scale" 3190911512#32) = posScale := IdealRules.named_const.ideal_named_scalar κ "pos_scale" _ _ rfl

section
variable (w : FVec Ideal S96x128 .f32) (X : Vec Ideal S1x12288x80 .f32) (n : Fin 12288) (k : Fin 80)

/-- The classification's first term at row `n`, class `k`, -/
theorem neg_of : k0_pay227 w kernelRun0_B.sl.v1056 kernelRun0_B.sl.v1057 128#32 (remsi kernelRun0_B.sl.v1058 kernelRun0_B.sl.v1061) kernelRun0_B.sl.v1064 kernelRun0_B.sl.v1063 X (ix2 n k)
    = Cert.Loss.clsNeg invLn2 (w (ix2 (rowOf n) (laneOf n))) (k0_pay223 X (ix2 n k)) := by
  unfold k0_pay227 k0_pay225 k0_pay224
  pointwise [spread, named_inv, Cert.Loss.clsNeg]

/-- and its second. -/
theorem pos_of : Scalar.select (k0_pay226 w kernelRun0_B.sl.v1056 kernelRun0_B.sl.v1057 128#32 (remsi kernelRun0_B.sl.v1058 kernelRun0_B.sl.v1061) kernelRun0_B.sl.v1064 kernelRun0_B.sl.v1063 (ix2 n k))
      (k0_pay228 X (ix2 n k)) (k0_pay229 (F := Ideal) (ix2 n k))
    = Cert.Loss.clsPos invLn2 (w (ix2 (rowOf n) (laneOf n))) (k0_pay223 X (ix2 n k)) (FloatOps.sitofp (F := Ideal) .f32 (BitVec.ofNat 32 k.val)) := by
  unfold k0_pay226 k0_pay228 k0_pay225 k0_pay224 k0_pay229
  pointwise [spread, named_inv, Cert.Loss.clsPos]

end

theorem neg_eq (n : Fin 12288) (k : Fin 80) : kernelRun0_B.sl.r_141 c i arg2 harg2 arg4 harg4 arg5 harg5 x0 x2 x3 (ix2 n k) = Cert.Loss.clsNeg invLn2 (codeOf i x2 x3 n) (probOf x0 n k) := by
  unfold kernelRun0_B.sl.r_141
  rw [neg_of, prob_eq, v944_eq]
  rfl

theorem pos_eq (n : Fin 12288) (k : Fin 80) : Scalar.select (kernelRun0_B.sl.r_140 c i arg4 harg4 arg5 harg5 x2 x3 (ix2 n k)) (kernelRun0_B.sl.r_142 c arg2 harg2 x0 (ix2 n k)) (k0_pay229 (F := Ideal) (ix2 n k))
    = Cert.Loss.clsPos invLn2 (codeOf i x2 x3 n) (probOf x0 n k) (FloatOps.sitofp (F := Ideal) .f32 (BitVec.ofNat 32 k.val)) := by
  unfold kernelRun0_B.sl.r_140 kernelRun0_B.sl.r_142
  rw [pos_of, prob_eq, v944_eq]
  rfl

/-- A row of the result: the three totals in its first three lanes, zero in the others. -/
def outRow (a b d : EReal) (q : Fin 128) : EReal := (if q.val = 0 then a else 0) + (if q.val = 1 then b else 0) + (if q.val = 2 then d else 0)

theorem lane_select (a : EReal) (q : Fin 128) (j : ℕ) (hj : j < 2 ^ 31) : Scalar.select (IntOp.cmpi .eq (BitVec.ofNat 32 q.val) (BitVec.ofNat 32 j)) a 0 = if q.val = j then a else 0 := by
  rw [Cert.Loss.eq_word (by omega) hj]
  by_cases h : q.val = j <;> simp [h, Scalar.select]

/-- What the body computes for a block, in a row. -/
theorem row_eq (q : Fin 128) : k0_pay1 (kernelRun0_B.sl.v939 c i arg4 harg4 arg5 harg5 x2 x3) kernelRun0_B.sl.v1123 (kernelRun0_B.sl.r_143 c i arg2 harg2 arg3 harg3 arg4 harg4 arg5 harg5 x0 x1 x2 x3) (ix3 0 0 q)
    = outRow (clsTotal i x0 x2 x3) (regTotal i x1 x2 x3) (numTotal i x2 x3) q := by
  unfold kernelRun0_B.sl.r_143 k0_pay1 k0_pay230
  pointwise [kernelRun0_B.sl.v1123, reg_eq, count_eq, neg_eq, pos_eq, named_neg, named_pos]
  rw [lane_select _ q 0 (by decide), lane_select _ q 1 (by decide), lane_select _ q 2 (by decide)]
  rfl

end Cert.KernelIdeal.Hand

end
-- ==== Proof.LossWords.lean ====
/- The values of the float words the two programs are printed with, and what the terms of an anchor that is not of the
   array are. -/
module

public import proofs.«01_k».proof.Proof.BodyTail

@[expose] public section

set_option maxRecDepth 16384

noncomputable section

namespace Cert.Loss

open Idealize.ShloMosaic
open scoped EReal

theorem word_zero : word 0x00000000#32 = 0 := by simp [word, Ideal.ofBits, Ideal.ieee]
theorem word_one : word 0x3F800000#32 = 1 := by simp [word, Ideal.ofBits, Ideal.ieee, -EReal.coe_mul]; norm_num
theorem word_half : word 0x3F000000#32 = (((1 : ℝ) / 2 : ℝ) : EReal) := by simp [word, Ideal.ofBits, Ideal.ieee, -EReal.coe_mul]; norm_num
theorem word_two : word 0x40000000#32 = ((2 : ℝ) : EReal) := by simp [word, Ideal.ofBits, Ideal.ieee, -EReal.coe_mul]; norm_num
theorem word_three : word 0x40400000#32 = ((3 : ℝ) : EReal) := by simp [word, Ideal.ofBits, Ideal.ieee, -EReal.coe_mul]; norm_num
theorem word_neg_one : word 0xBF800000#32 = ((-1 : ℝ) : EReal) := by simp [word, Ideal.ofBits, Ideal.ieee, -EReal.coe_mul]; norm_num

/-- A choice on a comparison. -/
theorem sel (P : Prop) [Decidable P] (a b : EReal) : Scalar.select (BitVec.ofBool (decide P)) a b = if P then a else b := by
  unfold Scalar.select
  by_cases h : P <;> simp [h]

/-- A class's number. -/
theorem class_num {k : ℕ} (hk : k < 2 ^ 31) : FloatOps.sitofp (F := Ideal) .f32 (BitVec.ofNat 32 k) = ((k : ℝ) : EReal) := by
  show (((BitVec.ofNat 32 k).toInt : ℝ) : EReal) = _
  rw [WordArith.toInt_ofNat_small k hk]
  simp

/-- An anchor that is not of the array has code zero, -/
theorem code_out (p : Pick) : code p 0#1 = 0 := by
  unfold code useBit posBit
  rw [bitVal_eq]
  simp [Scalar.select]

/-- and a code of zero selects nothing. -/
theorem clsNeg_zero (κ c : EReal) : clsNeg κ 0 c = 0 := by
  unfold clsNeg
  rw [word_half, word_zero, Ideal.cmp_oge]
  have : ¬ ((((1 : ℝ) / 2 : ℝ) : EReal) ≤ 0) := by rw [not_le]; exact_mod_cast (by norm_num : (0 : ℝ) < 1 / 2)
  rw [sel, if_neg this]

theorem clsPos_zero (κ c : EReal) {k : ℕ} (hk : k < 2 ^ 31) : clsPos κ 0 c (FloatOps.sitofp (F := Ideal) .f32 (BitVec.ofNat 32 k)) = 0 := by
  unfold clsPos
  rw [class_num hk, word_two, word_zero, Ideal.cmp_oeq]
  have : ¬ (((k : ℝ) : EReal) = 0 - ((2 : ℝ) : EReal)) := by
    rw [zero_sub, ← EReal.coe_neg]
    intro h
    have := EReal.coe_eq_coe_iff.mp h
    have hk' : (0 : ℝ) ≤ k := Nat.cast_nonneg k
    linarith
  rw [sel, if_neg this]

end Cert.Loss

namespace Cert.KernelIdeal.Hand

open Cert.KernelIdeal Cert.KernelIdeal.Gen Idealize.ShloMosaic Idealize.ShloMosaic.Pointwise

/-- Anchor `r`, `l` of block `i` is of the array if its number is. -/
theorem inbOf_eq (i : grid0.Coords) (r : Fin 96) (l : Fin 128) : inbOf i r l = if (i 1).val * 12288 + r.val * 128 + l.val < 49104 then 1#1 else 0#1 := by
  have h1 : (i 1).val < 4 := (i 1).isLt
  have e : kernelRun0_B.sl.v924 i (ix2 r l) = BitVec.ofNat 32 ((i 1).val * 12288 + r.val * 128 + l.val) := by
    unfold kernelRun0_B.sl.v924 kernelRun0_B.sl.v923
    pointwise [kernelRun0_B.sl.v922, kernelRun0_B.sl.v917, kernelRun0_B.sl.v918, kernelRun0_B.sl.v920, kernelRun0_B.sl.v919]
    unfold IntOp.addi IntOp.muli Scalar.muli
    simp only [BitVec.ofNat_add, BitVec.ofNat_mul]
    rfl
  show IntOp.cmpi .slt (kernelRun0_B.sl.v924 i (ix2 r l)) 49104#32 = _
  rw [e]
  unfold IntOp.cmpi
  simp only [BitVec.slt, WordArith.toInt_ofNat_small ((i 1).val * 12288 + r.val * 128 + l.val) (by omega)]
  by_cases h : (i 1).val * 12288 + r.val * 128 + l.val < 49104
  · have h' : (((i 1).val * 12288 + r.val * 128 + l.val : ℕ) : ℤ) < (49104#32).toInt := by simpa using (by exact_mod_cast h)
    rw [if_pos h, decide_eq_true h']; rfl
  · have h' : ¬ (((i 1).val * 12288 + r.val * 128 + l.val : ℕ) : ℤ) < (49104#32).toInt := by
      have : (49104#32).toInt = 49104 := by decide
      rw [this]; omega
    rw [if_neg h, decide_eq_false h']; rfl

/-- A block's classification total reads the block only at the anchors of the array. -/
theorem clsTotal_congr (i : grid0.Coords) (x0 x0' : S1x12288x80.Idx → EReal) (x2 : S96x1024.Idx → EReal) (x3 : S1x8x20.Idx → EReal)
    (h : ∀ (n : Fin 12288) (k : Fin 80), inbOf i (rowOf n) (laneOf n) ≠ 0#1 → probOf x0 n k = probOf x0' n k) :
    clsTotal i x0 x2 x3 = clsTotal i x0' x2 x3 := by
  unfold clsTotal
  have e1 : (∑ n : Fin 12288, ∑ k : Fin 80, Cert.Loss.clsNeg invLn2 (codeOf i x2 x3 n) (probOf x0 n k)) = ∑ n : Fin 12288, ∑ k : Fin 80, Cert.Loss.clsNeg invLn2 (codeOf i x2 x3 n) (probOf x0' n k) := by
    refine Finset.sum_congr rfl fun n _ => Finset.sum_congr rfl fun k _ => ?_
    by_cases hn : inbOf i (rowOf n) (laneOf n) = 0#1
    · unfold codeOf; rw [hn, Cert.Loss.code_out, Cert.Loss.clsNeg_zero, Cert.Loss.clsNeg_zero]
    · rw [h n k hn]
  have e2 : (∑ n : Fin 12288, ∑ k : Fin 80, Cert.Loss.clsPos invLn2 (codeOf i x2 x3 n) (probOf x0 n k) (FloatOps.sitofp (F := Ideal) .f32 (BitVec.ofNat 32 k.val)))
      = ∑ n : Fin 12288, ∑ k : Fin 80, Cert.Loss.clsPos invLn2 (codeOf i x2 x3 n) (probOf x0' n k) (FloatOps.sitofp (F := Ideal) .f32 (BitVec.ofNat 32 k.val)) := by
    refine Finset.sum_congr rfl fun n _ => Finset.sum_congr rfl fun k _ => ?_
    by_cases hn : inbOf i (rowOf n) (laneOf n) = 0#1
    · unfold codeOf; rw [hn, Cert.Loss.code_out, Cert.Loss.clsPos_zero _ _ (by omega), Cert.Loss.clsPos_zero _ _ (by omega)]
    · rw [h n k hn]
  rw [e1, e2]

end Cert.KernelIdeal.Hand

end
-- ==== Proof.KernelIdealValue.lean ====
/- The launch of `KernelIdeal` over the extended reals, run with its output named: at a batch's first block the output
   row is the block's totals, and at every later block it is what it was with the block's totals added. -/
module

public import proofs.«01_k».proof.Proof.KernelIdealFrame
public import proofs.«01_k».proof.Proof.LossWords
public import Idealize.ShloMosaic.Lib.VecWindow

@[expose] public section

set_option maxRecDepth 16384

noncomputable section

namespace Cert.KernelIdeal.Value

open Cert.KernelIdeal Cert.KernelIdeal.Gen Cert.KernelIdeal.Hand
open Idealize.ShloMosaic Idealize.ShloMosaic.TcCoe Idealize.ShloMosaic.Tactic Idealize.ShloMosaic.Pointwise
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## What window 0's buffer holds at the anchors of the array -/

theorem xsize0 : ∀ (t : Fin cfg0.N) (a : Fin 3), win0_0.xsize (grid0.coords t) a = (![1, if t.val % 4 = 3 then 12240 else 12288, 80] : Fin 3 → ℕ) a := by decide +kernel

theorem coord1 (t : Fin cfg0.N) : (grid0.coords t 1).val = t.val % 4 := by
  have h : (grid0.coords t 1).val = t.val / 1 % 4 := Pipeline.Grid.coords_val t 1 (by decide) rfl
  rw [h, Nat.div_one]
theorem coord0 (t : Fin cfg0.N) : (grid0.coords t 0).val = t.val / 4 := by
  have h : (grid0.coords t 0).val = t.val / 4 % 8 := Pipeline.Grid.coords_val t 0 (by decide) rfl
  have hN : t.val < 32 := lt_of_lt_of_eq t.isLt (show cfg0.N = 32 from N_0)
  omega

/-- A row of the block that is an anchor of the array is moved by the block's transfer. -/
theorem moved0 (t : Fin cfg0.N) (n : Fin 12288) (k : Fin 80) (h : inbOf (grid0.coords t) (rowOf n) (laneOf n) ≠ 0#1) :
    win0_0.moved (grid0.coords t) (ix3 0 n k) = true := by
  rw [Window.moved_iff]
  rw [inbOf_eq, coord1] at h
  have hn : t.val % 4 * 12288 + n.val / 128 * 128 + n.val % 128 < 49104 := by
    by_contra hc
    exact h (if_neg hc)
  intro a
  have e := xsize0 t a
  match a with
  | ⟨0, _⟩ => exact lt_of_lt_of_eq (show 0 < 1 by omega) e.symm
  | ⟨1, _⟩ =>
    refine lt_of_lt_of_eq (show n.val < if t.val % 4 = 3 then 12240 else 12288 from ?_) e.symm
    have := n.isLt
    split <;> omega
  | ⟨2, _⟩ => exact lt_of_lt_of_eq k.isLt e.symm

/-- So the classification total is the same whatever the buffer held past the array's end. -/
theorem clsTotal_fill (c : Dev nD) (t : Fin cfg0.N) (d : S1x12288x80.Idx → EReal) (x2 : S96x1024.Idx → EReal) (x3 : S1x8x20.Idx → EReal) :
    clsTotal (grid0.coords t) (win0_0.fill (grid0.coords t) d (iblk m c 0 t)) x2 x3 = clsTotal (grid0.coords t) (clsBlk m c t) x2 x3 :=
  clsTotal_congr _ _ _ _ _ fun n k h => by
    unfold probOf clsBlk Window.fill
    rw [dif_pos (moved0 t n k h), dif_pos (moved0 t n k h)]

/-! ## What the output holds -/

/-- The totals of the block at point `t`, as a row. -/
def blkRow (c : Dev nD) (t : Fin cfg0.N) : S1x1x128.Idx → EReal := fun y =>
  outRow (clsTotal (grid0.coords t) (clsBlk m c t) (iblk m c 2 t) (iblk m c 3 t)) (regTotal (grid0.coords t) (iblk m c 1 t) (iblk m c 2 t) (iblk m c 3 t))
    (numTotal (grid0.coords t) (iblk m c 2 t) (iblk m c 3 t)) (y 2)

/-- What the output's buffer holds after the body at point `n`. -/
def outsAt (c : Dev nD) : (n : ℕ) → n < cfg0.N → S1x1x128.Idx → EReal
  | 0, hn => blkRow m c ⟨0, hn⟩
  | n + 1, hn => if (n + 1) % 4 = 0 then blkRow m c ⟨n + 1, hn⟩ else fun y => outsAt c n (Nat.lt_of_succ_lt hn) y + blkRow m c ⟨n + 1, hn⟩ y

theorem outsAt_A (c : Dev nD) (t : Fin cfg0.N) (h0 : t.val % 4 = 0) : outsAt m c t.val t.isLt = blkRow m c t := by
  obtain ⟨n, hn⟩ := t
  cases n with
  | zero => exact rfl
  | succ n => exact if_pos h0

theorem outsAt_B (c : Dev nD) (t : Fin cfg0.N) (h0 : ¬t.val % 4 = 0) :
    outsAt m c t.val t.isLt = fun y => outsAt m c (t.val - 1) (Nat.lt_of_le_of_lt (Nat.sub_le _ _) t.isLt) y + blkRow m c t y := by
  obtain ⟨n, hn⟩ := t
  cases n with
  | zero => exact absurd rfl h0
  | succ n => exact if_neg h0

/-! ## What the body's pieces leave -/

section
variable (c : Dev nD) (i : grid0.Coords) (arg2 : Memref sig .tc .vmem S1x12288x80 .f32) (harg2 : arg2.IsWhole) (arg3 : Memref sig .tc .vmem S1x96x512 .f32) (harg3 : arg3.IsWhole)
  (arg4 : Memref sig .tc .vmem S96x1024 .f32) (harg4 : arg4.IsWhole) (arg5 : Memref sig .tc .smem S1x8x20 .f32) (harg5 : arg5.IsWhole) (arg6 : Memref sig .tc .vmem S1x1x128 .f32) (harg6 : arg6.IsWhole)
  (x0 : Vec Ideal S1x12288x80 .f32) (x1 : Vec Ideal S1x96x512 .f32) (x2 : Vec Ideal S96x1024 .f32) (x3 : Vec Ideal S1x8x20 .f32) (xo4 : Vec Ideal S1x1x128 .f32)

/-- The row the body computes. -/
abbrev bodyRow : S1x1x128.Idx → EReal := fun y => outRow (clsTotal i x0 x2 x3) (regTotal i x1 x2 x3) (numTotal i x2 x3) (y 2)

theorem row_idx (y : S1x1x128.Idx) : y = ix3 0 0 (y 2) := by
  funext a
  match a with
  | ⟨0, _⟩ => exact Subsingleton.elim (α := Fin 1) _ _
  | ⟨1, _⟩ => exact Subsingleton.elim (α := Fin 1) _ _
  | ⟨2, _⟩ => rfl

theorem read_A (hc0 : cond0_0 i) (hc1 : ¬cond0_1 i) (e4 : arg6.view.ty.Contents (Elt Ideal)) :
    arg6.view.read (Elt Ideal) (arg6.view.writes (Elt Ideal) e4 (kernelRun0_A c i arg2 harg2 arg3 harg3 arg4 harg4 arg5 harg5 arg6 harg6 hc0 hc1 x0 x1 x2 x3).1)
      = bodyRow i x0 x1 x2 x3 := by
  unfold kernelRun0_A
  dsimp only
  refine (View.read_writes_full arg6.view e4 inb_S1x1x128_S1x1x128_0_0_0 _ []).trans (funext fun y => ?_)
  rw [row_idx y]
  exact row_eq c i arg2 harg2 arg3 harg3 arg4 harg4 arg5 harg5 x0 x1 x2 x3 (y 2)

/-- The row added to what was there. -/
theorem pay2_eq (a : EReal) (b : IVec S1x1x128 32) (d : FVec Ideal S1x1x128 .f32) (X : FVec Ideal S1x1x128 .f32) (q : Fin 128) : k0_pay2 a b d X (ix3 0 0 q) = X (ix3 0 0 q) + k0_pay1 a b d (ix3 0 0 q) := by
  unfold k0_pay2
  pointwise

theorem read_B (hc0 : ¬cond0_0 i) (hc1 : cond0_1 i) (e4 : arg6.view.ty.Contents (Elt Ideal)) :
    arg6.view.read (Elt Ideal) (arg6.view.writes (Elt Ideal) e4 (kernelRun0_B c i arg2 harg2 arg3 harg3 arg4 harg4 arg5 harg5 arg6 harg6 hc0 hc1 x0 x1 x2 x3 xo4).1)
      = fun y => xo4 y + bodyRow i x0 x1 x2 x3 y := by
  unfold kernelRun0_B
  dsimp only
  refine (View.read_writes_full arg6.view e4 inb_S1x1x128_S1x1x128_0_0_0 _ []).trans (funext fun y => ?_)
  rw [row_idx y]
  refine (pay2_eq _ _ _ _ (y 2)).trans ?_
  refine congrArg₂ (· + ·) ?_ (row_eq c i arg2 harg2 arg3 harg3 arg4 harg4 arg5 harg5 x0 x1 x2 x3 (y 2))
  exact congrFun ((View.readAt_full arg6.view _ inb_S1x1x128_S1x1x128_0_0_0).trans (harg6.read_unread xo4)) _
end

/-! ## The proof data -/

/-- The proof data on core `c`: the arrays as the region finds them, each input's buffer left at its block, the output's
    at `outsAt`. -/
def dats (_ : Fin 1) (c : Dev nD) : Dat τ (Elt Ideal) Unit ℕ (UR sig nD τ) ℕ cfg0 c where
  A w := V m c (Pipeline.arrRef spec0 w)
  after w t := match w with
    | ⟨0, _⟩ => clsBlk m c t
    | ⟨1, _⟩ => iblk m c 1 t
    | ⟨2, _⟩ => iblk m c 2 t
    | ⟨3, _⟩ => iblk m c 3 t
    | ⟨4, _⟩ => outsAt m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = clsBlk m c t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outsAt m c t.val t.isLt := by dsimp only [dats]

theorem before0_0 (c : Dev nD) (t : Fin cfg0.N) (d) :
    (dats m 0 c).before 0 t d = win0_0.fill (grid0.coords t) d (iblk m c 0 t) := by
  unfold Dat.before; rw [if_pos (Hand.fetch0_0 t)]; rfl
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- No point leaves the output's buffer idle, so nothing is carried. -/
theorem hcarry0_4 (c : Dev nD) : ∀ (t : Fin cfg0.N) (_ : t.val ≠ 0), cfg0.idle 4 (grid0.coords t) = true → cfg0.fresh 4 t.val = false →
    (dats m 0 c).after 4 t = (dats m 0 c).after 4 ⟨t.val - 1, by omega⟩ := by
  intro t _ hi _
  exfalso
  by_cases h0 : t.val % 4 = 0
  · rw [liveAt0_4_A t ((hcond0_0 t).mpr h0) (fun h => absurd ((hcond0_1 t).mp h) (by omega))] at hi
    exact absurd hi Bool.false_ne_true
  · rw [liveAt0_4_B t (fun h => h0 ((hcond0_0 t).mp h)) ((hcond0_1 t).mpr (by omega))] at hi
    exact absurd hi Bool.false_ne_true

/-- At a later block of a batch the output's buffer holds what the point before left. -/
theorem before0_4_B (c : Dev nD) (t : Fin cfg0.N) (h0 : ¬t.val % 4 = 0) (h1 : 1 ≤ t.val % 4) (d) :
    (dats m 0 c).before 4 t d = outsAt m c (t.val - 1) (Nat.lt_of_le_of_lt (Nat.sub_le _ _) t.isLt) := by
  rw [Dat.before_out_traj _ 4 rfl (fun _ _ => rfl) (hcarry0_4 m c) t.val t rfl d,
    if_neg (by rw [notFresh0_4_B t (fun h => h0 ((hcond0_0 t).mp h)) ((hcond0_1 t).mpr h1)]; exact Bool.false_ne_true)]
  dsimp only [dats]

/-! ## The body at any point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (∃ d, owns (c : Thread nD τ) (ms0_0 t) fullShare (win0_0.fill (grid0.coords t) d (win0_0.cut (grid0.coords t) ((dats m 0 c).after 0 t))))
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

/-- The row the body computes is the block's, whatever window 0's buffer held past the array's end. -/
theorem bodyRow_eq (c : Dev nD) (t : Fin cfg0.N) (d : S1x12288x80.Idx → EReal) :
    bodyRow (grid0.coords t) (win0_0.fill (grid0.coords t) d (iblk m c 0 t)) (iblk m c 1 t) (iblk m c 2 t) (iblk m c 3 t) = blkRow m c t := by
  funext y
  unfold bodyRow blkRow
  rw [clsTotal_fill m c t d]

set_option maxHeartbeats 800000 in
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, after0_0, after0_1, after0_2, after0_3, after0_4, cut_clsBlk]
  rw [show (dats m 0 c).Φ t.succ = (dats m 0 c).Φ t.castSucc from rfl,
    show (dats m 0 c).owesAt () t.succ = (dats m 0 c).owesAt () t.castSucc from rfl]
  by_cases h0 : t.val % 4 = 0
  · have h1 : ¬1 ≤ t.val % 4 := by omega
    rw [outsAt_A m c t h0]
    iintro ⟨HΦ, Ho, ⟨%d0, H0⟩, ⟨%d1, H1⟩, ⟨%d2, H2⟩, ⟨%d3, H3⟩, ⟨%d4, H4⟩⟩
    iapply ((kernelRun0_A c (grid0.coords t) _ _ _ _ _ _ _ _ _ _ ((hcond0_0 t).mpr h0) (fun h => h1 ((hcond0_1 t).mp h)) (win0_0.fill (grid0.coords t) d0 (iblk m c 0 t)) (iblk m c 1 t) (iblk m c 2 t) (iblk m c 3 t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e4, H4⟩⟩
    isplitl [HΦ]; · iexact HΦ
    isplitl [Ho]; · iexact Ho
    isplitl [H0]; · iexists d0; erw [cut_clsBlk m c t]; iexact H0
    isplitl [H1]; · iexact H1
    isplitl [H2]; · iexact H2
    isplitl [H3]; · iexact H3
    unfold owns; iexists _; isplitr
    swap; · iexact H4
    ipureintro
    exact (read_A c (grid0.coords t) _ _ _ _ _ _ _ _ _ _ _ _ _ _ _ _ e4).trans (bodyRow_eq m c t d0)
  · have h1 : 1 ≤ t.val % 4 := by omega
    rw [outsAt_B m c t h0]
    simp only [before0_4_B m c t h0 h1]
    iintro ⟨HΦ, Ho, ⟨%d0, H0⟩, ⟨%d1, H1⟩, ⟨%d2, H2⟩, ⟨%d3, H3⟩, ⟨%d4, H4⟩⟩
    iapply ((kernelRun0_B c (grid0.coords t) _ _ _ _ _ _ _ _ _ _ (fun h => h0 ((hcond0_0 t).mp h)) ((hcond0_1 t).mpr h1) (win0_0.fill (grid0.coords t) d0 (iblk m c 0 t)) (iblk m c 1 t) (iblk m c 2 t) (iblk m c 3 t) (outsAt m c (t.val - 1) (Nat.lt_of_le_of_lt (Nat.sub_le _ _) t.isLt))).2 Set.univ _)
    isplitl [H0]; · iexact H0
    isplitl [H1]; · iexact H1
    isplitl [H2]; · iexact H2
    isplitl [H3]; · iexact H3
    isplitl [H4]; · iexact H4
    iintro ⟨H0, H1, H2, H3, ⟨%e4, H4⟩⟩
    isplitl [HΦ]; · iexact HΦ
    isplitl [Ho]; · iexact Ho
    isplitl [H0]; · iexists d0; erw [cut_clsBlk m c t]; iexact H0
    isplitl [H1]; · iexact H1
    isplitl [H2]; · iexact H2
    isplitl [H3]; · iexact H3
    unfold owns; iexists _; isplitr
    swap; · iexact H4
    ipureintro
    refine (read_B c (grid0.coords t) _ _ _ _ _ _ _ _ _ _ _ _ _ _ _ _ _ e4).trans (funext fun y => ?_)
    exact congrArg (_ + ·) (congrFun (bodyRow_eq m c t d0) y)

theorem body_obligation (c : Dev nD) : BodyObligationLoose (dats m 0 c) (defs₀ (F := Ideal)) Variants.none () Set.univ := fun t => by
  rw [bigSep_W0, bigSep_W0, defs₀_row]
  have live4 : cfg0.idle 4 (grid0.coords t) = false := by
    by_cases h0 : t.val % 4 = 0
    · exact liveAt0_4_A t ((hcond0_0 t).mpr h0) (fun h => absurd ((hcond0_1 t).mp h) (by omega))
    · exact liveAt0_4_B t (fun h => h0 ((hcond0_0 t).mp h)) ((hcond0_1 t).mpr (by omega))
  have live4' : cfg0.idle 4 (cfg0.grid.coords t) = false := live4
  rw [live4']
  exact triple_restated (sound_body m c t) rfl .rfl fun _ => .rfl

/-! ## The run -/

set_option backward.isDefEq.respectTransparency.types false in
set_option maxHeartbeats 800000 in
theorem run_main : θ_run defs (onTc (τ := τ) (main (F := Ideal))) (s₀ m ρ) (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

end Cert.KernelIdeal.Value

end
-- ==== Proof.KernelIdealOut.lean ====
/- The launch's windows of `KernelIdeal`, entry by entry: what an input's block holds of its array, and what the output
   array holds at the end, one row a batch, each the sum of its four blocks' totals. -/
module

public import proofs.«01_k».proof.Proof.KernelIdealValue

@[expose] public section

set_option maxRecDepth 16384

noncomputable section

namespace Cert.KernelIdeal.Value

open Cert.KernelIdeal Cert.KernelIdeal.Gen Cert.KernelIdeal.Hand
open Idealize.ShloMosaic Idealize.ShloMosaic.TcCoe Idealize.ShloMosaic.Tactic Idealize.ShloMosaic.Pointwise
open Idealize.SL Idealize.SL.RA
open Idealize.ShloMosaic.Pipeline (Dat Cfg Window)

variable (m : (ℓ : Loc nD τ sig) → Buf (Elt Ideal) ℓ) (ρ : Dev nD → PrngReg)

theorem lt32 (t : Fin cfg0.N) : t.val < 32 := lt_of_lt_of_eq t.isLt (show cfg0.N = 32 from N_0)

theorem idx0 : ∀ (t : Fin cfg0.N), win0_0.index t = ![t.val / 4, t.val % 4, 0] := by decide +kernel
theorem idx1 : ∀ (t : Fin cfg0.N), win0_1.index t = ![t.val / 4, t.val % 4, 0] := by decide +kernel
theorem idx2 : ∀ (t : Fin cfg0.N), win0_2.index t = ![t.val % 4, 0] := by decide +kernel
theorem idx3 : ∀ (t : Fin cfg0.N), win0_3.index t = ![t.val / 4, 0, 0] := by decide +kernel
theorem idx4 : ∀ (t : Fin cfg0.N), win0_4.index t = ![t.val / 4, 0, 0] := by decide +kernel

/-! ## The inputs' blocks -/

theorem iblk1_at (c : Dev nD) (t : Fin cfg0.N) (p : Fin 96) (q : Fin 512) :
    (iblk m c 1 t : S1x96x512.Idx → EReal) (ix3 0 p q) = (V m c main_call0_v30 : S8x384x512.Idx → EReal) (ix3 ⟨t.val / 4, by have := lt32 t; omega⟩ ⟨t.val % 4 * 96 + p.val, by omega⟩ q) := by
  refine congrArg (V m c main_call0_v30 : S8x384x512.Idx → EReal) (funext fun a => Fin.ext ?_)
  have e := idx1 t
  match a with
  | ⟨0, _⟩ => show win0_1.index t 0 * 1 + 1 * 0 = t.val / 4; rw [e]; show t.val / 4 * 1 + 1 * 0 = _; omega
  | ⟨1, _⟩ => show win0_1.index t 1 * 96 + 1 * p.val = _; rw [e]; show t.val % 4 * 96 + 1 * p.val = t.val % 4 * 96 + p.val; omega
  | ⟨2, _⟩ => show win0_1.index t 2 * 512 + 1 * q.val = q.val; rw [e]; show 0 * 512 + 1 * q.val = q.val; omega

theorem iblk2_at (c : Dev nD) (t : Fin cfg0.N) (p : Fin 96) (q : Fin 1024) :
    (iblk m c 2 t : S96x1024.Idx → EReal) (ix2 p q) = (V m c main_call0_v25 : S384x1024.Idx → EReal) (ix2 ⟨t.val % 4 * 96 + p.val, by omega⟩ q) := by
  refine congrArg (V m c main_call0_v25 : S384x1024.Idx → EReal) (funext fun a => Fin.ext ?_)
  have e := idx2 t
  match a with
  | ⟨0, _⟩ => show win0_2.index t 0 * 96 + 1 * p.val = _; rw [e]; show t.val % 4 * 96 + 1 * p.val = t.val % 4 * 96 + p.val; omega
  | ⟨1, _⟩ => show win0_2.index t 1 * 1024 + 1 * q.val = q.val; rw [e]; show 0 * 1024 + 1 * q.val = q.val; omega

theorem iblk3_at (c : Dev nD) (t : Fin cfg0.N) (p : Fin 8) (q : Fin 20) :
    (iblk m c 3 t : S1x8x20.Idx → EReal) (ix3 0 p q) = (V m c main_call0_v51 : S8x8x20.Idx → EReal) (ix3 ⟨t.val / 4, by have := lt32 t; omega⟩ p q) := by
  refine congrArg (V m c main_call0_v51 : S8x8x20.Idx → EReal) (funext fun a => Fin.ext ?_)
  have e := idx3 t
  match a with
  | ⟨0, _⟩ => show win0_3.index t 0 * 1 + 1 * 0 = t.val / 4; rw [e]; show t.val / 4 * 1 + 1 * 0 = _; omega
  | ⟨1, _⟩ => show win0_3.index t 1 * 8 + 1 * p.val = p.val; rw [e]; show 0 * 8 + 1 * p.val = p.val; omega
  | ⟨2, _⟩ => show win0_3.index t 2 * 20 + 1 * q.val = q.val; rw [e]; show 0 * 20 + 1 * q.val = q.val; omega

/-- The classification block at a row that is an anchor of the array. -/
theorem cls_at (c : Dev nD) (t : Fin cfg0.N) (n : Fin 12288) (k : Fin 80) (a : Fin 49104) (ha : a.val = t.val % 4 * 12288 + n.val) :
    probOf (clsBlk m c t) n k = (m (c, Proc.devRef .tc main_arg0) : S8x49104x80.Idx → EReal) (ix3 ⟨t.val / 4, by have := lt32 t; omega⟩ a k) := by
  have hb : inbOf (grid0.coords t) (rowOf n) (laneOf n) ≠ 0#1 := by
    rw [inbOf_eq, coord1, if_pos (show t.val % 4 * 12288 + (rowOf n).val * 128 + (laneOf n).val < 49104 by
      have := a.isLt
      show t.val % 4 * 12288 + n.val / 128 * 128 + n.val % 128 < 49104
      omega)]
    decide
  unfold probOf clsBlk Window.fill
  rw [dif_pos (moved0 t n k hb)]
  rw [show (m (c, Proc.devRef .tc main_arg0) : S8x49104x80.Idx → EReal) = V m c main_arg0 from (V_keep m c main_arg0 (by decide)).symm]
  refine congrArg (V m c main_arg0 : S8x49104x80.Idx → EReal) (funext fun x => Fin.ext ?_)
  have e := idx0 t
  match x with
  | ⟨0, _⟩ => show win0_0.index t 0 * 1 + 1 * 0 = t.val / 4; rw [e]; show t.val / 4 * 1 + 1 * 0 = _; omega
  | ⟨1, _⟩ => show win0_0.index t 1 * 12288 + 1 * n.val = a.val; rw [e, ha]; show t.val % 4 * 12288 + 1 * n.val = t.val % 4 * 12288 + n.val; omega
  | ⟨2, _⟩ => show win0_0.index t 2 * 80 + 1 * k.val = k.val; rw [e]; show 0 * 80 + 1 * k.val = k.val; omega

/-! ## The output array -/

/-- The point of batch `b`'s block `i`. -/
def pt (b : Fin 8) (i : Fin 4) : Fin cfg0.N := ⟨4 * b.val + i.val, by rw [show cfg0.N = 32 from N_0]; omega⟩

/-- The row of a batch: its four blocks' totals, added in order. -/
def outArr (c : Dev nD) : S8x1x128.Idx → EReal := fun y =>
  blkRow m c (pt (y 0) 0) (ix3 0 0 (y 2)) + blkRow m c (pt (y 0) 1) (ix3 0 0 (y 2)) + blkRow m c (pt (y 0) 2) (ix3 0 0 (y 2)) + blkRow m c (pt (y 0) 3) (ix3 0 0 (y 2))

theorem outsAt_last (c : Dev nD) (b : Fin 8) (y : S1x1x128.Idx) :
    outsAt m c (pt b 3).val (pt b 3).isLt y = blkRow m c (pt b 0) y + blkRow m c (pt b 1) y + blkRow m c (pt b 2) y + blkRow m c (pt b 3) y := by
  rw [outsAt_B m c (pt b 3) (by show ¬(4 * b.val + 3) % 4 = 0; omega)]
  have e2 := congrFun (outsAt_B m c (pt b 2) (by show ¬(4 * b.val + 2) % 4 = 0; omega)) y
  have e1 := congrFun (outsAt_B m c (pt b 1) (by show ¬(4 * b.val + 1) % 4 = 0; omega)) y
  have e0 := congrFun (outsAt_A m c (pt b 0) (by show (4 * b.val + 0) % 4 = 0; omega)) y
  refine congrArg (· + _) (e2.trans (congrArg (· + _) (e1.trans (congrArg (· + _) e0))))

theorem flushed4_eq (c : Dev nD) (t : Fin cfg0.N) (hf : (cfg0.win 4).flush t = true) :
    (dats m 0 c).flushed 4 t = ((cfg0.win 4).blk t).view.read (Elt Ideal) (outArr m c) := by
  have h3 : t.val % 4 = 3 := (flush0_4 t).mp hf
  have ht := lt32 t
  obtain ⟨b, rfl⟩ : ∃ b : Fin 8, t = pt b 3 := ⟨⟨t.val / 4, by omega⟩, Fin.ext (show t.val = 4 * (t.val / 4) + 3 by omega)⟩
  show (cfg0.win 4).cut (grid0.coords (pt b 3)) ((dats m 0 c).after 4 (pt b 3)) = _
  rw [after0_4]
  funext y
  have e := idx4 (pt b 3)
  have h2 : (y 2).val < 128 := (y 2).isLt
  have hy : ((cfg0.win 4).blk (pt b 3)).view.emb y = (ix3 b 0 ⟨(y 2).val, h2⟩ : S8x1x128.Idx) := funext fun a => Fin.ext (by
    match a with
    | ⟨0, _⟩ =>
      show win0_4.index (pt b 3) 0 * 1 + 1 * (y 0).val = b.val
      have : (y 0).val < 1 := (y 0).isLt
      rw [e]; show (4 * b.val + 3) / 4 * 1 + 1 * (y 0).val = b.val; omega
    | ⟨1, _⟩ =>
      show win0_4.index (pt b 3) 1 * 1 + 1 * (y 1).val = 0
      have : (y 1).val < 1 := (y 1).isLt
      rw [e]; show 0 * 1 + 1 * (y 1).val = 0; omega
    | ⟨2, _⟩ =>
      show win0_4.index (pt b 3) 2 * 128 + 1 * (y 2).val = (y 2).val
      rw [e]; show 0 * 128 + 1 * (y 2).val = (y 2).val; omega)
  refine (outsAt_last m c b y).trans ?_
  refine Eq.trans ?_ (congrArg (outArr m c) hy).symm
  exact congrArg (fun z : S1x1x128.Idx => blkRow m c (pt b 0) z + blkRow m c (pt b 1) z + blkRow m c (pt b 2) z + blkRow m c (pt b 3) z) (row_idx y)

theorem covered4 (i : S8x1x128.Idx) : ∃ t : Fin cfg0.N, (cfg0.win 4).flush t = true ∧ i ∈ ((cfg0.win 4).blk t).view.set := by
  refine ⟨pt (i 0) 3, (flush0_4 _).mpr (show (4 * (i 0).val + 3) % 4 = 3 by omega), ?_⟩
  show i ∈ ((View.whole main_call0_v52).slice (win0_4.rect (pt (i 0) 3))).set
  rw [View.set_slice_whole, Rect.mem_set_unit]
  have e := idx4 (pt (i 0) 3)
  have x : ∀ t : Fin cfg0.N, win0_4.xsize (grid0.coords t) = ![1, 1, 128] := by decide +kernel
  have ex := x (pt (i 0) 3)
  have h0 : (i 0).val < 8 := (i 0).isLt
  have h1 : (i 1).val < 1 := (i 1).isLt
  have h2 : (i 2).val < 128 := (i 2).isLt
  intro a
  match a with
  | ⟨0, _⟩ =>
    show win0_4.index (pt (i 0) 3) 0 * 1 ≤ (i 0).val ∧ (i 0).val < win0_4.index (pt (i 0) 3) 0 * 1 + win0_4.xsize (grid0.coords (pt (i 0) 3)) 0
    rw [e, ex]; show (4 * (i 0).val + 3) / 4 * 1 ≤ (i 0).val ∧ (i 0).val < (4 * (i 0).val + 3) / 4 * 1 + 1; omega
  | ⟨1, _⟩ =>
    show win0_4.index (pt (i 0) 3) 1 * 1 ≤ (i 1).val ∧ (i 1).val < win0_4.index (pt (i 0) 3) 1 * 1 + win0_4.xsize (grid0.coords (pt (i 0) 3)) 1
    rw [e, ex]; show 0 * 1 ≤ (i 1).val ∧ (i 1).val < 0 * 1 + 1; omega
  | ⟨2, _⟩ =>
    show win0_4.index (pt (i 0) 3) 2 * 128 ≤ (i 2).val ∧ (i 2).val < win0_4.index (pt (i 0) 3) 2 * 128 + win0_4.xsize (grid0.coords (pt (i 0) 3)) 2
    rw [e, ex]; show 0 * 128 ≤ (i 2).val ∧ (i 2).val < 0 * 128 + 128; omega

theorem final4 (c : Dev nD) : (dats m 0 c).arrAt 4 cfg0.N = outArr m c :=
  (dats m 0 c).arrAt_eq_of_cover 4 (outArr m c) (flushed4_eq m c) covered4

end Cert.KernelIdeal.Value

end
-- ==== Proof.LossTotal.lean ====
/- The two results from a batch's three sums. -/
module

public import proofs.«01_k».proof.Proof.LossDefs

@[expose] public section

noncomputable section

namespace Cert.Loss

open Idealize.ShloMosaic

/-- The two results, from each batch's classification sum, regression sum and count: the mean over the batches of each sum
    over its count. -/
def total (C R N : Fin 8 → EReal) (q : Fin 2) : EReal :=
  if q.val < 1 then Ideal.div (∑ x, Ideal.div (C x) (max 1 (N x))) (word 0x41000000#32)
  else Ideal.div (∑ x, if 0 < N x then Ideal.div (R x) (max 1 (N x * word 0x40800000#32)) else 0) (word 0x41000000#32)

end Cert.Loss

end
-- ==== Proof.KernelIdealRun.lean ====
/- `KernelIdeal`'s run with its result named: the two results of each batch's three sums. -/
module

public import proofs.«01_k».proof.Proof.KernelIdealOut
public import proofs.«01_k».proof.Proof.LossTotal
public import Idealize.ShloMosaic.Lib.StableHlo.ReadAt

@[expose] public section

set_option maxRecDepth 16384

noncomputable section

namespace Cert.KernelIdeal.Value

open Cert.KernelIdeal Cert.KernelIdeal.Gen Cert.KernelIdeal.Hand
open Idealize.ShloMosaic Idealize.ShloMosaic.TcCoe Idealize.ShloMosaic.Tactic Idealize.ShloMosaic.Pointwise Idealize.ShloMosaic.StableHlo
open Idealize.SL Idealize.SL.RA Idealize.SL.Sem
open Idealize.ShloMosaic.Pipeline (Dat Cfg Window)

variable (m : (ℓ : Loc nD τ sig) → Buf (Elt Ideal) ℓ) (ρ : Dev nD → PrngReg)

/-- What the operations after the launch make of the output array. -/
theorem tail_at (W : Valuation τ sig (Elt Ideal)) (X : S8x1x128.Idx → EReal) (hX : W (Proc.devRef .tc main_call0_v52) = X) (y : S2.Idx) :
    (StableHlo.after hostOps1 W (Proc.devRef .tc main_v0) : S2.Idx → EReal) y
      = Cert.Loss.total (fun b => X (ix3 b 0 0)) (fun b => X (ix3 b 0 1)) (fun b => X (ix3 b 0 2)) (y 0) := by
  subst hX
  have h1 : (id (constant (F := Ideal) S_ .f32 0x3F800000#32) ix0 : EReal) = 1 := Cert.Loss.word_one
  have h0 : (id (constant (F := Ideal) S_ .f32 0#32) ix0 : EReal) = 0 := Cert.Loss.word_zero
  after_reads_at
  after_reads_at
  rw [h1, h0]
  by_cases h : (y 0).val < 1
  · exact (dif_pos h).trans (if_pos h).symm
  · exact (dif_neg h).trans (if_neg h).symm

/-- The result. -/
def result (c : Dev nD) : S2.Idx → EReal := fun y =>
  Cert.Loss.total (fun b => outArr m c (ix3 b 0 0)) (fun b => outArr m c (ix3 b 0 1)) (fun b => outArr m c (ix3 b 0 2)) (y 0)

theorem keepTail (c : Dev nD) (b : Ref sig .tc) (h1 : b ∉ W1) (h0 : b ∉ W0) (hw : ∀ w, Pipeline.arrRef spec0 w ≠ b) :
    Pipeline.afterTail₀ cfgs (dats m) 0 (V0 m) [hostOps1] c b = m ((c : Thread nD τ).loc b) := by
  unfold Pipeline.afterTail₀
  have e : ([hostOps1] : List (List (HloOp τ sig (Elt Ideal)))).flatten = hostOps1 := by simp
  rw [e]
  refine (StableHlo.after_of_writes_sub hostOps1 _ hostOps1_writes h1).trans ?_
  refine (Pipeline.withArrays_of_ne _ c _ _ b hw).trans ?_
  exact V_keep m c b h0

theorem tail_result (c : Dev nD) : Pipeline.afterTail₀ cfgs (dats m) 0 (V0 m) [hostOps1] c main_v0 = result m c := by
  unfold Pipeline.afterTail₀
  have e : ([hostOps1] : List (List (HloOp τ sig (Elt Ideal)))).flatten = hostOps1 := by simp
  rw [e]
  funext y
  exact tail_at _ (outArr m c) ((Pipeline.withArrays_arr spec0 (by decide) c _ _ 4).trans (final4 m c)) y

/-- The run: the result at its value, every argument as launched. -/
theorem run : θ_run defs (onTc (τ := τ) (main (F := Ideal))) ⟨m, fun _ => 0, ρ⟩ (fun r => ∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun r h c => ?_) (run_main m ρ)
  have keep : ∀ b : Ref sig .tc, b ∉ W1 → b ∉ W0 → (∀ w, Pipeline.arrRef spec0 w ≠ b) → b ∈ Pipeline.restRefs sig spec0 →
      r.2.mem ((c.tc : Thread nD τ).loc b) = m ((c.tc : Thread nD τ).loc b) := fun b h1 h0 hw hr =>
    ((h.1 c).2 b hr).trans (keepTail m c b h1 h0 hw)
  exact ⟨((h.1 c).2 main_v0 (Pipeline.mem_restRefs_of main_v0 (by decide) (by decide))).trans (tail_result m c),
    ((h.1 c).1 0).trans (((dats m 0 c).arrAt_in 0 rfl _).trans ((A_eq m c 0).trans (V_keep m c main_arg0 (by decide)))),
    keep main_arg1 (by decide) (by decide) (by decide) (Pipeline.mem_restRefs_of main_arg1 (by decide) (by decide)),
    keep main_arg2 (by decide) (by decide) (by decide) (Pipeline.mem_restRefs_of main_arg2 (by decide) (by decide)),
    keep main_arg3 (by decide) (by decide) (by decide) (Pipeline.mem_restRefs_of main_arg3 (by decide) (by decide)),
    keep main_arg4 (by decide) (by decide) (by decide) (Pipeline.mem_restRefs_of main_arg4 (by decide) (by decide))⟩

end Cert.KernelIdeal.Value

end
-- ==== Proof.LossSpec.lean ====
/- The anchors and the annotations of the argument arrays. -/
module

public import proofs.«01_k».proof.Proof.LossTerm

@[expose] public section

noncomputable section

namespace Cert.Loss

open Idealize.ShloMosaic Idealize.ShloMosaic.Pointwise

/-- Anchor `a` of the anchor array. -/
def geo (x : (⟨3, ![1, 49104, 4]⟩ : Shape).Idx → EReal) (a : Fin 49104) : Geo where
  x1 := x (ix3 0 a 0)
  y1 := x (ix3 0 a 1)
  x2 := x (ix3 0 a 2)
  y2 := x (ix3 0 a 3)
  w := x (ix3 0 a 2) - x (ix3 0 a 0)
  h := x (ix3 0 a 3) - x (ix3 0 a 1)
  cx := x (ix3 0 a 0) + word 0x3F000000#32 * (x (ix3 0 a 2) - x (ix3 0 a 0))
  cy := x (ix3 0 a 1) + word 0x3F000000#32 * (x (ix3 0 a 3) - x (ix3 0 a 1))

/-- Annotation `j` of batch `b`; it is there where its label is not minus one. -/
def ann (x : (⟨3, ![8, 20, 5]⟩ : Shape).Idx → EReal) (b : Fin 8) (j : Fin 20) : Ann where
  x1 := x (ix3 b j 0)
  y1 := x (ix3 b j 1)
  x2 := x (ix3 b j 2)
  y2 := x (ix3 b j 3)
  lab := x (ix3 b j 4)
  area := (x (ix3 b j 2) - x (ix3 b j 0)) * (x (ix3 b j 3) - x (ix3 b j 1))
  val := if x (ix3 b j 4) = word 0xBF800000#32 then 0 else 1

end Cert.Loss

end
-- ==== Proof.KernelIdealHost.lean ====
/- The arrays that `KernelIdeal`'s operations before the launch pack, entry by entry, from the arguments. -/
module

public import proofs.«01_k».proof.Proof.KernelIdealOut
public import proofs.«01_k».proof.Proof.LossSpec
public import Idealize.ShloMosaic.Lib.StableHlo.ReadAt

@[expose] public section

set_option maxRecDepth 16384

noncomputable section

namespace Cert.KernelIdeal.Value

open Cert.KernelIdeal Cert.KernelIdeal.Gen Cert.KernelIdeal.Hand
open Idealize.ShloMosaic Idealize.ShloMosaic.TcCoe Idealize.ShloMosaic.Tactic Idealize.ShloMosaic.Pointwise Idealize.ShloMosaic.StableHlo

/-- The padded anchor table at an anchor of the array. -/
theorem ancRow (W : Valuation τ sig (Elt Ideal)) (n : Fin 49152) (f : Fin 4) (a : Fin 49104) (ha : a.val = n.val) :
    concatenate S49152x4 0 [⟨S49104x4, (upto hostOps0 W 5 (Proc.devRef .tc main_call0_v0) : S49104x4.Idx → EReal)⟩, ⟨S48x4, (upto hostOps0 W 5 (Proc.devRef .tc main_call0_v3) : S48x4.Idx → EReal)⟩]
      concatenates_S49104x4_S48x4_S49152x4_d0 (ix2 n f) = (W (Proc.devRef .tc main_arg2) : S1x49104x4.Idx → EReal) (ix3 0 a f) := by
  refine (concatenate_pair_apply_left (t := S49152x4) (s₁ := S49104x4) 0 _ _ _ (ix2 n f) rfl (ix2 a f) ?_).trans ?_
  · intro b
    match b with
    | ⟨0, _⟩ => exact ha
    | ⟨1, _⟩ => rfl
  · after_reads_at

section
variable (W : Valuation τ sig (Elt Ideal)) (R : Fin 384) (l : Fin 128) (a : Fin 49104) (ha : a.val = R.val * 128 + l.val)
include ha

theorem anc_x1 : (StableHlo.after hostOps0 W (Proc.devRef .tc main_call0_v25) : S384x1024.Idx → EReal) (ix2 R ⟨0 + l.val, by omega⟩) = (Cert.Loss.geo (W (Proc.devRef .tc main_arg2)) a).x1 := by
  have hl := l.isLt
  have hR := R.isLt
  after_reads_at
  refine Eq.trans (b := (upto hostOps0 W 28 (Proc.devRef .tc main_call0_v7) : S384x128.Idx → EReal) (ix2 R l)) ?_ ?_
  · exact congrArg (upto hostOps0 W 28 (Proc.devRef .tc main_call0_v7) : S384x128.Idx → EReal) (rfl)
  after_reads_simp
  simp -implicitDefEqProofs only [StableHlo.TRef.toBuf, StableHlo.TRef.ofBuf, cast_cast, cast_eq]
  clean_types
  generalize hX : (concatenate _ _ _ _) = X
  have hr : ∀ f : Fin 4, X (ix2 ⟨R.val * 128 + l.val, by omega⟩ f) = (W (Proc.devRef .tc main_arg2) : S1x49104x4.Idx → EReal) (ix3 0 a f) :=
    fun f => hX ▸ ancRow W ⟨R.val * 128 + l.val, by omega⟩ f a ha
  clear hX
  pointwise
  simp only [hr]
  rfl

theorem anc_y1 : (StableHlo.after hostOps0 W (Proc.devRef .tc main_call0_v25) : S384x1024.Idx → EReal) (ix2 R ⟨128 + l.val, by omega⟩) = (Cert.Loss.geo (W (Proc.devRef .tc main_arg2)) a).y1 := by
  have hl := l.isLt
  have hR := R.isLt
  after_reads_at
  refine Eq.trans (b := (upto hostOps0 W 28 (Proc.devRef .tc main_call0_v10) : S384x128.Idx → EReal) (ix2 R l)) ?_ ?_
  · exact congrArg (upto hostOps0 W 28 (Proc.devRef .tc main_call0_v10) : S384x128.Idx → EReal) (rfl)
  after_reads_simp
  simp -implicitDefEqProofs only [StableHlo.TRef.toBuf, StableHlo.TRef.ofBuf, cast_cast, cast_eq]
  clean_types
  generalize hX : (concatenate _ _ _ _) = X
  have hr : ∀ f : Fin 4, X (ix2 ⟨R.val * 128 + l.val, by omega⟩ f) = (W (Proc.devRef .tc main_arg2) : S1x49104x4.Idx → EReal) (ix3 0 a f) :=
    fun f => hX ▸ ancRow W ⟨R.val * 128 + l.val, by omega⟩ f a ha
  clear hX
  pointwise
  simp only [hr]
  rfl

theorem anc_x2 : (StableHlo.after hostOps0 W (Proc.devRef .tc main_call0_v25) : S384x1024.Idx → EReal) (ix2 R ⟨256 + l.val, by omega⟩) = (Cert.Loss.geo (W (Proc.devRef .tc main_arg2)) a).x2 := by
  have hl := l.isLt
  have hR := R.isLt
  after_reads_at
  rw [dif_neg (by omega)]
  rw [dif_neg (by omega)]
  rw [dif_pos (by omega)]
  refine Eq.trans (b := (upto hostOps0 W 28 (Proc.devRef .tc main_call0_v13) : S384x128.Idx → EReal) (ix2 R l)) ?_ ?_
  · exact congrArg (upto hostOps0 W 28 (Proc.devRef .tc main_call0_v13) : S384x128.Idx → EReal) (congrArg (ix2 R) (Fin.ext (by dsimp only; omega)))
  after_reads_simp
  simp -implicitDefEqProofs only [StableHlo.TRef.toBuf, StableHlo.TRef.ofBuf, cast_cast, cast_eq]
  clean_types
  generalize hX : (concatenate _ _ _ _) = X
  have hr : ∀ f : Fin 4, X (ix2 ⟨R.val * 128 + l.val, by omega⟩ f) = (W (Proc.devRef .tc main_arg2) : S1x49104x4.Idx → EReal) (ix3 0 a f) :=
    fun f => hX ▸ ancRow W ⟨R.val * 128 + l.val, by omega⟩ f a ha
  clear hX
  pointwise
  simp only [hr]
  rfl

theorem anc_y2 : (StableHlo.after hostOps0 W (Proc.devRef .tc main_call0_v25) : S384x1024.Idx → EReal) (ix2 R ⟨384 + l.val, by omega⟩) = (Cert.Loss.geo (W (Proc.devRef .tc main_arg2)) a).y2 := by
  have hl := l.isLt
  have hR := R.isLt
  after_reads_at
  rw [dif_neg (by omega)]
  rw [dif_neg (by omega)]
  rw [dif_neg (by omega)]
  rw [dif_pos (by omega)]
  refine Eq.trans (b := (upto hostOps0 W 28 (Proc.devRef .tc main_call0_v16) : S384x128.Idx → EReal) (ix2 R l)) ?_ ?_
  · exact congrArg (upto hostOps0 W 28 (Proc.devRef .tc main_call0_v16) : S384x128.Idx → EReal) (congrArg (ix2 R) (Fin.ext (by dsimp only; omega)))
  after_reads_simp
  simp -implicitDefEqProofs only [StableHlo.TRef.toBuf, StableHlo.TRef.ofBuf, cast_cast, cast_eq]
  clean_types
  generalize hX : (concatenate _ _ _ _) = X
  have hr : ∀ f : Fin 4, X (ix2 ⟨R.val * 128 + l.val, by omega⟩ f) = (W (Proc.devRef .tc main_arg2) : S1x49104x4.Idx → EReal) (ix3 0 a f) :=
    fun f => hX ▸ ancRow W ⟨R.val * 128 + l.val, by omega⟩ f a ha
  clear hX
  pointwise
  simp only [hr]
  rfl

theorem anc_w : (StableHlo.after hostOps0 W (Proc.devRef .tc main_call0_v25) : S384x1024.Idx → EReal) (ix2 R ⟨512 + l.val, by omega⟩) = (Cert.Loss.geo (W (Proc.devRef .tc main_arg2)) a).w := by
  have hl := l.isLt
  have hR := R.isLt
  after_reads_at
  rw [dif_neg (by omega)]
  rw [dif_neg (by omega)]
  rw [dif_neg (by omega)]
  rw [dif_neg (by omega)]
  rw [dif_pos (by omega)]
  refine Eq.trans (b := (upto hostOps0 W 28 (Proc.devRef .tc main_call0_v17) : S384x128.Idx → EReal) (ix2 R l)) ?_ ?_
  · exact congrArg (upto hostOps0 W 28 (Proc.devRef .tc main_call0_v17) : S384x128.Idx → EReal) (congrArg (ix2 R) (Fin.ext (by dsimp only; omega)))
  after_reads_simp
  simp -implicitDefEqProofs only [StableHlo.TRef.toBuf, StableHlo.TRef.ofBuf, cast_cast, cast_eq]
  clean_types
  generalize hX : (concatenate _ _ _ _) = X
  have hr : ∀ f : Fin 4, X (ix2 ⟨R.val * 128 + l.val, by omega⟩ f) = (W (Proc.devRef .tc main_arg2) : S1x49104x4.Idx → EReal) (ix3 0 a f) :=
    fun f => hX ▸ ancRow W ⟨R.val * 128 + l.val, by omega⟩ f a ha
  clear hX
  pointwise
  simp only [hr]
  rfl

theorem anc_h : (StableHlo.after hostOps0 W (Proc.devRef .tc main_call0_v25) : S384x1024.Idx → EReal) (ix2 R ⟨640 + l.val, by omega⟩) = (Cert.Loss.geo (W (Proc.devRef .tc main_arg2)) a).h := by
  have hl := l.isLt
  have hR := R.isLt
  after_reads_at
  rw [dif_neg (by omega)]
  rw [dif_neg (by omega)]
  rw [dif_neg (by omega)]
  rw [dif_neg (by omega)]
  rw [dif_neg (by omega)]
  rw [dif_pos (by omega)]
  refine Eq.trans (b := (upto hostOps0 W 28 (Proc.devRef .tc main_call0_v18) : S384x128.Idx → EReal) (ix2 R l)) ?_ ?_
  · exact congrArg (upto hostOps0 W 28 (Proc.devRef .tc main_call0_v18) : S384x128.Idx → EReal) (congrArg (ix2 R) (Fin.ext (by dsimp only; omega)))
  after_reads_simp
  simp -implicitDefEqProofs only [StableHlo.TRef.toBuf, StableHlo.TRef.ofBuf, cast_cast, cast_eq]
  clean_types
  generalize hX : (concatenate _ _ _ _) = X
  have hr : ∀ f : Fin 4, X (ix2 ⟨R.val * 128 + l.val, by omega⟩ f) = (W (Proc.devRef .tc main_arg2) : S1x49104x4.Idx → EReal) (ix3 0 a f) :=
    fun f => hX ▸ ancRow W ⟨R.val * 128 + l.val, by omega⟩ f a ha
  clear hX
  pointwise
  simp only [hr]
  rfl

theorem anc_cx : (StableHlo.after hostOps0 W (Proc.devRef .tc main_call0_v25) : S384x1024.Idx → EReal) (ix2 R ⟨768 + l.val, by omega⟩) = (Cert.Loss.geo (W (Proc.devRef .tc main_arg2)) a).cx := by
  have hl := l.isLt
  have hR := R.isLt
  after_reads_at
  rw [dif_neg (by omega)]
  rw [dif_neg (by omega)]
  rw [dif_neg (by omega)]
  rw [dif_neg (by omega)]
  rw [dif_neg (by omega)]
  rw [dif_neg (by omega)]
  rw [dif_pos (by omega)]
  refine Eq.trans (b := (upto hostOps0 W 28 (Proc.devRef .tc main_call0_v21) : S384x128.Idx → EReal) (ix2 R l)) ?_ ?_
  · exact congrArg (upto hostOps0 W 28 (Proc.devRef .tc main_call0_v21) : S384x128.Idx → EReal) (congrArg (ix2 R) (Fin.ext (by dsimp only; omega)))
  after_reads_simp
  simp -implicitDefEqProofs only [StableHlo.TRef.toBuf, StableHlo.TRef.ofBuf, cast_cast, cast_eq]
  clean_types
  generalize hX : (concatenate _ _ _ _) = X
  have hr : ∀ f : Fin 4, X (ix2 ⟨R.val * 128 + l.val, by omega⟩ f) = (W (Proc.devRef .tc main_arg2) : S1x49104x4.Idx → EReal) (ix3 0 a f) :=
    fun f => hX ▸ ancRow W ⟨R.val * 128 + l.val, by omega⟩ f a ha
  clear hX
  pointwise
  simp only [hr]
  rfl

set_option maxHeartbeats 1000000 in
theorem anc_cy : (StableHlo.after hostOps0 W (Proc.devRef .tc main_call0_v25) : S384x1024.Idx → EReal) (ix2 R ⟨896 + l.val, by omega⟩) = (Cert.Loss.geo (W (Proc.devRef .tc main_arg2)) a).cy := by
  have hl := l.isLt
  have hR := R.isLt
  after_reads_at
  rw [dif_neg (by omega)]
  rw [dif_neg (by omega)]
  rw [dif_neg (by omega)]
  rw [dif_neg (by omega)]
  rw [dif_neg (by omega)]
  rw [dif_neg (by omega)]
  rw [dif_neg (by omega)]
  refine Eq.trans (b := (upto hostOps0 W 28 (Proc.devRef .tc main_call0_v24) : S384x128.Idx → EReal) (ix2 R l)) ?_ ?_
  · exact congrArg (upto hostOps0 W 28 (Proc.devRef .tc main_call0_v24) : S384x128.Idx → EReal) (congrArg (ix2 R) (Fin.ext (by dsimp only; omega)))
  after_reads_simp
  simp -implicitDefEqProofs only [StableHlo.TRef.toBuf, StableHlo.TRef.ofBuf, cast_cast, cast_eq]
  clean_types
  generalize hX : (concatenate _ _ _ _) = X
  have hr : ∀ f : Fin 4, X (ix2 ⟨R.val * 128 + l.val, by omega⟩ f) = (W (Proc.devRef .tc main_arg2) : S1x49104x4.Idx → EReal) (ix3 0 a f) :=
    fun f => hX ▸ ancRow W ⟨R.val * 128 + l.val, by omega⟩ f a ha
  clear hX
  pointwise
  simp only [hr]
  rfl

end

section
variable (W : Valuation τ sig (Elt Ideal)) (b : Fin 8) (q : Fin 20)

theorem ann_x1 : (StableHlo.after hostOps0 W (Proc.devRef .tc main_call0_v51) : S8x8x20.Idx → EReal) (ix3 b 0 q) = (Cert.Loss.ann (W (Proc.devRef .tc main_arg3)) b q).x1 := by
  after_reads_at
  refine Eq.trans (b := (upto hostOps0 W 58 (Proc.devRef .tc main_call0_v31) : S8x5x20.Idx → EReal) (ix3 b 0 q)) (by exact (rfl)) ?_
  after_reads_at
  rfl

theorem ann_y1 : (StableHlo.after hostOps0 W (Proc.devRef .tc main_call0_v51) : S8x8x20.Idx → EReal) (ix3 b 1 q) = (Cert.Loss.ann (W (Proc.devRef .tc main_arg3)) b q).y1 := by
  after_reads_at
  refine Eq.trans (b := (upto hostOps0 W 58 (Proc.devRef .tc main_call0_v31) : S8x5x20.Idx → EReal) (ix3 b 1 q)) (by exact (rfl)) ?_
  after_reads_at
  rfl

theorem ann_x2 : (StableHlo.after hostOps0 W (Proc.devRef .tc main_call0_v51) : S8x8x20.Idx → EReal) (ix3 b 2 q) = (Cert.Loss.ann (W (Proc.devRef .tc main_arg3)) b q).x2 := by
  after_reads_at
  refine Eq.trans (b := (upto hostOps0 W 58 (Proc.devRef .tc main_call0_v31) : S8x5x20.Idx → EReal) (ix3 b 2 q)) (by exact (rfl)) ?_
  after_reads_at
  rfl

theorem ann_y2 : (StableHlo.after hostOps0 W (Proc.devRef .tc main_call0_v51) : S8x8x20.Idx → EReal) (ix3 b 3 q) = (Cert.Loss.ann (W (Proc.devRef .tc main_arg3)) b q).y2 := by
  after_reads_at
  refine Eq.trans (b := (upto hostOps0 W 58 (Proc.devRef .tc main_call0_v31) : S8x5x20.Idx → EReal) (ix3 b 3 q)) (by exact (rfl)) ?_
  after_reads_at
  rfl

theorem ann_lab : (StableHlo.after hostOps0 W (Proc.devRef .tc main_call0_v51) : S8x8x20.Idx → EReal) (ix3 b 4 q) = (Cert.Loss.ann (W (Proc.devRef .tc main_arg3)) b q).lab := by
  after_reads_at
  refine Eq.trans (b := (upto hostOps0 W 58 (Proc.devRef .tc main_call0_v31) : S8x5x20.Idx → EReal) (ix3 b 4 q)) (by exact (rfl)) ?_
  after_reads_at
  rfl

theorem ann_area : (StableHlo.after hostOps0 W (Proc.devRef .tc main_call0_v51) : S8x8x20.Idx → EReal) (ix3 b 5 q) = (Cert.Loss.ann (W (Proc.devRef .tc main_arg3)) b q).area := by
  after_reads_at
  refine Eq.trans (b := (upto hostOps0 W 58 (Proc.devRef .tc main_call0_v43) : S8x1x20.Idx → EReal) (ix3 b 0 q)) (by exact (rfl)) ?_
  after_reads_at
  rfl

theorem ann_val : (StableHlo.after hostOps0 W (Proc.devRef .tc main_call0_v51) : S8x8x20.Idx → EReal) (ix3 b 6 q) = (Cert.Loss.ann (W (Proc.devRef .tc main_arg3)) b q).val := by
  after_reads_at
  refine Eq.trans (b := (upto hostOps0 W 58 (Proc.devRef .tc main_call0_v49) : S8x1x20.Idx → EReal) (ix3 b 0 q)) (by exact (rfl)) ?_
  after_reads_at
  unfold Cert.Loss.ann
  dsimp only
  by_cases h : (W (Proc.devRef .tc main_arg3) : S8x20x5.Idx → EReal) (ix3 b q 4) = Cert.Loss.word 0xBF800000#32
  · rw [if_pos h, decide_eq_false (fun h' => h' h)]
    exact ((rfl : _ = (((0 : ℕ) : ℝ) : EReal))).trans (by simp)
  · rw [if_neg h, decide_eq_true h]
    exact ((rfl : _ = (((1 : ℕ) : ℝ) : EReal))).trans (by simp)

end

/-- The packed predictions at an anchor of the array. -/
theorem reg_at (W : Valuation τ sig (Elt Ideal)) (b : Fin 8) (R : Fin 384) (l : Fin 128) (j : Fin 4) (a : Fin 49104) (ha : a.val = R.val * 128 + l.val) :
    (StableHlo.after hostOps0 W (Proc.devRef .tc main_call0_v30) : S8x384x512.Idx → EReal) (ix3 b R ⟨128 * j.val + l.val, by omega⟩)
      = (W (Proc.devRef .tc main_arg1) : S8x49104x4.Idx → EReal) (ix3 b a j) := by
  have hl := l.isLt
  have := a.isLt
  after_reads_at
  rw [dif_pos (by omega)]
  refine congrArg (W (Proc.devRef .tc main_arg1) : S8x49104x4.Idx → EReal) (congrArg₂ (ix3 b) (Fin.ext ?_) (Fin.ext ?_))
  · exact ha.symm
  · rfl

end Cert.KernelIdeal.Value

end
-- ==== Proof.RefRead.lean ====
module

public import proofs.«01_k».proof.Proof.Gen.ReferenceIdeal.Read
public import proofs.«01_k».proof.Proof.Gen.Pre_in_range
public import Idealize.ShloMosaic.PureOps.Ideal.Laws

@[expose] public section

end
-- ==== Proof.LossPick.lean ====
/- The annotation that the kernel's running maximum picks is the first one of greatest overlap, and the words that the
   reference finds it and counts with. -/
module

public import proofs.«01_k».proof.Proof.LossWords
public import proofs.«01_k».proof.Proof.LossSpec

@[expose] public section

noncomputable section

namespace Cert.Loss

open Idealize.ShloMosaic Idealize.ShloMosaic.WordArith

/-! ## The running maximum -/

/-- The overlap the reference compares: minus one for an annotation that is not there. -/
def ref (g : Geo) (a : Ann) : EReal := if a.val = 0 then word 0xBF800000#32 else iou g a

theorem score_ref (g : Geo) (a : Ann) (h : a.val = 0 ∨ a.val = 1) : score g a = ref g a := by
  have e1 : word 0x3F800000#32 = 1 := word_one
  unfold score ref
  rw [e1]
  rcases h with h | h
  · rw [h, if_pos rfl, mul_zero, zero_add, zero_sub, word_neg_one, EReal.coe_neg, EReal.coe_one]
  · rw [h, if_neg one_ne_zero, mul_one]
    have : (1 : EReal) - 1 = 0 := by
      have := EReal.coe_sub 1 1
      simpa using this.symm
    rw [this, add_zero]

/-- A pick out of the first `n` annotations: none of them overlaps more than minus one and it is the start, or it is the
    first of greatest overlap. -/
def Picked (g : Geo) (a : ℕ → Ann) (n : ℕ) (p : Pick) : Prop :=
  (p = start ∧ ∀ i < n, score g (a i) ≤ start.m)
    ∨ ∃ j < n, p = ⟨score g (a j), (a j).lab, (a j).x1, (a j).y1, (a j).x2, (a j).y2⟩ ∧ start.m < score g (a j)
        ∧ (∀ i < n, score g (a i) ≤ score g (a j)) ∧ ∀ i < j, score g (a i) < score g (a j)

theorem step_of_lt (g : Geo) (p : Pick) (a : Ann) (h : p.m < score g a) : step g p a = ⟨score g a, a.lab, a.x1, a.y1, a.x2, a.y2⟩ := by
  unfold step
  simp only [Ideal.cmp_ogt, sel, gt_iff_lt, if_pos h]

theorem step_of_le (g : Geo) (p : Pick) (a : Ann) (h : score g a ≤ p.m) : step g p a = p := by
  unfold step
  simp only [Ideal.cmp_ogt, sel, gt_iff_lt, if_neg (not_lt.mpr h)]

theorem picked (g : Geo) (a : ℕ → Ann) (n : ℕ) : Picked g a n (pick g a n) := by
  induction n with
  | zero => exact Or.inl ⟨rfl, fun i h => absurd h (Nat.not_lt_zero i)⟩
  | succ n ih =>
    show Picked g a (n + 1) (step g (pick g a n) (a n))
    rcases ih with ⟨e, h⟩ | ⟨j, hj, e, hs, hmax, hfirst⟩
    · rw [e]
      rcases lt_or_ge start.m (score g (a n)) with hlt | hle
      · rw [step_of_lt g _ _ hlt]
        refine Or.inr ⟨n, Nat.lt_succ_self n, rfl, hlt, fun i hi => ?_, fun i hi => lt_of_le_of_lt (h i hi) hlt⟩
        rcases Nat.lt_succ_iff_lt_or_eq.mp hi with hi | rfl
        · exact le_of_lt (lt_of_le_of_lt (h i hi) hlt)
        · exact le_refl _
      · rw [step_of_le g _ _ hle]
        refine Or.inl ⟨rfl, fun i hi => ?_⟩
        rcases Nat.lt_succ_iff_lt_or_eq.mp hi with hi | rfl
        · exact h i hi
        · exact hle
    · rw [e]
      rcases lt_or_ge (score g (a j)) (score g (a n)) with hlt | hle
      · rw [step_of_lt g _ _ hlt]
        refine Or.inr ⟨n, Nat.lt_succ_self n, rfl, lt_trans hs hlt, fun i hi => ?_, fun i hi => lt_of_le_of_lt (hmax i hi) hlt⟩
        rcases Nat.lt_succ_iff_lt_or_eq.mp hi with hi | rfl
        · exact le_of_lt (lt_of_le_of_lt (hmax i hi) hlt)
        · exact le_refl _
      · rw [step_of_le g _ _ hle]
        refine Or.inr ⟨j, Nat.lt_succ_of_lt hj, rfl, hs, fun i hi => ?_, hfirst⟩
        rcases Nat.lt_succ_iff_lt_or_eq.mp hi with hi | rfl
        · exact hmax i hi
        · exact hle

/-! ## The reference's greatest overlap, and where it is first reached -/

/-- The greatest of twenty numbers. -/
def top (S : Fin 20 → EReal) : EReal := Finset.fold max (Ideal.ofBits .f32 0xFF800000#32) S Finset.univ

theorem bot_word : Ideal.ofBits .f32 0xFF800000#32 = ⊥ := by
  simp [Ideal.ofBits, Ideal.ieee]

theorem top_eq (S : Fin 20 → EReal) (j : Fin 20) (h : ∀ i, S i ≤ S j) : top S = S j := by
  unfold top
  rw [bot_word]
  apply le_antisymm
  · exact (Finset.fold_max_le _).mpr ⟨bot_le, fun i _ => h i⟩
  · exact Finset.le_fold_max _ |>.mpr (Or.inr ⟨j, Finset.mem_univ j, le_refl _⟩)

theorem top_le (S : Fin 20 → EReal) (x : EReal) (h : ∀ i, S i ≤ x) : top S ≤ x := by
  unfold top
  rw [bot_word]
  exact (Finset.fold_max_le _).mpr ⟨bot_le, fun i _ => h i⟩

/-- Where the greatest is first reached, as the reference finds it. -/
def firstTop (S : Fin 20 → EReal) : BitVec 32 :=
  Finset.fold IntOp.minsi 2147483647#32 (fun x : Fin 20 => if S x = top S then BitVec.ofNat 32 x.val else 20#32) Finset.univ

theorem toInt_minsi (x y : BitVec 32) : (IntOp.minsi x y).toInt = min x.toInt y.toInt := by
  unfold IntOp.minsi
  by_cases h : x.toInt < y.toInt
  · rw [min_eq_left h.le]; simp [BitVec.slt, h]
  · rw [min_eq_right (not_lt.mp h)]; simp [BitVec.slt, h]

theorem firstTop_eq (S : Fin 20 → EReal) (j : Fin 20) (h : ∀ i, S i ≤ S j) (h' : ∀ i < j, S i < S j) : firstTop S = BitVec.ofNat 32 j.val := by
  apply BitVec.eq_of_toInt_eq
  unfold firstTop
  rw [← Finset.fold_hom (m := BitVec.toInt) (op' := min) (fun x y => (toInt_minsi x y))]
  rw [top_eq S j h]
  have hj := j.isLt
  rw [toInt_ofNat_small j.val (by omega)]
  apply le_antisymm
  · refine (Finset.fold_min_le _).mpr (Or.inr ⟨j, Finset.mem_univ j, ?_⟩)
    rw [if_pos rfl, toInt_ofNat_small j.val (by omega)]
  · refine (Finset.le_fold_min _).mpr ⟨?_, fun i _ => ?_⟩
    · show (j.val : ℤ) ≤ (2147483647#32).toInt
      have : (2147483647#32).toInt = 2147483647 := by decide
      omega
    · have hi := i.isLt
      by_cases hc : S i = S j
      · rw [if_pos hc, toInt_ofNat_small i.val (by omega)]
        by_contra hlt
        exact absurd hc (ne_of_lt (h' i (by rw [Fin.lt_def]; omega)))
      · rw [if_neg hc]
        have : (20#32).toInt = 20 := by decide
        omega

/-! ## Counting -/

theorem foldBits {ι : Type} [DecidableEq ι] (s : Finset ι) (f : ι → BitVec 1) :
    Finset.fold IntOp.addi (0#32) (fun x => BitVec.setWidth 32 (f x)) s = BitVec.ofNat 32 (∑ x ∈ s, (f x).toNat) := by
  induction s using Finset.induction with
  | empty => rfl
  | insert a s ha ih =>
    rw [Finset.fold_insert ha, ih, Finset.sum_insert ha]
    show BitVec.setWidth 32 (f a) + _ = _
    rw [BitVec.ofNat_add]
    have h : f a = 0#1 ∨ f a = 1#1 := by generalize f a = y; revert y; decide
    rcases h with h | h <;> rw [h] <;> rfl

theorem sumBits_le {ι : Type} (s : Finset ι) (f : ι → BitVec 1) : (∑ x ∈ s, (f x).toNat) ≤ s.card := by
  refine (Finset.sum_le_card_nsmul s _ 1 fun x _ => ?_).trans (by simp)
  have := (f x).isLt
  omega

/-- A sum of real numbers, among the extended ones. -/
theorem coe_sum {ι : Type} [DecidableEq ι] (s : Finset ι) (f : ι → ℝ) : ((∑ x ∈ s, f x : ℝ) : EReal) = ∑ x ∈ s, (f x : EReal) := by
  induction s using Finset.induction with
  | empty => simp
  | insert a s ha ih => rw [Finset.sum_insert ha, Finset.sum_insert ha, EReal.coe_add, ih]

/-- The count, as a number. -/
theorem count (f : Fin 49104 → BitVec 1) :
    FloatOps.sitofp (F := Ideal) .f32 (Finset.fold IntOp.addi (0#32) (fun x => BitVec.setWidth 32 (f x)) Finset.univ) = ∑ x, bitVal (f x) := by
  rw [foldBits]
  have hle := sumBits_le Finset.univ f
  rw [Finset.card_univ, Fintype.card_fin] at hle
  rw [class_num (by omega)]
  rw [Nat.cast_sum]
  rw [coe_sum]
  refine Finset.sum_congr rfl fun x _ => ?_
  rw [bitVal_eq]
  have h : f x = 0#1 ∨ f x = 1#1 := by generalize f x = y; revert y; decide
  rcases h with h | h <;> rw [h] <;> simp

/-- Whether any annotation is there. -/
theorem anyBit (f : Fin 20 → BitVec 1) (j : Fin 20) (h : f j = 1#1) :
    IntOp.cmpi .sgt (Finset.fold IntOp.addi (0#32) (fun x => BitVec.setWidth 32 (f x)) Finset.univ) 0#32 = 1#1 := by
  rw [foldBits]
  have hle := sumBits_le Finset.univ f
  rw [Finset.card_univ, Fintype.card_fin] at hle
  have hpos : 0 < ∑ x, (f x).toNat := by
    refine lt_of_lt_of_le ?_ (Finset.single_le_sum (f := fun x => (f x).toNat) (fun _ _ => Nat.zero_le _) (Finset.mem_univ j))
    show 0 < (f j).toNat
    rw [h]; decide
  exact sgt_zero_word (by omega) hpos

end Cert.Loss

end
-- ==== Proof.RefStages.lean ====
/- The reference's stages up to the overlaps, entry by entry. -/
module

public import proofs.«01_k».proof.Proof.RefRead
public import proofs.«01_k».proof.Proof.LossPick

@[expose] public section

set_option maxRecDepth 16384

noncomputable section

namespace Cert.ReferenceIdeal.Value

open Cert.ReferenceIdeal Cert.ReferenceIdeal.Gen Cert.ReferenceIdeal.Read
open Idealize.ShloMosaic Idealize.ShloMosaic.Pointwise

/-- The overlaps the reference compares, of anchor `a` with batch `b`'s annotations. -/
def over (x2 : (⟨3, ![1, 49104, 4]⟩ : Shape).Idx → EReal) (x3 : (⟨3, ![8, 20, 5]⟩ : Shape).Idx → EReal) (b : Fin 8) (a : Fin 49104) (j : Fin 20) : EReal :=
  Cert.Loss.ref (Cert.Loss.geo x2 a) (Cert.Loss.ann x3 b j)

variable (x0 : (⟨3, ![8, 49104, 80]⟩ : Shape).Idx → EReal) (x1 : (⟨3, ![8, 49104, 4]⟩ : Shape).Idx → EReal) (x2 : (⟨3, ![1, 49104, 4]⟩ : Shape).Idx → EReal) (x3 : (⟨3, ![8, 20, 5]⟩ : Shape).Idx → EReal)
variable (b : Fin 8) (a : Fin 49104) (j : Fin 20) (k : Fin 80)

/-- A converted constant is its word's value. -/
theorem cst (w : BitVec 32) : (id (constant (F := Ideal) S_ .f32 w) ix0 : EReal) = Cert.Loss.word w := rfl

theorem v5_at : (val_main_v5 (F := Ideal) x2 : S49104.Idx → EReal) (ix1 a) = (Cert.Loss.geo x2 a).w := by
  delta val_main_v5 val_main_v4 val_main_v3 val_main_v2 val_main_v1 val_main_v0
  pointwise
  rfl

theorem v10_at : (val_main_v10 (F := Ideal) x2 : S49104.Idx → EReal) (ix1 a) = (Cert.Loss.geo x2 a).h := by
  delta val_main_v10 val_main_v9 val_main_v8 val_main_v7 val_main_v6 val_main_v0
  pointwise
  rfl

theorem v15_at : (val_main_v15 (F := Ideal) x2 : S49104.Idx → EReal) (ix1 a) = (Cert.Loss.geo x2 a).cx := by
  delta val_main_v15 val_main_v14 val_main_v5 val_main_v4 val_main_v3 val_main_v2 val_main_v1 val_main_v13 val_main_cst val_main_v12 val_main_v11 val_main_v0
  pointwise
  rfl

theorem v20_at : (val_main_v20 (F := Ideal) x2 : S49104.Idx → EReal) (ix1 a) = (Cert.Loss.geo x2 a).cy := by
  delta val_main_v20 val_main_v19 val_main_v10 val_main_v9 val_main_v8 val_main_v7 val_main_v6 val_main_v18 val_main_cst_0 val_main_v17 val_main_v16
    val_main_v0
  pointwise
  rfl

theorem v37_at : (val_main_v37 (F := Ideal) x3 : S8x20.Idx → EReal) (ix2 b j) = (Cert.Loss.ann x3 b j).area := by
  delta val_main_v37 val_main_v36 val_main_v35 val_main_v34 val_main_v33 val_main_v32 val_main_v31 val_main_v30 val_main_v29 val_main_v28 val_main_v27
    val_main_v26
  pointwise
  rfl

theorem v59_at : (val_main_v59 (F := Ideal) x2 x3 : S8x49104x20.Idx → EReal) (ix3 b a j) = max (min (Cert.Loss.geo x2 a).x2 (Cert.Loss.ann x3 b j).x2 - max (Cert.Loss.geo x2 a).x1 (Cert.Loss.ann x3 b j).x1) 0 := by
  delta val_main_v59 val_main_v58 val_main_v57 val_main_v56 val_main_v53 val_main_v52 val_main_v51 val_main_v55 val_main_v54 val_main_v50 val_main_v49
    val_main_v48 val_main_v47 val_main_v46 val_main_v43 val_main_v42 val_main_v41 val_main_v26 val_main_v45 val_main_v44 val_main_v40 val_main_v39
    val_main_v38 val_main_v0 val_main_call1_v1 val_main_call1_v0 val_main_cst_4
  pointwise
  rw [max_comm, cst, Cert.Loss.word_zero]
  rfl

theorem v81_at : (val_main_v81 (F := Ideal) x2 x3 : S8x49104x20.Idx → EReal) (ix3 b a j) = max (min (Cert.Loss.geo x2 a).y2 (Cert.Loss.ann x3 b j).y2 - max (Cert.Loss.geo x2 a).y1 (Cert.Loss.ann x3 b j).y1) 0 := by
  delta val_main_v81 val_main_v80 val_main_v79 val_main_v78 val_main_v75 val_main_v74 val_main_v73 val_main_v77 val_main_v76 val_main_v72 val_main_v71
    val_main_v70 val_main_v69 val_main_v68 val_main_v65 val_main_v64 val_main_v63 val_main_v26 val_main_v67 val_main_v66 val_main_v62 val_main_v61
    val_main_v60 val_main_v0 val_main_call2_v1 val_main_call2_v0 val_main_cst_5
  pointwise
  rw [max_comm, cst, Cert.Loss.word_zero]
  rfl

theorem v94_at : (val_main_v94 (F := Ideal) x2 x3 : S8x49104x20.Idx → EReal) (ix3 b a j) = over x2 x3 b a j := by
  delta val_main_v94 val_main_call4_v3 val_main_call4_v2 val_main_call4_v0 val_main_cst_7 val_main_v93 val_main_v91 val_main_v90 val_main_v89 val_main_v88
    val_main_v85 val_main_v87 val_main_v86 val_main_v84 val_main_v83 val_main_call3_v1 val_main_call3_v0 val_main_cst_6 val_main_v82 val_main_call4_v1
    val_main_v92 val_main_v24 val_main_v23 val_main_cst_1 val_main_v22 val_main_v21
  pointwise
  simp only [v59_at, v81_at, v5_at, v10_at, v37_at, cst]
  unfold over Cert.Loss.ref Cert.Loss.ann Cert.Loss.iou
  by_cases h : x3 (ix3 b j 4) = Cert.Loss.word 0xBF800000#32
  · simp only [h, Cert.Loss.ann]
    simp
    rfl
  · simp only [if_neg h, if_neg one_ne_zero, if_pos (show x3 (ix3 b j 4) ≠ Ideal.ofBits .f32 0xBF800000#32 from h), Cert.Loss.word_zero]
    rw [max_comm (id (constant (F := Ideal) S_ .f32 841731191#32) ix0 : EReal)]
    rfl

theorem v95_at : (val_main_v95 (F := Ideal) x2 x3 : S8x49104.Idx → EReal) (ix2 b a) = Cert.Loss.top (over x2 x3 b a) := by
  delta val_main_v95 val_main_cst_8
  pointwise
  simp only [v94_at]
  rfl

theorem v102_at : (val_main_v102 (F := Ideal) x2 x3 : S8x49104.Idx → BitVec 32) (ix2 b a) = Cert.Loss.firstTop (over x2 x3 b a) := by
  delta val_main_v102 val_main_c_9 val_main_v101 val_main_call5_v3 val_main_call5_v2 val_main_call5_v0 val_main_c val_main_call5_v4 val_main_call5_v1
    val_main_v100 val_main_v99 val_main_v98 val_main_v97 val_main_v96
  pointwise
  simp only [v94_at, v95_at]
  rfl

theorem v106_at : (val_main_v106 (F := Ideal) x3 : S8.Idx → BitVec 1) (ix1 b) = IntOp.cmpi .sgt (Finset.fold IntOp.addi (0#32) (fun x : Fin 20 => BitVec.setWidth 32 (BitVec.ofBool (decide (x3 (ix3 b x 4) ≠ Cert.Loss.word 0xBF800000#32)))) Finset.univ) 0#32 := by
  delta val_main_v106 val_main_v105 val_main_c_11 val_main_v104 val_main_c_10 val_main_v103 val_main_v24 val_main_v23 val_main_cst_1 val_main_v22 val_main_v21
  pointwise

/-- The gather of the best annotation's row, at an index. -/
theorem gather_at (x : S8x20x5.Idx → EReal) (idx : IVec S8x49104x1 32) (q : Fin 5) :
    Host.gather gather_S8x20x5_S8x49104x1_S8x49104x5_2_1_0_0_1_2_115 x idx (ix3 b a q) = x (ix3 b ⟨min (idx (ix3 b a 0)).toInt.toNat 19, by omega⟩ q) := by
  set D := gather_S8x20x5_S8x49104x1_S8x49104x5_2_1_0_0_1_2_115 with hD
  unfold Host.gather
  congr 1
  funext d
  refine Fin.ext ?_
  show D.start (ix3 b a q) idx d + D.batchCoord (ix3 b a q) d + D.offCoord (ix3 b a q) d = _
  have h : d = 0 ∨ d = 1 ∨ d = 2 := by
    match d with
    | ⟨0, _⟩ => exact Or.inl rfl
    | ⟨1, _⟩ => exact Or.inr (Or.inl rfl)
    | ⟨2, _⟩ => exact Or.inr (Or.inr rfl)
  rcases h with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 3) ∈ D.operandBatchingDims from List.mem_singleton.mpr rfl)]
    rfl
  · rw [GatherDims.batchCoord_eq_zero _ _ _ (fun h => by simp [hD, gather_S8x20x5_S8x49104x1_S8x49104x5_2_1_0_0_1_2_115] at h),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ D.startIndexMap from List.mem_singleton.mpr rfl)]
    have hsi : D.siIdx (ix3 b a q) ⟨List.idxOf (1 : Fin 3) D.startIndexMap, List.idxOf_lt_length_iff.2 (List.mem_singleton.mpr rfl)⟩ = ix3 b a 0 := by
      funext e; refine Fin.ext ?_
      match e with
      | ⟨0, _⟩ => rfl
      | ⟨1, _⟩ => rfl
      | ⟨2, _⟩ => rfl
    rw [hsi]
    rfl
  · rw [GatherDims.batchCoord_eq_zero _ _ _ (fun h => by simp [hD, gather_S8x20x5_S8x49104x1_S8x49104x5_2_1_0_0_1_2_115] at h)]
    have hs : D.start (ix3 b a q) idx 2 = 0 := by
      unfold GatherDims.start
      rw [dif_neg (by simp [hD, gather_S8x20x5_S8x49104x1_S8x49104x5_2_1_0_0_1_2_115])]
    rw [hs]
    simp only [Nat.zero_add]
    rfl

theorem v125_at : (val_main_v125 (F := Ideal) x2 x3 : S8x49104x1.Idx → BitVec 32) (ix3 b a 0) = Scalar.select (IntOp.cmpi .slt (Cert.Loss.firstTop (over x2 x3 b a)) 0#32) (IntOp.addi (Cert.Loss.firstTop (over x2 x3 b a)) 20#32) (Cert.Loss.firstTop (over x2 x3 b a)) := by
  delta val_main_v125 val_main_v124 val_main_v123 val_main_v122 val_main_c_18 val_main_v121 val_main_v120 val_main_c_17
  pointwise
  simp only [v102_at]

theorem v126_at (q : Fin 5) : (val_main_v126 (F := Ideal) x2 x3 : S8x49104x5.Idx → EReal) (ix3 b a q) = x3 (ix3 b ⟨min (val_main_v125 (F := Ideal) x2 x3 (ix3 b a 0)).toInt.toNat 19, by omega⟩ q) := by
  delta val_main_v126
  exact gather_at b a x3 _ q

end Cert.ReferenceIdeal.Value

end
-- ==== Proof.RefBody.lean ====
/- The reference's stages after the overlaps, entry by entry. -/
module

public import proofs.«01_k».proof.Proof.RefStages
public import proofs.«01_k».proof.Proof.LossTotal

@[expose] public section

set_option maxRecDepth 16384

noncomputable section

namespace Cert.ReferenceIdeal.Value

open Cert.ReferenceIdeal Cert.ReferenceIdeal.Gen Cert.ReferenceIdeal.Read
open Idealize.ShloMosaic Idealize.ShloMosaic.Pointwise

variable (x0 : (⟨3, ![8, 49104, 80]⟩ : Shape).Idx → EReal) (x1 : (⟨3, ![8, 49104, 4]⟩ : Shape).Idx → EReal) (x2 : (⟨3, ![1, 49104, 4]⟩ : Shape).Idx → EReal) (x3 : (⟨3, ![8, 20, 5]⟩ : Shape).Idx → EReal)
variable (i : Fin 4) (b : Fin 8) (a : Fin 49104) (j : Fin 20) (k : Fin 80)

/-! ## The operations over the extended reals -/

theorem powf_eq (x y : EReal) : FloatOps.hostPowf (F := Ideal) (φ := .f32) x y = Ideal.pow x y := rfl
theorem log_eq (x : EReal) : FloatOps.hostUnary (F := Ideal) (φ := .f32) .log x = Ideal.log x := rfl
theorem cmpf_eq (p : CmpFPredicate) (x y : EReal) : FloatOps.cmpf (F := Ideal) (φ := .f32) p x y = Ideal.cmp p x y := rfl
theorem ofBits_eq (w : BitVec 32) : FloatOps.ofBits (F := Ideal) .f32 w = Cert.Loss.word w := rfl
theorem subf_eq (x y : EReal) : FloatOps.subf (F := Ideal) (φ := .f32) x y = x - y := rfl
theorem addf_eq (x y : EReal) : FloatOps.addf (F := Ideal) (φ := .f32) x y = x + y := rfl
theorem mulf_eq (x y : EReal) : FloatOps.mulf (F := Ideal) (φ := .f32) x y = x * y := rfl
theorem negf_eq (x : EReal) : FloatOps.hostNegf (F := Ideal) (φ := .f32) x = -x := rfl

/-! ## The classification -/

theorem v113_at : (val_main_v113 (F := Ideal) x2 x3 : S8x49104.Idx → BitVec 1) (ix2 b a) = Ideal.cmp .oge (val_main_v95 (F := Ideal) x2 x3 (ix2 b a)) (Cert.Loss.word 0x3F000000#32) := by
  rw [val_main_v113_apply, val_main_v112_apply, val_main_cst_15_apply]
  generalize (val_main_v95 (F := Ideal) x2 x3 (ix2 b a) : EReal) = V95
  rfl

theorem v115_at : (val_main_v115 (F := Ideal) x3 : S8x49104.Idx → BitVec 1) (ix2 b a) = val_main_v106 (F := Ideal) x3 (ix1 b) := by
  delta val_main_v115 val_main_v114
  generalize val_main_v106 (F := Ideal) x3 = V106
  pointwise

theorem v116_at : (val_main_v116 (F := Ideal) x2 x3 : S8x49104.Idx → BitVec 1) (ix2 b a) = Ideal.cmp .oge (Cert.Loss.top (over x2 x3 b a)) (Cert.Loss.word 0x3F000000#32) &&& val_main_v106 (F := Ideal) x3 (ix1 b) := by
  rw [← v95_at, ← v113_at, ← v115_at (a := a)]
  delta val_main_v116
  rfl

theorem v25_at : (val_main_v25 (F := Ideal) x0 : S8x49104x80.Idx → EReal) (ix3 b a k) = min (Cert.Loss.word 1065351538#32) (max (Cert.Loss.word 953267991#32) (x0 (ix3 b a k))) := by
  delta val_main_v25 val_main_call0_v2 val_main_call0_v1 val_main_call0_v0 val_main_cst_2 val_main_call0_v4 val_main_call0_v3 val_main_cst_3
  pointwise
  rfl

theorem v109_at : (val_main_v109 (F := Ideal) x2 x3 : S8x49104.Idx → BitVec 1) (ix2 b a) = Ideal.cmp .olt (val_main_v95 (F := Ideal) x2 x3 (ix2 b a)) (Cert.Loss.word 0x3ECCCCCD#32) := by
  rw [val_main_v109_apply, val_main_v108_apply, val_main_cst_13_apply]
  generalize (val_main_v95 (F := Ideal) x2 x3 (ix2 b a) : EReal) = V95
  rfl

theorem v111_at : (val_main_v111 (F := Ideal) x2 x3 : S8x49104x80.Idx → EReal) (ix3 b a k) = Scalar.select (val_main_v109 (F := Ideal) x2 x3 (ix2 b a)) 0 (Cert.Loss.word 0xBF800000#32) := by
  delta val_main_v111 val_main_call6_v3 val_main_v107 val_main_cst_12 val_main_call6_v4 val_main_call6_v2 val_main_call6_v0 val_main_cst_14 val_main_call6_v1
    val_main_v110
  generalize val_main_v109 (F := Ideal) x2 x3 = V109
  pointwise
  rw [cst, Cert.Loss.word_zero]

theorem v130_at : (val_main_v130 (F := Ideal) x2 x3 : S8x49104x80.Idx → EReal) (ix3 b a k) = FloatOps.uitofp (F := Ideal) FTy.f32 (IntOp.cmpi CmpIPredicate.eq (FloatOps.fptosi (F := Ideal) (φ := .f32) 32 (val_main_v126 (F := Ideal) x2 x3 (ix3 b a 4))) (BitVec.ofNat 32 k.val)) := by
  delta val_main_v130 val_main_call7_v5 val_main_call7_v4 val_main_call7_v2 val_main_call7_v1 val_main_call7_v3 val_main_call7_v0 val_main_v129 val_main_v128
    val_main_v127
  generalize val_main_v126 (F := Ideal) x2 x3 = V126
  pointwise

theorem v132_at : (val_main_v132 (F := Ideal) x2 x3 : S8x49104x80.Idx → EReal) (ix3 b a k) = Scalar.select (val_main_v116 (F := Ideal) x2 x3 (ix2 b a)) (val_main_v130 (F := Ideal) x2 x3 (ix3 b a k)) (val_main_v111 (F := Ideal) x2 x3 (ix3 b a k)) := by
  delta val_main_v132 val_main_call8_v0 val_main_v131
  generalize val_main_v111 (F := Ideal) x2 x3 = V111
  generalize val_main_v116 (F := Ideal) x2 x3 = V116
  generalize val_main_v130 (F := Ideal) x2 x3 = V130
  pointwise

theorem v135_at : (val_main_v135 (F := Ideal) x2 x3 : S8x49104x80.Idx → EReal) (ix3 b a k) = Scalar.select (Ideal.cmp .oeq (val_main_v132 (F := Ideal) x2 x3 (ix3 b a k)) (Cert.Loss.word 0x3F800000#32)) (Cert.Loss.word 0x3E800000#32) (Cert.Loss.word 0x3F400000#32) := by
  rw [val_main_v135_apply, val_main_call9_v2_apply, val_main_call9_v1_apply, val_main_cst_21_apply, val_main_call9_v3_apply, val_main_call9_v0_apply,
    val_main_cst_20_apply, val_main_v134_apply, val_main_v133_apply, val_main_cst_19_apply]
  generalize (val_main_v132 (F := Ideal) x2 x3 (ix3 b a k) : EReal) = V132
  rfl

theorem v140_at : (val_main_v140 (F := Ideal) x0 x2 x3 : S8x49104x80.Idx → EReal) (ix3 b a k) = Scalar.select (Ideal.cmp .oeq (val_main_v132 (F := Ideal) x2 x3 (ix3 b a k)) (Cert.Loss.word 0x3F800000#32)) (Cert.Loss.word 0x3F800000#32 - val_main_v25 (F := Ideal) x0 (ix3 b a k)) (val_main_v25 (F := Ideal) x0 (ix3 b a k)) := by
  rw [val_main_v140_apply, val_main_v139_apply, val_main_v138_apply, val_main_cst_23_apply, val_main_v137_apply, val_main_v136_apply, val_main_cst_22_apply]
  generalize (val_main_v132 (F := Ideal) x2 x3 (ix3 b a k) : EReal) = V132
  generalize (val_main_v25 (F := Ideal) x0 (ix3 b a k) : EReal) = V25
  rfl

theorem v142_at : (val_main_v142 (F := Ideal) x0 x2 x3 : S8x49104x80.Idx → EReal) (ix3 b a k) = Ideal.pow (val_main_v140 (F := Ideal) x0 x2 x3 (ix3 b a k)) (Cert.Loss.word 0x40000000#32) := by
  rw [val_main_v142_apply, val_main_v141_apply, val_main_cst_24_apply]
  generalize (val_main_v140 (F := Ideal) x0 x2 x3 (ix3 b a k) : EReal) = V140
  rfl

theorem v154_at : (val_main_v154 (F := Ideal) x0 x2 x3 : S8x49104x80.Idx → EReal) (ix3 b a k) = -(val_main_v132 (F := Ideal) x2 x3 (ix3 b a k) * Ideal.log (val_main_v25 (F := Ideal) x0 (ix3 b a k)) + (Cert.Loss.word 0x3F800000#32 - val_main_v132 (F := Ideal) x2 x3 (ix3 b a k)) * Ideal.log (Cert.Loss.word 0x3F800000#32 - val_main_v25 (F := Ideal) x0 (ix3 b a k))) := by
  rw [val_main_v154_apply, val_main_v153_apply, val_main_v152_apply, val_main_v151_apply, val_main_v150_apply, val_main_v149_apply, val_main_cst_26_apply,
    val_main_v148_apply, val_main_v147_apply, val_main_cst_25_apply, val_main_v146_apply, val_main_v145_apply]
  generalize (val_main_v132 (F := Ideal) x2 x3 (ix3 b a k) : EReal) = V132
  generalize (val_main_v25 (F := Ideal) x0 (ix3 b a k) : EReal) = V25
  rfl

theorem v158_at : (val_main_v158 (F := Ideal) x0 x2 x3 : S8x49104x80.Idx → EReal) (ix3 b a k) = Scalar.select (Ideal.cmp .une (val_main_v132 (F := Ideal) x2 x3 (ix3 b a k)) (Cert.Loss.word 0xBF800000#32)) (val_main_v135 (F := Ideal) x2 x3 (ix3 b a k) * val_main_v142 (F := Ideal) x0 x2 x3 (ix3 b a k) * val_main_v154 (F := Ideal) x0 x2 x3 (ix3 b a k)) (Cert.Loss.word 0x00000000#32) := by
  rw [val_main_v158_apply, val_main_call11_v2_apply, val_main_call11_v1_apply, val_main_call11_v0_apply, val_main_cst_28_apply, val_main_v157_apply,
    val_main_v144_apply, val_main_v143_apply, val_main_v156_apply, val_main_v155_apply, val_main_cst_27_apply]
  generalize (val_main_v132 (F := Ideal) x2 x3 (ix3 b a k) : EReal) = V132
  generalize (val_main_v142 (F := Ideal) x0 x2 x3 (ix3 b a k) : EReal) = V142
  generalize (val_main_v135 (F := Ideal) x2 x3 (ix3 b a k) : EReal) = V135
  generalize (val_main_v154 (F := Ideal) x0 x2 x3 (ix3 b a k) : EReal) = V154
  rfl

theorem v159_at : (val_main_v159 (F := Ideal) x0 x2 x3 : S8.Idx → EReal) (ix1 b) = ∑ x : Fin 49104, ∑ y : Fin 80, val_main_v158 (F := Ideal) x0 x2 x3 (ix3 b x y) := by
  delta val_main_v159 val_main_cst_29
  generalize val_main_v158 (F := Ideal) x0 x2 x3 = V158
  pointwise

theorem v119_at : (val_main_v119 (F := Ideal) x2 x3 : S8.Idx → EReal) (ix1 b) = ∑ x : Fin 49104, Cert.Loss.bitVal (val_main_v116 (F := Ideal) x2 x3 (ix2 b x)) := by
  delta val_main_v119 val_main_v118 val_main_c_16 val_main_v117
  generalize val_main_v116 (F := Ideal) x2 x3 = V116
  pointwise
  exact Cert.Loss.count fun x => V116 (ix2 b x)

/-! ## The regression -/

theorem v163_at : (val_main_v163 (F := Ideal) x2 x3 : S8x49104.Idx → EReal) (ix2 b a) = val_main_v126 (F := Ideal) x2 x3 (ix3 b a 2) := by
  delta val_main_v163 val_main_v162
  generalize val_main_v126 (F := Ideal) x2 x3 = V126
  pointwise

theorem v165_at : (val_main_v165 (F := Ideal) x2 x3 : S8x49104.Idx → EReal) (ix2 b a) = val_main_v126 (F := Ideal) x2 x3 (ix3 b a 0) := by
  delta val_main_v165 val_main_v164
  generalize val_main_v126 (F := Ideal) x2 x3 = V126
  pointwise

theorem v168_at : (val_main_v168 (F := Ideal) x2 x3 : S8x49104.Idx → EReal) (ix2 b a) = val_main_v126 (F := Ideal) x2 x3 (ix3 b a 3) := by
  delta val_main_v168 val_main_v167
  generalize val_main_v126 (F := Ideal) x2 x3 = V126
  pointwise

theorem v170_at : (val_main_v170 (F := Ideal) x2 x3 : S8x49104.Idx → EReal) (ix2 b a) = val_main_v126 (F := Ideal) x2 x3 (ix3 b a 1) := by
  delta val_main_v170 val_main_v169
  generalize val_main_v126 (F := Ideal) x2 x3 = V126
  pointwise

theorem v173_at : (val_main_v173 (F := Ideal) x2 x3 : S8x49104.Idx → EReal) (ix2 b a) = val_main_v126 (F := Ideal) x2 x3 (ix3 b a 0) := by
  delta val_main_v173 val_main_v172
  generalize val_main_v126 (F := Ideal) x2 x3 = V126
  pointwise

theorem v178_at : (val_main_v178 (F := Ideal) x2 x3 : S8x49104.Idx → EReal) (ix2 b a) = val_main_v126 (F := Ideal) x2 x3 (ix3 b a 1) := by
  delta val_main_v178 val_main_v177
  generalize val_main_v126 (F := Ideal) x2 x3 = V126
  pointwise

theorem v166_at : (val_main_v166 (F := Ideal) x2 x3 : S8x49104.Idx → EReal) (ix2 b a) = val_main_v163 (F := Ideal) x2 x3 (ix2 b a) - val_main_v165 (F := Ideal) x2 x3 (ix2 b a) := by
  delta val_main_v166
  generalize val_main_v163 (F := Ideal) x2 x3 = V163
  generalize val_main_v165 (F := Ideal) x2 x3 = V165
  rfl

theorem v171_at : (val_main_v171 (F := Ideal) x2 x3 : S8x49104.Idx → EReal) (ix2 b a) = val_main_v168 (F := Ideal) x2 x3 (ix2 b a) - val_main_v170 (F := Ideal) x2 x3 (ix2 b a) := by
  delta val_main_v171
  generalize val_main_v168 (F := Ideal) x2 x3 = V168
  generalize val_main_v170 (F := Ideal) x2 x3 = V170
  rfl

theorem v176_at : (val_main_v176 (F := Ideal) x2 x3 : S8x49104.Idx → EReal) (ix2 b a) = val_main_v173 (F := Ideal) x2 x3 (ix2 b a) + Cert.Loss.word 0x3F000000#32 * (val_main_v166 (F := Ideal) x2 x3 (ix2 b a)) := by
  delta val_main_v176 val_main_v175 val_main_v174 val_main_cst_31
  generalize val_main_v173 (F := Ideal) x2 x3 = V173
  generalize val_main_v166 (F := Ideal) x2 x3 = V166
  pointwise

theorem v181_at : (val_main_v181 (F := Ideal) x2 x3 : S8x49104.Idx → EReal) (ix2 b a) = val_main_v178 (F := Ideal) x2 x3 (ix2 b a) + Cert.Loss.word 0x3F000000#32 * (val_main_v171 (F := Ideal) x2 x3 (ix2 b a)) := by
  delta val_main_v181 val_main_v180 val_main_v179 val_main_cst_32
  generalize val_main_v178 (F := Ideal) x2 x3 = V178
  generalize val_main_v171 (F := Ideal) x2 x3 = V171
  pointwise

theorem v182_at : (val_main_v182 (F := Ideal) x2 x3 : S8x49104.Idx → EReal) (ix2 b a) = max (val_main_v166 (F := Ideal) x2 x3 (ix2 b a)) 1 := by
  delta val_main_v182 val_main_call13_v1 val_main_call13_v0 val_main_cst_33
  generalize val_main_v166 (F := Ideal) x2 x3 = V166
  pointwise
  rw [max_comm, cst, Cert.Loss.word_one]

theorem v183_at : (val_main_v183 (F := Ideal) x2 x3 : S8x49104.Idx → EReal) (ix2 b a) = max (val_main_v171 (F := Ideal) x2 x3 (ix2 b a)) 1 := by
  delta val_main_v183 val_main_call14_v1 val_main_call14_v0 val_main_cst_34
  generalize val_main_v171 (F := Ideal) x2 x3 = V171
  pointwise
  rw [max_comm, cst, Cert.Loss.word_one]

theorem v191_at : (val_main_v191 (F := Ideal) x2 x3 : S8x49104.Idx → EReal) (ix2 b a) = Ideal.div (val_main_v176 (F := Ideal) x2 x3 (ix2 b a) - val_main_v15 (F := Ideal) x2 (ix1 a)) (val_main_v5 (F := Ideal) x2 (ix1 a)) := by
  delta val_main_v191 val_main_v190 val_main_v189 val_main_v188 val_main_v187 val_main_v186
  generalize val_main_v176 (F := Ideal) x2 x3 = V176
  generalize val_main_v15 (F := Ideal) x2 = V15
  generalize val_main_v5 (F := Ideal) x2 = V5
  pointwise

theorem v199_at : (val_main_v199 (F := Ideal) x2 x3 : S8x49104.Idx → EReal) (ix2 b a) = Ideal.div (val_main_v181 (F := Ideal) x2 x3 (ix2 b a) - val_main_v20 (F := Ideal) x2 (ix1 a)) (val_main_v10 (F := Ideal) x2 (ix1 a)) := by
  delta val_main_v199 val_main_v198 val_main_v197 val_main_v196 val_main_v195 val_main_v194
  generalize val_main_v181 (F := Ideal) x2 x3 = V181
  generalize val_main_v20 (F := Ideal) x2 = V20
  generalize val_main_v10 (F := Ideal) x2 = V10
  pointwise

theorem v205_at : (val_main_v205 (F := Ideal) x2 x3 : S8x49104.Idx → EReal) (ix2 b a) = Ideal.log (Ideal.div (val_main_v182 (F := Ideal) x2 x3 (ix2 b a)) (val_main_v5 (F := Ideal) x2 (ix1 a))) := by
  delta val_main_v205 val_main_v204 val_main_v203 val_main_v202
  generalize val_main_v182 (F := Ideal) x2 x3 = V182
  generalize val_main_v5 (F := Ideal) x2 = V5
  pointwise

theorem v211_at : (val_main_v211 (F := Ideal) x2 x3 : S8x49104.Idx → EReal) (ix2 b a) = Ideal.log (Ideal.div (val_main_v183 (F := Ideal) x2 x3 (ix2 b a)) (val_main_v10 (F := Ideal) x2 (ix1 a))) := by
  delta val_main_v211 val_main_v210 val_main_v209 val_main_v208
  generalize val_main_v183 (F := Ideal) x2 x3 = V183
  generalize val_main_v10 (F := Ideal) x2 = V10
  pointwise

theorem v193_at : (val_main_v193 (F := Ideal) x2 x3 : S8x49104.Idx → EReal) (ix2 b a) = Ideal.div (val_main_v191 (F := Ideal) x2 x3 (ix2 b a)) (Ideal.div 1 (Cert.Loss.word 0x41200000#32)) := by
  delta val_main_v193 val_main_v192 val_main_v184 val_main_cst_36 val_main_cst_35
  generalize val_main_v191 (F := Ideal) x2 x3 = V191
  pointwise

theorem v201_at : (val_main_v201 (F := Ideal) x2 x3 : S8x49104.Idx → EReal) (ix2 b a) = Ideal.div (val_main_v199 (F := Ideal) x2 x3 (ix2 b a)) (Ideal.div 1 (Cert.Loss.word 0x41200000#32)) := by
  delta val_main_v201 val_main_v200 val_main_v184 val_main_cst_36 val_main_cst_35
  generalize val_main_v199 (F := Ideal) x2 x3 = V199
  pointwise

theorem v207_at : (val_main_v207 (F := Ideal) x2 x3 : S8x49104.Idx → EReal) (ix2 b a) = Ideal.div (val_main_v205 (F := Ideal) x2 x3 (ix2 b a)) (Ideal.div 1 (Cert.Loss.word 0x40A00000#32)) := by
  delta val_main_v207 val_main_v206 val_main_v185 val_main_cst_38 val_main_cst_37
  generalize val_main_v205 (F := Ideal) x2 x3 = V205
  pointwise

theorem v213_at : (val_main_v213 (F := Ideal) x2 x3 : S8x49104.Idx → EReal) (ix2 b a) = Ideal.div (val_main_v211 (F := Ideal) x2 x3 (ix2 b a)) (Ideal.div 1 (Cert.Loss.word 0x40A00000#32)) := by
  delta val_main_v213 val_main_v212 val_main_v185 val_main_cst_38 val_main_cst_37
  generalize val_main_v211 (F := Ideal) x2 x3 = V211
  pointwise

theorem v218_0 : (val_main_v218 (F := Ideal) x2 x3 : S8x49104x4.Idx → EReal) (ix3 b a 0) = val_main_v193 (F := Ideal) x2 x3 (ix2 b a) := by
  delta val_main_v218 val_main_v217 val_main_v216 val_main_v215 val_main_v214
  generalize val_main_v193 (F := Ideal) x2 x3 = V193
  generalize val_main_v201 (F := Ideal) x2 x3 = V201
  generalize val_main_v207 (F := Ideal) x2 x3 = V207
  generalize val_main_v213 (F := Ideal) x2 x3 = V213
  pointwise

theorem v218_1 : (val_main_v218 (F := Ideal) x2 x3 : S8x49104x4.Idx → EReal) (ix3 b a 1) = val_main_v201 (F := Ideal) x2 x3 (ix2 b a) := by
  delta val_main_v218 val_main_v217 val_main_v216 val_main_v215 val_main_v214
  generalize val_main_v193 (F := Ideal) x2 x3 = V193
  generalize val_main_v201 (F := Ideal) x2 x3 = V201
  generalize val_main_v207 (F := Ideal) x2 x3 = V207
  generalize val_main_v213 (F := Ideal) x2 x3 = V213
  pointwise

theorem v218_2 : (val_main_v218 (F := Ideal) x2 x3 : S8x49104x4.Idx → EReal) (ix3 b a 2) = val_main_v207 (F := Ideal) x2 x3 (ix2 b a) := by
  delta val_main_v218 val_main_v217 val_main_v216 val_main_v215 val_main_v214
  generalize val_main_v193 (F := Ideal) x2 x3 = V193
  generalize val_main_v201 (F := Ideal) x2 x3 = V201
  generalize val_main_v207 (F := Ideal) x2 x3 = V207
  generalize val_main_v213 (F := Ideal) x2 x3 = V213
  pointwise

theorem v218_3 : (val_main_v218 (F := Ideal) x2 x3 : S8x49104x4.Idx → EReal) (ix3 b a 3) = val_main_v213 (F := Ideal) x2 x3 (ix2 b a) := by
  delta val_main_v218 val_main_v217 val_main_v216 val_main_v215 val_main_v214
  generalize val_main_v193 (F := Ideal) x2 x3 = V193
  generalize val_main_v201 (F := Ideal) x2 x3 = V201
  generalize val_main_v207 (F := Ideal) x2 x3 = V207
  generalize val_main_v213 (F := Ideal) x2 x3 = V213
  pointwise

theorem v220_at : (val_main_v220 (F := Ideal) x1 x2 x3 : S8x49104x4.Idx → EReal) (ix3 b a i) = Cert.Loss.dist (val_main_v218 (F := Ideal) x2 x3 (ix3 b a i)) (x1 (ix3 b a i)) := by
  delta val_main_v220 val_main_v219
  generalize val_main_v218 (F := Ideal) x2 x3 = V218
  rfl

theorem v228_at : (val_main_v228 (F := Ideal) x1 x2 x3 : S8x49104x4.Idx → EReal) (ix3 b a i) = Scalar.select (Ideal.cmp .ole (val_main_v220 (F := Ideal) x1 x2 x3 (ix3 b a i)) (Cert.Loss.word 0x3DE38E39#32)) (Cert.Loss.word 0x40900000#32 * val_main_v220 (F := Ideal) x1 x2 x3 (ix3 b a i) * val_main_v220 (F := Ideal) x1 x2 x3 (ix3 b a i)) (val_main_v220 (F := Ideal) x1 x2 x3 (ix3 b a i) - Cert.Loss.word 0x3D638E39#32) := by
  delta val_main_v228 val_main_v227 val_main_v226 val_main_cst_41 val_main_v225 val_main_v224 val_main_v223 val_main_cst_40 val_main_v222 val_main_v221
    val_main_cst_39
  generalize val_main_v220 (F := Ideal) x1 x2 x3 = V220
  rfl

theorem v230_at : (val_main_v230 (F := Ideal) x1 x2 x3 : S8x49104x4.Idx → EReal) (ix3 b a i) = Scalar.select (val_main_v116 (F := Ideal) x2 x3 (ix2 b a)) (val_main_v228 (F := Ideal) x1 x2 x3 (ix3 b a i)) 0 := by
  delta val_main_v230 val_main_call16_v3 val_main_call16_v2 val_main_call16_v0 val_main_cst_42 val_main_call16_v1 val_main_v229
  generalize val_main_v228 (F := Ideal) x1 x2 x3 = V228
  generalize val_main_v116 (F := Ideal) x2 x3 = V116
  pointwise
  rw [cst, Cert.Loss.word_zero]

theorem v233_at : (val_main_v233 (F := Ideal) x1 x2 x3 : S8.Idx → EReal) (ix1 b) = ∑ x : Fin 49104, ∑ y : Fin 4, val_main_v230 (F := Ideal) x1 x2 x3 (ix3 b x y) := by
  delta val_main_v233 val_main_cst_44
  generalize val_main_v230 (F := Ideal) x1 x2 x3 = V230
  pointwise

/-! ## The two results -/

theorem v245_at (y : S2.Idx) : (val_main_v245 (F := Ideal) x0 x1 x2 x3 : S2.Idx → EReal) (y) = Cert.Loss.total (fun b => val_main_v159 (F := Ideal) x0 x2 x3 (ix1 b)) (fun b => val_main_v233 (F := Ideal) x1 x2 x3 (ix1 b)) (fun b => val_main_v119 (F := Ideal) x2 x3 (ix1 b)) (y 0) := by
  delta val_main_v245 val_main_v244 val_main_v242 val_main_cst_51 val_main_v241 val_main_cst_50 val_main_v238 val_main_call18_v1 val_main_call18_v0
    val_main_cst_47 val_main_v237 val_main_v236 val_main_v235 val_main_v234 val_main_cst_45 val_main_call17_v1 val_main_call17_v0 val_main_cst_46
    val_main_v232 val_main_v231 val_main_cst_43 val_main_v243 val_main_v240 val_main_cst_49 val_main_v239 val_main_cst_48 val_main_v161 val_main_v160
    val_main_call12_v1 val_main_call12_v0 val_main_cst_30
  generalize val_main_v159 (F := Ideal) x0 x2 x3 = V159
  generalize val_main_v119 (F := Ideal) x2 x3 = V119
  generalize val_main_v233 (F := Ideal) x1 x2 x3 = V233
  pointwise
  unfold Cert.Loss.total
  rw [cst, cst, Cert.Loss.word_zero, Cert.Loss.word_one]
  rfl

end Cert.ReferenceIdeal.Value

end
-- ==== Proof.LossCls.lean ====
/- The classification's terms at one probability, as real numbers. -/
module

public import proofs.«01_k».proof.Proof.LossPick

@[expose] public section

set_option maxRecDepth 16384

noncomputable section

namespace Cert.Loss

open Idealize.ShloMosaic
open scoped EReal
open Cert.KernelIdeal.Hand (invLn2 negScale posScale)

theorem word_quarter : word 0x3E800000#32 = (((1 : ℝ) / 4 : ℝ) : EReal) := by simp [word, Ideal.ofBits, Ideal.ieee, -EReal.coe_mul]; norm_num
theorem word_three_quarters : word 0x3F400000#32 = (((3 : ℝ) / 4 : ℝ) : EReal) := by simp [word, Ideal.ofBits, Ideal.ieee, -EReal.coe_mul]; norm_num
theorem word_ten : word 0x41200000#32 = ((10 : ℝ) : EReal) := by simp [word, Ideal.ofBits, Ideal.ieee, -EReal.coe_mul]; norm_num
theorem word_five : word 0x40A00000#32 = ((5 : ℝ) : EReal) := by simp [word, Ideal.ofBits, Ideal.ieee, -EReal.coe_mul]; norm_num
theorem word_low : word 953267991#32 = ((13743895 / 2 ^ 37 : ℝ) : EReal) := by simp [word, Ideal.ofBits, Ideal.ieee, -EReal.coe_mul]; norm_num
theorem word_high : word 1065351538#32 = ((16775538 / 2 ^ 24 : ℝ) : EReal) := by simp [word, Ideal.ofBits, Ideal.ieee, -EReal.coe_mul]; norm_num
theorem word_fifths : word 0x3ECCCCCD#32 = ((13421773 / 2 ^ 25 : ℝ) : EReal) := by simp [word, Ideal.ofBits, Ideal.ieee, -EReal.coe_mul]; norm_num

/-- A probability between the bounds is a real number inside the unit interval, and the reference's clipping leaves it. -/
theorem prob_real (c : EReal) (h0 : word 953267991#32 ≤ c) (h1 : c ≤ word 1065351538#32) :
    min (word 1065351538#32) (max (word 953267991#32) c) = c ∧ ∃ r : ℝ, c = (r : EReal) ∧ 0 < r ∧ r < 1 := by
  refine ⟨by rw [max_eq_right h0, min_eq_right h1], ?_⟩
  rw [word_low] at h0
  rw [word_high] at h1
  have ht : c ≠ ⊤ := fun h => by rw [h] at h1; exact absurd (top_le_iff.mp h1) (EReal.coe_ne_top _)
  have hb : c ≠ ⊥ := fun h => by rw [h] at h0; exact absurd (le_bot_iff.mp h0) (EReal.coe_ne_bot _)
  refine ⟨c.toReal, (EReal.coe_toReal ht hb).symm, ?_, ?_⟩
  · have := EReal.coe_le_coe_iff.mp (h0.trans_eq (EReal.coe_toReal ht hb).symm)
    exact lt_of_lt_of_le (by norm_num) this
  · have := EReal.coe_le_coe_iff.mp ((EReal.coe_toReal ht hb).trans_le h1)
    exact lt_of_le_of_lt this (by norm_num)

/-- A whole label, not minus one and not under it, is a count. -/
theorem label (L : EReal) (hw : L = FloatOps.sitofp (F := Ideal) .f32 (FloatOps.fptosi (F := Ideal) (φ := .f32) 32 L)) (hge : word 0xBF800000#32 ≤ L) (hne : L ≠ word 0xBF800000#32) :
    ∃ t : ℕ, t < 2 ^ 31 ∧ L = ((t : ℝ) : EReal) ∧ FloatOps.fptosi (F := Ideal) (φ := .f32) 32 L = BitVec.ofNat 32 t := by
  set z := FloatOps.fptosi (F := Ideal) (φ := .f32) 32 L with hz
  have e : L = ((z.toInt : ℝ) : EReal) := hw
  rw [word_neg_one, e] at hge hne
  have h1 : (-1 : ℝ) ≤ (z.toInt : ℝ) := EReal.coe_le_coe_iff.mp hge
  have h2 : (z.toInt : ℝ) ≠ -1 := fun h => hne (by rw [h])
  have h1' : (-1 : ℤ) ≤ z.toInt := by exact_mod_cast h1
  have h2' : z.toInt ≠ -1 := fun h => h2 (by rw [h]; norm_num)
  have h3 : z.toInt < 2 ^ 31 := by have := z.toInt_lt; simpa using this
  have h4 : (z.toInt.toNat : ℤ) = z.toInt := Int.toNat_of_nonneg (by omega)
  refine ⟨z.toInt.toNat, by omega, ?_, ?_⟩
  · have h5 : ((z.toInt.toNat : ℕ) : ℝ) = (z.toInt : ℝ) := by exact_mod_cast h4
    rw [e, h5]
  · apply BitVec.eq_of_toInt_eq
    rw [WordArith.toInt_ofNat_small z.toInt.toNat (by omega), h4]

section Real

variable (r : ℝ) (h0 : 0 < r) (h1 : r < 1)
include h0 h1

theorem log_prob : Ideal.log (r : EReal) = ((Real.log r : ℝ) : EReal) := by rw [Ideal.log_coe, if_neg (not_le.mpr h0)]

theorem log_rest : Ideal.log (1 - (r : EReal)) = ((Real.log (1 - r) : ℝ) : EReal) := by
  rw [show (1 : EReal) - (r : EReal) = ((1 - r : ℝ) : EReal) by rw [EReal.coe_sub, EReal.coe_one], Ideal.log_coe, if_neg (not_le.mpr (by linarith))]

/-- The kernel's two terms, of a code that is a real number. -/
theorem clsNeg_real (w : ℝ) : clsNeg invLn2 (w : EReal) (r : EReal) = ((if 1 / 2 ≤ w then r * r * (Real.log (1 - r) * (Real.log 2)⁻¹) else 0 : ℝ) : EReal) := by
  unfold clsNeg invLn2
  rw [word_half, word_one, word_zero, Ideal.cmp_oge, sel, log_rest r h0 h1]
  by_cases h : 1 / 2 ≤ w
  · rw [if_pos h, if_pos (EReal.coe_le_coe_iff.mpr h)]; push_cast; rfl
  · rw [if_neg h, if_neg (fun h' => h (EReal.coe_le_coe_iff.mp h'))]; rfl

theorem clsPos_real (w : ℝ) {k : ℕ} (hk : k < 2 ^ 31) : clsPos invLn2 (w : EReal) (r : EReal) (FloatOps.sitofp (F := Ideal) .f32 (BitVec.ofNat 32 k))
    = ((if (k : ℝ) = w - 2 then (1 - r) * (1 - r) * (Real.log r * (Real.log 2)⁻¹) - r * r * 3 * (Real.log (1 - r) * (Real.log 2)⁻¹) else 0 : ℝ) : EReal) := by
  unfold clsPos invLn2
  rw [class_num hk, word_two, word_three, word_one, word_zero, Ideal.cmp_oeq, sel, log_rest r h0 h1, log_prob r h0 h1]
  by_cases h : (k : ℝ) = w - 2
  · rw [if_pos h, if_pos (by rw [h]; push_cast; rfl)]; push_cast; rfl
  · rw [if_neg h, if_neg (fun h' => h (by rw [← EReal.coe_sub] at h'; exact EReal.coe_eq_coe_iff.mp h'))]; rfl

/-- The reference's term, of a target `T` and a probability `c`. -/
def focal (T c : EReal) : EReal :=
  Scalar.select (Ideal.cmp .une T (word 0xBF800000#32))
    (Scalar.select (Ideal.cmp .oeq T (word 0x3F800000#32)) (word 0x3E800000#32) (word 0x3F400000#32)
      * Ideal.pow (Scalar.select (Ideal.cmp .oeq T (word 0x3F800000#32)) (word 0x3F800000#32 - c) c) (word 0x40000000#32)
      * -(T * Ideal.log c + (word 0x3F800000#32 - T) * Ideal.log (word 0x3F800000#32 - c))) (word 0x00000000#32)

omit h0 h1 in
theorem pow_two_real : Ideal.pow (r : EReal) ((2 : ℝ) : EReal) = ((r * r : ℝ) : EReal) := by
  rw [Ideal.pow_coe_coe]
  have : Real.rpow r 2 = r * r := (Real.rpow_two r).trans (sq r)
  rw [this]

theorem focal_one : focal 1 (r : EReal) = ((-(1 / 4) * ((1 - r) * (1 - r) * Real.log r) : ℝ) : EReal) := by
  unfold focal
  rw [word_one, word_zero, word_neg_one, word_quarter, word_two, Ideal.cmp_une, Ideal.cmp_oeq, sel, sel, sel, log_rest r h0 h1, log_prob r h0 h1]
  have hne : (1 : EReal) ≠ ((-1 : ℝ) : EReal) := by
    rw [← EReal.coe_one]; intro h; have := EReal.coe_eq_coe_iff.mp h; norm_num at this
  rw [if_pos hne, if_pos rfl, if_pos rfl, show (1 : EReal) - (r : EReal) = ((1 - r : ℝ) : EReal) by rw [EReal.coe_sub, EReal.coe_one], pow_two_real,
    show (1 : EReal) - 1 = ((0 : ℝ) : EReal) by rw [← EReal.coe_one, ← EReal.coe_sub]; norm_num, one_mul]
  norm_cast
  ring

theorem focal_zero : focal 0 (r : EReal) = ((-(3 / 4) * (r * r * Real.log (1 - r)) : ℝ) : EReal) := by
  unfold focal
  rw [word_one, word_zero, word_neg_one, word_three_quarters, word_two, Ideal.cmp_une, Ideal.cmp_oeq, sel, sel, sel, log_rest r h0 h1, log_prob r h0 h1]
  have hne : (0 : EReal) ≠ ((-1 : ℝ) : EReal) := by
    rw [← EReal.coe_zero]; intro h; have := EReal.coe_eq_coe_iff.mp h; norm_num at this
  rw [if_pos hne, if_neg zero_ne_one, if_neg zero_ne_one, pow_two_real, zero_mul, zero_add, sub_zero, one_mul]
  norm_cast
  ring

omit h0 h1 in
theorem focal_none : focal (word 0xBF800000#32) (r : EReal) = 0 := by
  unfold focal
  rw [Ideal.cmp_une, sel, if_neg (fun h => h rfl), word_zero]

end Real

end Cert.Loss

end
-- ==== Proof.RefMatch.lean ====
/- At one anchor: what the kernel's pick says and what the reference says are the same, and so are the three terms. -/
module

public import proofs.«01_k».proof.Proof.RefBody
public import proofs.«01_k».proof.Proof.LossCls

@[expose] public section

set_option maxRecDepth 16384

noncomputable section

namespace Cert.ReferenceIdeal.Value

open Cert.ReferenceIdeal Cert.ReferenceIdeal.Gen Cert.ReferenceIdeal.Read
open Idealize.ShloMosaic Idealize.ShloMosaic.Pointwise
open Cert.Loss (word Pick posBit useBit bitVal score pick start picked)
open Cert.KernelIdeal.Hand (invLn2)

variable (x0 : (⟨3, ![8, 49104, 80]⟩ : Shape).Idx → EReal) (x1 : (⟨3, ![8, 49104, 4]⟩ : Shape).Idx → EReal) (x2 : (⟨3, ![1, 49104, 4]⟩ : Shape).Idx → EReal) (x3 : (⟨3, ![8, 20, 5]⟩ : Shape).Idx → EReal)
variable (b : Fin 8) (a : Fin 49104) (k : Fin 80)

/-- Batch `b`'s annotations in their order. -/
def annS (n : ℕ) : Cert.Loss.Ann := if h : n < 20 then Cert.Loss.ann x3 b ⟨n, h⟩ else Cert.Loss.ann x3 b 0

/-- The kernel's pick at an anchor. -/
def best : Pick := pick (Cert.Loss.geo x2 a) (annS x3 b) 20

theorem annS_val (n : Fin 20) : annS x3 b n.val = Cert.Loss.ann x3 b n := dif_pos n.isLt

theorem score_over (n : Fin 20) : score (Cert.Loss.geo x2 a) (annS x3 b n.val) = over x2 x3 b a n := by
  rw [annS_val]
  refine Cert.Loss.score_ref _ _ ?_
  show (if x3 (ix3 b n 4) = word 0xBF800000#32 then (0 : EReal) else 1) = 0 ∨ _
  by_cases h : x3 (ix3 b n 4) = word 0xBF800000#32
  · exact Or.inl (if_pos h)
  · exact Or.inr (if_neg h)

theorem half_not_le_neg {x : EReal} (h : x ≤ word 0xBF800000#32) : ¬ word 0x3F000000#32 ≤ x := by
  rw [Cert.Loss.word_neg_one] at h
  rw [Cert.Loss.word_half, not_le]
  exact lt_of_le_of_lt h (EReal.coe_lt_coe_iff.mpr (by norm_num))

theorem neg_lt_fifths {x : EReal} (h : x ≤ word 0xBF800000#32) : x < word 0x3ECCCCCD#32 := by
  rw [Cert.Loss.word_neg_one] at h
  rw [Cert.Loss.word_fifths]
  exact lt_of_le_of_lt h (EReal.coe_lt_coe_iff.mpr (by norm_num))

/-- The reference's matched bit, its background bit and its assigned annotation are the pick's. -/
theorem matched : val_main_v116 (F := Ideal) x2 x3 (ix2 b a) = posBit (best x2 x3 b a) 1#1
    ∧ val_main_v109 (F := Ideal) x2 x3 (ix2 b a) = Ideal.cmp .olt (best x2 x3 b a).m (word 0x3ECCCCCD#32)
    ∧ (posBit (best x2 x3 b a) 1#1 = 1#1 → ∃ j : Fin 20, x3 (ix3 b j 4) ≠ word 0xBF800000#32
        ∧ (∀ q, val_main_v126 (F := Ideal) x2 x3 (ix3 b a q) = x3 (ix3 b j q))
        ∧ best x2 x3 b a = ⟨(best x2 x3 b a).m, x3 (ix3 b j 4), x3 (ix3 b j 0), x3 (ix3 b j 1), x3 (ix3 b j 2), x3 (ix3 b j 3)⟩) := by
  rw [v116_at, v109_at, v95_at]
  rcases picked (Cert.Loss.geo x2 a) (annS x3 b) 20 with ⟨e, h⟩ | ⟨j, hj, e, hs, hmax, hfirst⟩
  · have hb : best x2 x3 b a = start := e
    have ht : Cert.Loss.top (over x2 x3 b a) ≤ word 0xBF800000#32 := Cert.Loss.top_le _ _ fun i => by
      rw [← score_over]; exact h i.val i.isLt
    have hm : start.m ≤ word 0xBF800000#32 := le_refl _
    rw [hb]
    unfold posBit
    rw [Ideal.cmp_oge, Ideal.cmp_oge, Ideal.cmp_olt, Ideal.cmp_olt, decide_eq_false (half_not_le_neg ht), decide_eq_false (half_not_le_neg hm),
      decide_eq_true (neg_lt_fifths ht), decide_eq_true (neg_lt_fifths hm)]
    refine ⟨by simp, rfl, fun h' => absurd h' (by decide)⟩
  · have hS : ∀ i : Fin 20, over x2 x3 b a i ≤ over x2 x3 b a ⟨j, hj⟩ := fun i => by
      rw [← score_over, ← score_over]; exact hmax i.val i.isLt
    have hF : ∀ i < (⟨j, hj⟩ : Fin 20), over x2 x3 b a i < over x2 x3 b a ⟨j, hj⟩ := fun i hi => by
      rw [← score_over, ← score_over]; exact hfirst i.val hi
    have hsj : over x2 x3 b a ⟨j, hj⟩ = score (Cert.Loss.geo x2 a) (annS x3 b j) := (score_over x2 x3 b a ⟨j, hj⟩).symm
    have hb : best x2 x3 b a = ⟨over x2 x3 b a ⟨j, hj⟩, x3 (ix3 b ⟨j, hj⟩ 4), x3 (ix3 b ⟨j, hj⟩ 0), x3 (ix3 b ⟨j, hj⟩ 1), x3 (ix3 b ⟨j, hj⟩ 2), x3 (ix3 b ⟨j, hj⟩ 3)⟩ := by
      refine Eq.trans e ?_
      rw [hsj, show annS x3 b j = Cert.Loss.ann x3 b ⟨j, hj⟩ from annS_val x3 b ⟨j, hj⟩]
      rfl
    have hne : x3 (ix3 b ⟨j, hj⟩ 4) ≠ word 0xBF800000#32 := fun h => by
      rw [← hsj] at hs
      unfold over Cert.Loss.ref at hs
      rw [if_pos (show (Cert.Loss.ann x3 b ⟨j, hj⟩).val = 0 from if_pos h)] at hs
      exact lt_irrefl _ hs
    have hany : val_main_v106 (F := Ideal) x3 (ix1 b) = 1#1 := by
      rw [v106_at]
      exact Cert.Loss.anyBit _ ⟨j, hj⟩ (by rw [decide_eq_true hne]; rfl)
    have hm : (best x2 x3 b a).m = over x2 x3 b a ⟨j, hj⟩ := by rw [hb]
    rw [hany, Cert.Loss.top_eq _ ⟨j, hj⟩ hS]
    refine ⟨by unfold posBit; rw [hm], by rw [hm], fun _ => ⟨⟨j, hj⟩, hne, fun q => ?_, by rw [hm]; exact hb⟩⟩
    rw [v126_at]
    have hi : val_main_v125 (F := Ideal) x2 x3 (ix3 b a 0) = BitVec.ofNat 32 j := by
      rw [v125_at, Cert.Loss.firstTop_eq _ ⟨j, hj⟩ hS hF, Cert.Loss.slt_zero_word (a := j) (by omega)]
      rfl
    have hmin : min (val_main_v125 (F := Ideal) x2 x3 (ix3 b a 0)).toInt.toNat 19 = j := by
      rw [hi, WordArith.toInt_ofNat_small j (by omega)]
      simp; omega
    exact congrArg (fun z : Fin 20 => x3 (ix3 b z q)) (Fin.ext hmin)

/-- A choice on a bit. -/
theorem selBit (c : BitVec 1) (x y : EReal) : Scalar.select c x y = if c = 1#1 then x else y := rfl

/-- The count's term. -/
theorem num_eq : bitVal (val_main_v116 (F := Ideal) x2 x3 (ix2 b a)) = bitVal (posBit (best x2 x3 b a) 1#1) := by rw [(matched x2 x3 b a).1]

/-- Division by a tenth, and by a fifth. -/
theorem div_tenth (z : EReal) : Ideal.div z (Ideal.div 1 (word 0x41200000#32)) = z * word 0x41200000#32 := by
  rw [Cert.Loss.word_ten, Ideal.div_coe (by norm_num), one_mul, Ideal.div_coe (by norm_num)]
  norm_num

theorem div_fifth (z : EReal) : Ideal.div z (Ideal.div 1 (word 0x40A00000#32)) = z * word 0x40A00000#32 := by
  rw [Cert.Loss.word_five, Ideal.div_coe (by norm_num), one_mul, Ideal.div_coe (by norm_num)]
  norm_num

theorem huber_at (i : Fin 4) : val_main_v228 (F := Ideal) x1 x2 x3 (ix3 b a i) = Cert.Loss.huber (val_main_v218 (F := Ideal) x2 x3 (ix3 b a i)) (x1 (ix3 b a i)) := by
  rw [v228_at, v220_at]
  rfl

/-- The regression's term. -/
theorem reg_eq : (∑ i : Fin 4, val_main_v230 (F := Ideal) x1 x2 x3 (ix3 b a i)) = Cert.Loss.regTerm (Cert.Loss.geo x2 a) (best x2 x3 b a) 1#1 (fun i => x1 (ix3 b a i)) := by
  obtain ⟨hp, -, hj⟩ := matched x2 x3 b a
  simp only [v230_at, huber_at, hp]
  simp only [Cert.Loss.regTerm, selBit]
  by_cases h : posBit (best x2 x3 b a) 1#1 = 1#1
  · obtain ⟨j, -, hg, hb⟩ := hj h
    simp only [if_pos h]
    rw [Fin.sum_univ_four]
    unfold Cert.Loss.regSum
    have ex : val_main_v218 (F := Ideal) x2 x3 (ix3 b a 0) = Cert.Loss.tx (Cert.Loss.geo x2 a) (best x2 x3 b a) := by
      rw [v218_0, v193_at, div_tenth, v191_at, v176_at, v173_at, v166_at, v163_at, v165_at, v15_at, v5_at, hg, hg, hb]
      rfl
    have ey : val_main_v218 (F := Ideal) x2 x3 (ix3 b a 1) = Cert.Loss.ty (Cert.Loss.geo x2 a) (best x2 x3 b a) := by
      rw [v218_1, v201_at, div_tenth, v199_at, v181_at, v178_at, v171_at, v168_at, v170_at, v20_at, v10_at, hg, hg, hb]
      rfl
    have ew : val_main_v218 (F := Ideal) x2 x3 (ix3 b a 2) = Cert.Loss.tw (Cert.Loss.geo x2 a) (best x2 x3 b a) := by
      rw [v218_2, v207_at, div_fifth, v205_at, v182_at, v166_at, v163_at, v165_at, v5_at, hg, hg, hb]
      unfold Cert.Loss.tw
      rw [Cert.Loss.word_one]
    have eh : val_main_v218 (F := Ideal) x2 x3 (ix3 b a 3) = Cert.Loss.th (Cert.Loss.geo x2 a) (best x2 x3 b a) := by
      rw [v218_3, v213_at, div_fifth, v211_at, v183_at, v171_at, v168_at, v170_at, v10_at, hg, hg, hb]
      unfold Cert.Loss.th
      rw [Cert.Loss.word_one]
    rw [ex, ey, ew, eh]
  · simp only [if_neg h]
    rw [Cert.Loss.word_zero]
    exact Finset.sum_const_zero

/-- The target of a class. -/
theorem target_at (t : ℕ) (ht : t < 2 ^ 31) (h : FloatOps.fptosi (F := Ideal) (φ := .f32) 32 (val_main_v126 (F := Ideal) x2 x3 (ix3 b a 4)) = BitVec.ofNat 32 t) :
    val_main_v130 (F := Ideal) x2 x3 (ix3 b a k) = if t = k.val then 1 else 0 := by
  rw [v130_at, h, Cert.Loss.eq_word ht (by omega)]
  by_cases hk : t = k.val
  · rw [if_pos hk, if_pos hk]
    show (((1#1).toNat : ℝ) : EReal) = 1
    simp
  · rw [if_neg hk, if_neg hk]
    show (((0#1).toNat : ℝ) : EReal) = 0
    simp

theorem v158_focal (h0 : word 953267991#32 ≤ x0 (ix3 b a k)) (h1 : x0 (ix3 b a k) ≤ word 1065351538#32) :
    val_main_v158 (F := Ideal) x0 x2 x3 (ix3 b a k) = Cert.Loss.focal (val_main_v132 (F := Ideal) x2 x3 (ix3 b a k)) (x0 (ix3 b a k)) := by
  rw [v158_at, v135_at, v142_at, v140_at, v154_at, v25_at, (Cert.Loss.prob_real _ h0 h1).1]
  rfl

/-- The classification's term: the kernel's two terms, scaled and added, are the reference's. -/
theorem cls_eq (h0 : word 953267991#32 ≤ x0 (ix3 b a k)) (h1 : x0 (ix3 b a k) ≤ word 1065351538#32)
    (hlab : ∀ j : Fin 20, x3 (ix3 b j 4) = FloatOps.sitofp (F := Ideal) .f32 (FloatOps.fptosi (F := Ideal) (φ := .f32) 32 (x3 (ix3 b j 4))) ∧ word 0xBF800000#32 ≤ x3 (ix3 b j 4)) :
    ∃ n p : ℝ, Cert.Loss.clsNeg invLn2 (Cert.Loss.code (best x2 x3 b a) 1#1) (x0 (ix3 b a k)) = (n : EReal)
      ∧ Cert.Loss.clsPos invLn2 (Cert.Loss.code (best x2 x3 b a) 1#1) (x0 (ix3 b a k)) (FloatOps.sitofp (F := Ideal) .f32 (BitVec.ofNat 32 k.val)) = (p : EReal)
      ∧ val_main_v158 (F := Ideal) x0 x2 x3 (ix3 b a k) = (((-3 / 4) * Real.log 2 * n + (-1 / 4) * Real.log 2 * p : ℝ) : EReal) := by
  rw [v158_focal x0 x2 x3 b a k h0 h1]
  obtain ⟨r, hr, r0, r1⟩ := (Cert.Loss.prob_real _ h0 h1).2
  rw [hr, v132_at]
  have hk : k.val < 2 ^ 31 := by omega
  have hl : Real.log 2 ≠ 0 := (Real.log_pos (by norm_num)).ne'
  obtain ⟨hp, hn, hj⟩ := matched x2 x3 b a
  rw [v111_at, hp, hn]
  simp only [Cert.Loss.code, selBit]
  by_cases h : posBit (best x2 x3 b a) 1#1 = 1#1
  · obtain ⟨j, hne, hg, hb⟩ := hj h
    obtain ⟨t, ht, hL, hf⟩ := Cert.Loss.label _ (hlab j).1 (hlab j).2 hne
    have hb' : (best x2 x3 b a).lab = ((t : ℝ) : EReal) := by rw [hb]; exact hL
    rw [if_pos h, if_pos h, hb', Cert.Loss.word_two, ← EReal.coe_add, Cert.Loss.clsNeg_real r r0 r1, Cert.Loss.clsPos_real r r0 r1 _ hk, target_at x2 x3 b a k t ht (by rw [hg]; exact hf)]
    have ht0 : (0 : ℝ) ≤ t := Nat.cast_nonneg t
    refine ⟨_, _, rfl, rfl, ?_⟩
    rw [if_pos (show (1 : ℝ) / 2 ≤ t + 2 by linarith)]
    by_cases hkt : t = k.val
    · rw [if_pos hkt, if_pos (show (k.val : ℝ) = t + 2 - 2 by rw [hkt]; ring), Cert.Loss.focal_one r r0 r1]
      refine EReal.coe_eq_coe_iff.mpr ?_
      field_simp
      ring
    · rw [if_neg hkt, if_neg (fun h' => hkt (by have h'' : (k.val : ℝ) = t := by linarith
                                                exact_mod_cast h''.symm)), Cert.Loss.focal_zero r r0 r1]
      refine EReal.coe_eq_coe_iff.mpr ?_
      field_simp
      ring
  · rw [if_neg h, if_neg h]
    have h' : posBit (best x2 x3 b a) 1#1 = 0#1 := by
      revert h; generalize posBit (best x2 x3 b a) 1#1 = y; revert y; decide
    have hu : useBit (best x2 x3 b a) 1#1 = Ideal.cmp .olt (best x2 x3 b a).m (word 0x3ECCCCCD#32) := by
      unfold useBit; rw [h']
      generalize Ideal.cmp .olt (best x2 x3 b a).m (word 0x3ECCCCCD#32) = y; revert y; decide
    rw [Cert.Loss.bitVal_eq, hu]
    by_cases hc : Ideal.cmp .olt (best x2 x3 b a).m (word 0x3ECCCCCD#32) = 1#1
    · rw [if_pos hc, if_pos hc, ← EReal.coe_one, Cert.Loss.clsNeg_real r r0 r1, Cert.Loss.clsPos_real r r0 r1 _ hk]
      refine ⟨_, _, rfl, rfl, ?_⟩
      rw [if_pos (show (1 : ℝ) / 2 ≤ 1 by norm_num), if_neg (fun h'' => by have := Nat.cast_nonneg (α := ℝ) k.val; linarith), Cert.Loss.focal_zero r r0 r1]
      refine EReal.coe_eq_coe_iff.mpr ?_
      field_simp
      ring
    · rw [if_neg hc, if_neg hc, ← EReal.coe_zero, Cert.Loss.clsNeg_real r r0 r1, Cert.Loss.clsPos_real r r0 r1 _ hk]
      refine ⟨_, _, rfl, rfl, ?_⟩
      rw [if_neg (show ¬ (1 : ℝ) / 2 ≤ 0 by norm_num), if_neg (fun h'' => by have := Nat.cast_nonneg (α := ℝ) k.val; linarith), Cert.Loss.focal_none]
      simp

end Cert.ReferenceIdeal.Value

end
-- ==== Proof.LossBlocks.lean ====
/- Sums over the anchors, cut into the kernel's blocks. -/
module

public import proofs.«01_k».proof.Proof.LossPick

@[expose] public section

noncomputable section

namespace Cert.Loss

/-- A term of the anchor array's, and zero at the padding. -/
def pad (f : Fin 49104 → EReal) (n : ℕ) : EReal := if h : n < 49104 then f ⟨n, h⟩ else 0

theorem pad_of_lt (f : Fin 49104 → EReal) (n : ℕ) (h : n < 49104) : pad f n = f ⟨n, h⟩ := dif_pos h
theorem pad_of_ge (f : Fin 49104 → EReal) (n : ℕ) (h : ¬ n < 49104) : pad f n = 0 := dif_neg h

/-- Rows of lanes, in order. -/
theorem rows (G : ℕ → EReal) (R L : ℕ) : (∑ r ∈ Finset.range R, ∑ l ∈ Finset.range L, G (r * L + l)) = ∑ n ∈ Finset.range (R * L), G n := by
  induction R with
  | zero => simp
  | succ R ih => rw [Finset.sum_range_succ, ih, Nat.succ_mul, Finset.sum_range_add]

/-- One block's rows of lanes. -/
theorem block (G : ℕ → EReal) : (∑ r : Fin 96, ∑ l : Fin 128, G (r.val * 128 + l.val)) = ∑ n : Fin 12288, G n.val := by
  rw [Fin.sum_univ_eq_sum_range (fun r => ∑ l : Fin 128, G (r * 128 + l.val)) 96, Fin.sum_univ_eq_sum_range G 12288, ← rows G 96 128]
  exact Finset.sum_congr rfl fun r _ => Fin.sum_univ_eq_sum_range (fun l => G (r * 128 + l)) 128

/-- The four blocks of the padded array hold the anchors' terms. -/
theorem blocks (f : Fin 49104 → EReal) :
    (∑ n : Fin 12288, pad f (0 * 12288 + n.val)) + (∑ n : Fin 12288, pad f (1 * 12288 + n.val)) + (∑ n : Fin 12288, pad f (2 * 12288 + n.val)) + (∑ n : Fin 12288, pad f (3 * 12288 + n.val))
      = ∑ a, f a := by
  rw [Fin.sum_univ_eq_sum_range (fun n => pad f (0 * 12288 + n)) 12288, Fin.sum_univ_eq_sum_range (fun n => pad f (1 * 12288 + n)) 12288,
    Fin.sum_univ_eq_sum_range (fun n => pad f (2 * 12288 + n)) 12288, Fin.sum_univ_eq_sum_range (fun n => pad f (3 * 12288 + n)) 12288]
  have h := rows (pad f) 4 12288
  rw [Finset.sum_range_succ, Finset.sum_range_succ, Finset.sum_range_succ, Finset.sum_range_one] at h
  refine h.trans ?_
  rw [show 4 * 12288 = 49104 + 48 by norm_num, Finset.sum_range_add]
  rw [Finset.sum_eq_zero (s := Finset.range 48) (fun n _ => pad_of_ge f (49104 + n) (by omega)), add_zero, ← Fin.sum_univ_eq_sum_range (pad f) 49104]
  exact Finset.sum_congr rfl fun a _ => pad_of_lt f a.val a.isLt

/-- Two scaled double sums of real numbers are one. -/
theorem join {ι κ : Type} [Fintype ι] [Fintype κ] [DecidableEq ι] [DecidableEq κ] (N P : ι → κ → ℝ) (s t : ℝ) :
    (s : EReal) * (∑ i, ∑ j, (N i j : EReal)) + (t : EReal) * (∑ i, ∑ j, (P i j : EReal)) = ∑ i, ∑ j, ((s * N i j + t * P i j : ℝ) : EReal) := by
  simp only [← coe_sum, ← EReal.coe_mul, ← EReal.coe_add]
  refine EReal.coe_eq_coe_iff.mpr ?_
  simp only [Finset.mul_sum, Finset.sum_add_distrib]

end Cert.Loss

end
-- ==== Proof.KernelIdealJoin.lean ====
/- The kernel's row of a batch holds the reference's three sums. -/
module

public import proofs.«01_k».proof.Proof.KernelIdealRun
public import proofs.«01_k».proof.Proof.KernelIdealHost
public import proofs.«01_k».proof.Proof.RefMatch
public import proofs.«01_k».proof.Proof.LossBlocks

@[expose] public section

set_option maxRecDepth 16384

noncomputable section

namespace Cert.KernelIdeal.Value

open Cert.KernelIdeal Cert.KernelIdeal.Gen Cert.KernelIdeal.Hand
open Idealize.ShloMosaic Idealize.ShloMosaic.TcCoe Idealize.ShloMosaic.Tactic Idealize.ShloMosaic.Pointwise
open Cert.ReferenceIdeal.Value (best annS)
open Cert.Loss (word pad posBit bitVal)

variable (m : (ℓ : Loc nD τ sig) → Buf (Elt Ideal) ℓ) (c : Dev nD)

/-- The argument arrays the loss reads. -/
abbrev probs : S8x49104x80.Idx → EReal := m ((c.tc : Thread nD τ).loc main_arg0)
abbrev preds : S8x49104x4.Idx → EReal := m ((c.tc : Thread nD τ).loc main_arg1)
abbrev anchors : S1x49104x4.Idx → EReal := m ((c.tc : Thread nD τ).loc main_arg2)
abbrev annots : S8x20x5.Idx → EReal := m ((c.tc : Thread nD τ).loc main_arg3)

theorem V_eq (b : Ref sig .tc) : V m c b = StableHlo.after hostOps0 (fun b => m (c, b)) (Proc.devRef .tc b) := by
  have e : ([hostOps0] : List (List (HloOp τ sig (Elt Ideal)))).flatten = hostOps0 := by simp
  show StableHlo.after _ _ _ = _
  rw [e]

section Point

variable (b : Fin 8) (i : Fin 4)

theorem pt_div : (pt b i).val / 4 = b.val := by show (4 * b.val + i.val) / 4 = b.val; omega
theorem pt_mod : (pt b i).val % 4 = i.val := by show (4 * b.val + i.val) % 4 = i.val; omega

theorem blk1 (p : Fin 96) (q : Fin 512) : (iblk m c 1 (pt b i) : S1x96x512.Idx → EReal) (ix3 0 p q)
    = (StableHlo.after hostOps0 (fun b => m (c, b)) (Proc.devRef .tc main_call0_v30) : S8x384x512.Idx → EReal) (ix3 b ⟨i.val * 96 + p.val, by omega⟩ q) := by
  rw [iblk1_at, V_eq]
  refine congrArg (StableHlo.after hostOps0 (fun b => m (c, b)) (Proc.devRef .tc main_call0_v30) : S8x384x512.Idx → EReal) ?_
  rw [show (⟨(pt b i).val / 4, by have := lt32 (pt b i); omega⟩ : Fin 8) = b from Fin.ext (pt_div b i),
    show (⟨(pt b i).val % 4 * 96 + p.val, by omega⟩ : Fin 384) = ⟨i.val * 96 + p.val, by omega⟩ from Fin.ext (by show _ % 4 * 96 + _ = _; rw [pt_mod])]

theorem blk2 (p : Fin 96) (q : Fin 1024) : (iblk m c 2 (pt b i) : S96x1024.Idx → EReal) (ix2 p q)
    = (StableHlo.after hostOps0 (fun b => m (c, b)) (Proc.devRef .tc main_call0_v25) : S384x1024.Idx → EReal) (ix2 ⟨i.val * 96 + p.val, by omega⟩ q) := by
  rw [iblk2_at, V_eq]
  refine congrArg (StableHlo.after hostOps0 (fun b => m (c, b)) (Proc.devRef .tc main_call0_v25) : S384x1024.Idx → EReal) ?_
  rw [show (⟨(pt b i).val % 4 * 96 + p.val, by omega⟩ : Fin 384) = ⟨i.val * 96 + p.val, by omega⟩ from Fin.ext (by show _ % 4 * 96 + _ = _; rw [pt_mod])]

theorem blk3 (p : Fin 8) (q : Fin 20) : (iblk m c 3 (pt b i) : S1x8x20.Idx → EReal) (ix3 0 p q)
    = (StableHlo.after hostOps0 (fun b => m (c, b)) (Proc.devRef .tc main_call0_v51) : S8x8x20.Idx → EReal) (ix3 b p q) := by
  rw [iblk3_at, V_eq]
  refine congrArg (StableHlo.after hostOps0 (fun b => m (c, b)) (Proc.devRef .tc main_call0_v51) : S8x8x20.Idx → EReal) ?_
  rw [show (⟨(pt b i).val / 4, by have := lt32 (pt b i); omega⟩ : Fin 8) = b from Fin.ext (pt_div b i)]

theorem ann_eq (q : Fin 20) : annOf (iblk m c 3 (pt b i)) q = Cert.Loss.ann (annots m c) b q := by
  unfold annOf
  rw [blk3, blk3, blk3, blk3, blk3, blk3, blk3, ann_x1, ann_y1, ann_x2, ann_y2, ann_lab, ann_area, ann_val]

theorem annSeq_eq : annSeq (iblk m c 3 (pt b i)) = annS (annots m c) b := by
  funext n
  unfold annSeq annS
  by_cases h : n < 20
  · rw [dif_pos h, dif_pos h, ann_eq]
  · rw [dif_neg h, dif_neg h, ann_eq]

section Anchor

variable (r : Fin 96) (l : Fin 128) (a : Fin 49104) (ha : a.val = i.val * 12288 + (r.val * 128 + l.val))
include ha

theorem geo_eq : geoOf (iblk m c 2 (pt b i)) r l = Cert.Loss.geo (anchors m c) a := by
  have h : a.val = (⟨i.val * 96 + r.val, by omega⟩ : Fin 384).val * 128 + l.val := by
    show a.val = (i.val * 96 + r.val) * 128 + l.val; omega
  unfold geoOf
  rw [blk2, blk2, blk2, blk2, blk2, blk2, blk2, blk2, anc_x1 _ _ l a h, anc_y1 _ _ l a h, anc_x2 _ _ l a h, anc_y2 _ _ l a h, anc_w _ _ l a h, anc_h _ _ l a h, anc_cx _ _ l a h, anc_cy _ _ l a h]

theorem pick_eq : pickOf (iblk m c 2 (pt b i)) (iblk m c 3 (pt b i)) r l = best (anchors m c) (annots m c) b a := by
  unfold pickOf best
  rw [geo_eq m c b i r l a ha, annSeq_eq]

theorem pred_eq : predOf (iblk m c 1 (pt b i)) r l = fun j => preds m c (ix3 b a j) := by
  have h : a.val = (⟨i.val * 96 + r.val, by omega⟩ : Fin 384).val * 128 + l.val := by
    show a.val = (i.val * 96 + r.val) * 128 + l.val; omega
  funext j
  unfold predOf
  rw [blk1, reg_at _ b _ l j a h]

theorem inb_eq : inbOf (grid0.coords (pt b i)) r l = 1#1 := by
  have h : i.val * 12288 + r.val * 128 + l.val < 49104 := Nat.lt_of_le_of_lt (Nat.le_of_eq (by rw [ha, Nat.add_assoc])) a.isLt
  rw [inbOf_eq, coord1, pt_mod]
  exact if_pos h

end Anchor

theorem inb_out (r : Fin 96) (l : Fin 128) (h : ¬ i.val * 12288 + (r.val * 128 + l.val) < 49104) : inbOf (grid0.coords (pt b i)) r l = 0#1 := by
  have h' : ¬ i.val * 12288 + r.val * 128 + l.val < 49104 := by rw [Nat.add_assoc]; exact h
  rw [inbOf_eq, coord1, pt_mod]
  exact if_neg h'

/-! ## The block's three totals -/

theorem num_blk : numTotal (grid0.coords (pt b i)) (iblk m c 2 (pt b i)) (iblk m c 3 (pt b i))
    = ∑ n : Fin 12288, pad (fun a => bitVal (posBit (best (anchors m c) (annots m c) b a) 1#1)) (i.val * 12288 + n.val) := by
  rw [← Cert.Loss.block (fun n => pad (fun a => bitVal (posBit (best (anchors m c) (annots m c) b a) 1#1)) (i.val * 12288 + n))]
  unfold numTotal
  refine Finset.sum_congr rfl fun r _ => Finset.sum_congr rfl fun l _ => ?_
  by_cases h : i.val * 12288 + (r.val * 128 + l.val) < 49104
  · rw [Cert.Loss.pad_of_lt _ _ h, inb_eq b i r l ⟨_, h⟩ rfl, pick_eq m c b i r l ⟨_, h⟩ rfl]
  · rw [Cert.Loss.pad_of_ge _ _ h, inb_out b i r l h]
    unfold posBit
    rw [Cert.Loss.bitVal_eq]
    simp

theorem reg_blk : regTotal (grid0.coords (pt b i)) (iblk m c 1 (pt b i)) (iblk m c 2 (pt b i)) (iblk m c 3 (pt b i))
    = ∑ n : Fin 12288, pad (fun a => Cert.Loss.regTerm (Cert.Loss.geo (anchors m c) a) (best (anchors m c) (annots m c) b a) 1#1 (fun j => preds m c (ix3 b a j))) (i.val * 12288 + n.val) := by
  rw [← Cert.Loss.block (fun n => pad (fun a => Cert.Loss.regTerm (Cert.Loss.geo (anchors m c) a) (best (anchors m c) (annots m c) b a) 1#1 (fun j => preds m c (ix3 b a j))) (i.val * 12288 + n))]
  unfold regTotal
  refine Finset.sum_congr rfl fun r _ => Finset.sum_congr rfl fun l _ => ?_
  by_cases h : i.val * 12288 + (r.val * 128 + l.val) < 49104
  · rw [Cert.Loss.pad_of_lt _ _ h, inb_eq b i r l ⟨_, h⟩ rfl, pick_eq m c b i r l ⟨_, h⟩ rfl, geo_eq m c b i r l ⟨_, h⟩ rfl, pred_eq m c b i r l ⟨_, h⟩ rfl]
  · rw [Cert.Loss.pad_of_ge _ _ h, inb_out b i r l h]
    unfold Cert.Loss.regTerm posBit
    rw [Cert.Loss.word_zero, Cert.ReferenceIdeal.Value.selBit, if_neg (by simp)]

variable (hp : ∀ i, word 953267991#32 ≤ probs m c i ∧ probs m c i ≤ word 1065351538#32)
  (hl : ∀ (b : Fin 8) (j : Fin 20), annots m c (ix3 b j 4) = FloatOps.sitofp (F := Ideal) .f32 (FloatOps.fptosi (F := Ideal) (φ := .f32) 32 (annots m c (ix3 b j 4))) ∧ word 0xBF800000#32 ≤ annots m c (ix3 b j 4))
include hp hl

theorem cls_blk : clsTotal (grid0.coords (pt b i)) (clsBlk m c (pt b i)) (iblk m c 2 (pt b i)) (iblk m c 3 (pt b i))
    = ∑ n : Fin 12288, pad (fun a => ∑ k : Fin 80, Cert.ReferenceIdeal.Read.val_main_v158 (F := Ideal) (probs m c) (anchors m c) (annots m c) (ix3 b a k)) (i.val * 12288 + n.val) := by
  have key : ∀ (n : Fin 12288) (k : Fin 80), ∃ N P : ℝ,
      Cert.Loss.clsNeg invLn2 (codeOf (grid0.coords (pt b i)) (iblk m c 2 (pt b i)) (iblk m c 3 (pt b i)) n) (probOf (clsBlk m c (pt b i)) n k) = (N : EReal)
      ∧ Cert.Loss.clsPos invLn2 (codeOf (grid0.coords (pt b i)) (iblk m c 2 (pt b i)) (iblk m c 3 (pt b i)) n) (probOf (clsBlk m c (pt b i)) n k) (FloatOps.sitofp (F := Ideal) .f32 (BitVec.ofNat 32 k.val)) = (P : EReal)
      ∧ pad (fun a => Cert.ReferenceIdeal.Read.val_main_v158 (F := Ideal) (probs m c) (anchors m c) (annots m c) (ix3 b a k)) (i.val * 12288 + n.val)
          = (((-3 / 4) * Real.log 2 * N + (-1 / 4) * Real.log 2 * P : ℝ) : EReal) := by
    intro n k
    have hn : i.val * 12288 + ((rowOf n).val * 128 + (laneOf n).val) = i.val * 12288 + n.val := by
      show i.val * 12288 + (n.val / 128 * 128 + n.val % 128) = _; omega
    unfold codeOf
    by_cases h : i.val * 12288 + n.val < 49104
    · rw [Cert.Loss.pad_of_lt _ _ h, inb_eq b i _ _ ⟨_, h⟩ hn.symm, pick_eq m c b i _ _ ⟨_, h⟩ hn.symm]
      have e : probOf (clsBlk m c (pt b i)) n k = probs m c (ix3 b ⟨_, h⟩ k) := by
        rw [cls_at m c (pt b i) n k ⟨_, h⟩ (by rw [pt_mod])]
        rw [show (⟨(pt b i).val / 4, by have := lt32 (pt b i); omega⟩ : Fin 8) = b from Fin.ext (pt_div b i)]
      rw [e]
      exact Cert.ReferenceIdeal.Value.cls_eq (probs m c) (anchors m c) (annots m c) b ⟨_, h⟩ k (hp _).1 (hp _).2 (hl b)
    · rw [Cert.Loss.pad_of_ge _ _ h, inb_out b i _ _ (by rw [hn]; exact h), Cert.Loss.code_out, Cert.Loss.clsNeg_zero, Cert.Loss.clsPos_zero _ _ (by omega)]
      exact ⟨0, 0, by simp, by simp, by simp⟩
  choose N P hN hP hF using key
  unfold clsTotal negScale posScale
  simp only [hN, hP]
  rw [Cert.Loss.join]
  refine Finset.sum_congr rfl fun n _ => ?_
  by_cases h : i.val * 12288 + n.val < 49104
  · rw [Cert.Loss.pad_of_lt _ _ h]
    refine Finset.sum_congr rfl fun k _ => ?_
    rw [← hF n k, Cert.Loss.pad_of_lt _ _ h]
  · rw [Cert.Loss.pad_of_ge _ _ h]
    refine Finset.sum_eq_zero fun k _ => ?_
    rw [← hF n k, Cert.Loss.pad_of_ge _ _ h]

end Point

/-! ## The result -/

theorem lane (t : Fin cfg0.N) (q : Fin 128) : blkRow m c t (ix3 0 0 q)
    = outRow (clsTotal (grid0.coords t) (clsBlk m c t) (iblk m c 2 t) (iblk m c 3 t)) (regTotal (grid0.coords t) (iblk m c 1 t) (iblk m c 2 t) (iblk m c 3 t))
      (numTotal (grid0.coords t) (iblk m c 2 t) (iblk m c 3 t)) q := rfl

theorem lane0 (t : Fin cfg0.N) : blkRow m c t (ix3 0 0 0) = clsTotal (grid0.coords t) (clsBlk m c t) (iblk m c 2 t) (iblk m c 3 t) := by
  rw [lane]
  generalize clsTotal _ _ _ _ = x
  generalize regTotal _ _ _ _ = y
  generalize numTotal _ _ _ = z
  unfold outRow
  rw [if_pos (by decide), if_neg (by decide), if_neg (by decide), add_zero, add_zero]

theorem lane1 (t : Fin cfg0.N) : blkRow m c t (ix3 0 0 1) = regTotal (grid0.coords t) (iblk m c 1 t) (iblk m c 2 t) (iblk m c 3 t) := by
  rw [lane]
  generalize clsTotal _ _ _ _ = x
  generalize regTotal _ _ _ _ = y
  generalize numTotal _ _ _ = z
  unfold outRow
  rw [if_neg (by decide), if_pos (by decide), if_neg (by decide), zero_add, add_zero]

theorem lane2 (t : Fin cfg0.N) : blkRow m c t (ix3 0 0 2) = numTotal (grid0.coords t) (iblk m c 2 t) (iblk m c 3 t) := by
  rw [lane]
  generalize clsTotal _ _ _ _ = x
  generalize regTotal _ _ _ _ = y
  generalize numTotal _ _ _ = z
  unfold outRow
  rw [if_neg (by decide), if_neg (by decide), if_pos (by decide), zero_add, zero_add]

theorem outArr_at (b : Fin 8) (q : Fin 128) : outArr m c (ix3 b 0 q)
    = blkRow m c (pt b 0) (ix3 0 0 q) + blkRow m c (pt b 1) (ix3 0 0 q) + blkRow m c (pt b 2) (ix3 0 0 q) + blkRow m c (pt b 3) (ix3 0 0 q) := rfl

theorem num_out (b : Fin 8) : outArr m c (ix3 b 0 2) = Cert.ReferenceIdeal.Read.val_main_v119 (F := Ideal) (anchors m c) (annots m c) (ix1 b) := by
  rw [outArr_at, lane2, lane2, lane2, lane2, num_blk, num_blk, num_blk, num_blk, Cert.ReferenceIdeal.Value.v119_at]
  refine (Cert.Loss.blocks _).trans (Finset.sum_congr rfl fun a _ => ?_)
  exact (Cert.ReferenceIdeal.Value.num_eq (anchors m c) (annots m c) b a).symm

theorem reg_out (b : Fin 8) : outArr m c (ix3 b 0 1) = Cert.ReferenceIdeal.Read.val_main_v233 (F := Ideal) (preds m c) (anchors m c) (annots m c) (ix1 b) := by
  rw [outArr_at, lane1, lane1, lane1, lane1, reg_blk, reg_blk, reg_blk, reg_blk, Cert.ReferenceIdeal.Value.v233_at]
  refine (Cert.Loss.blocks _).trans (Finset.sum_congr rfl fun a _ => ?_)
  exact (Cert.ReferenceIdeal.Value.reg_eq (preds m c) (anchors m c) (annots m c) b a).symm

section Result

variable (hp : ∀ i, word 953267991#32 ≤ probs m c i ∧ probs m c i ≤ word 1065351538#32)
  (hl : ∀ (b : Fin 8) (j : Fin 20), annots m c (ix3 b j 4) = FloatOps.sitofp (F := Ideal) .f32 (FloatOps.fptosi (F := Ideal) (φ := .f32) 32 (annots m c (ix3 b j 4))) ∧ word 0xBF800000#32 ≤ annots m c (ix3 b j 4))
include hp hl

theorem cls_out (b : Fin 8) : outArr m c (ix3 b 0 0) = Cert.ReferenceIdeal.Read.val_main_v159 (F := Ideal) (probs m c) (anchors m c) (annots m c) (ix1 b) := by
  rw [outArr_at, lane0, lane0, lane0, lane0, cls_blk m c b 0 hp hl, cls_blk m c b 1 hp hl, cls_blk m c b 2 hp hl, cls_blk m c b 3 hp hl, Cert.ReferenceIdeal.Value.v159_at]
  exact Cert.Loss.blocks _

/-- The kernel's result is the reference's. -/
theorem result_eq : result m c = Cert.ReferenceIdeal.Read.val_main_v245 (F := Ideal) (probs m c) (preds m c) (anchors m c) (annots m c) := by
  funext y
  refine Eq.trans ?_ (Cert.ReferenceIdeal.Value.v245_at (probs m c) (preds m c) (anchors m c) (annots m c) y).symm
  unfold result
  simp only [cls_out m c hp hl, reg_out, num_out]

end Result

end Cert.KernelIdeal.Value

end
-- ==== Proof.PreFacts.lean ====
/- What the precondition says, entry by entry. -/
module

public import proofs.«01_k».proof.Proof.LossCls
public import proofs.«01_k».proof.Proof.Gen.Pre_in_range
public import Idealize.ShloMosaic.Lib.ReduceAll

@[expose] public section

set_option maxRecDepth 16384

noncomputable section

namespace Cert.Pre_in_range

open Idealize.ShloMosaic Idealize.ShloMosaic.Pointwise
open Cert.Loss (word)

instance : Subsingleton S_.Idx := ⟨fun x y => funext fun d => d.elim0⟩

theorem both {x y : BitVec 1} (h : IntOp.andi x y = 1#1) : x = 1#1 ∧ y = 1#1 := by revert x y; decide

variable [Facts] (x0 : S8x49104x80.Idx → EReal) (x1 : S8x49104x4.Idx → EReal) (x2 : S1x49104x4.Idx → EReal) (x3 : S8x20x5.Idx → EReal) (x4 : S_.Idx → BitVec 32)

/-- The label column. -/
theorem label_at (b : Fin 8) (j : Fin 20) :
    (shapeCast S8x20 (extractStridedSlice S8x20x1 ![0, 0, 4] x3 Facts.slices_S8x20x5_S8x20x1_0_0_4) Facts.shapeCasts_S8x20x1_S8x20 : S8x20.Idx → EReal) (ix2 b j) = x3 (ix3 b j 4) := by
  pointwise

theorem facts_of (h : fn (F := Ideal) x0 x1 x2 x3 x4 = fun _ => 1#1) :
    (∀ i, word 953267991#32 ≤ x0 i ∧ x0 i ≤ word 1065351538#32)
      ∧ ∀ (b : Fin 8) (j : Fin 20), x3 (ix3 b j 4) = FloatOps.sitofp (F := Ideal) .f32 (FloatOps.fptosi (F := Ideal) (φ := .f32) 32 (x3 (ix3 b j 4))) ∧ word 0xBF800000#32 ≤ x3 (ix3 b j 4) := by
  have h0 := congrFun h ix0
  unfold fn at h0
  obtain ⟨ha, hb⟩ := both h0
  constructor
  · intro i
    have := Host.reduce_andi_all _ _ _ _ _ ha i
    obtain ⟨h1, h2⟩ := both this
    generalize hc : x0 i = c
    have e1 : Ideal.cmp .oge (x0 i) (word 953267991#32) = 1#1 := h1
    have e2 : Ideal.cmp .ole (x0 i) (word 1065351538#32) = 1#1 := h2
    rw [hc, Ideal.cmp_oge] at e1
    rw [hc, Ideal.cmp_ole] at e2
    constructor
    · by_contra hn; rw [decide_eq_false hn] at e1; exact absurd e1 (by decide)
    · by_contra hn; rw [decide_eq_false hn] at e2; exact absurd e2 (by decide)
  · intro b j
    have := Host.reduce_andi_all _ _ _ _ _ hb (ix2 b j)
    obtain ⟨h1, h2⟩ := both this
    have hl := label_at x3 b j
    generalize (shapeCast S8x20 (extractStridedSlice S8x20x1 ![0, 0, 4] x3 Facts.slices_S8x20x5_S8x20x1_0_0_4) Facts.shapeCasts_S8x20x1_S8x20 : S8x20.Idx → EReal) = X at h1 h2 hl
    generalize hc : x3 (ix3 b j 4) = c at hl ⊢
    have e1 : Ideal.cmp .oeq (X (ix2 b j)) (FloatOps.sitofp (F := Ideal) .f32 (FloatOps.fptosi (F := Ideal) (φ := .f32) 32 (X (ix2 b j)))) = 1#1 := h1
    have e2 : Ideal.cmp .oge (X (ix2 b j)) (word 0xBF800000#32) = 1#1 := h2
    rw [hl, Ideal.cmp_oeq] at e1
    rw [hl, Ideal.cmp_oge] at e2
    constructor
    · by_contra hn; rw [decide_eq_false hn] at e1; exact absurd e1 (by decide)
    · by_contra hn; rw [decide_eq_false hn] at e2; exact absurd e2 (by decide)

end Cert.Pre_in_range

end
-- ==== Proof.lean ====
/- The certificate's claims, put together. -/
module

public import proofs.«01_k».proof.Proof.KernelIdealJoin
public import proofs.«01_k».proof.Proof.PreFacts
public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_in_range
public import proofs.«01_k».proof.Proof.KernelFrame
public import proofs.«01_k».proof.Proof.KernelIdealFrame
public import Idealize.ShloMosaic.Adequacy
public import Idealize.ShloMosaic.Init

@[expose] public section

noncomputable section

namespace Cert.Proof

open Idealize.ShloMosaic Idealize.SL.Sem

theorem frame_r : Cert.quiescent_ReferenceIdeal := fun m g _ =>
  (θ_run _ _ _).mono (fun _ h => ⟨fun c => (h c).2, sem_eq_zero_of_no_sems (by decide) _⟩) (Cert.ReferenceIdeal.Value.run (F := Ideal) m g)

theorem preserves : Cert.preserves_Kernel_KernelIdeal :=
  ⟨IdealRules.named_const.statement _ _ _ _ _ rfl, IdealRules.named_const.statement _ _ _ _ _ rfl,
    IdealRules.named_const.statement _ _ _ _ _ rfl⟩

theorem frame_r_pre : Cert.quiescent_ReferenceIdeal_pre_in_range := fun m g _ => frame_r m g trivial

theorem algebraic : Cert.algebraic_KernelIdeal_ReferenceIdeal_pre_in_range := by
  intro m g m' g' hpre hargs
  refine ⟨fun c => Cert.KernelIdeal.Value.result m c, Cert.KernelIdeal.Value.run m g, ?_⟩
  refine (θ_run _ _ _).mono (fun r h c => ⟨(h c).1.trans ?_, (h c).2⟩) (Cert.ReferenceIdeal.Value.run (F := Ideal) m' g')
  obtain ⟨h0, h1, h2, h3, _⟩ := hargs c
  obtain ⟨hp, hl⟩ := Cert.Pre_in_range.facts_of _ _ _ _ _ (hpre c)
  refine (Cert.ReferenceIdeal.Read.val_main_v245_eq (F := Ideal) (fun b => m' (c, b))).trans ?_
  refine Eq.trans ?_ (Cert.KernelIdeal.Value.result_eq m c hp hl).symm
  show Cert.ReferenceIdeal.Read.val_main_v245 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1))
    (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) = _
  rw [h0, h1, h2, h3]

theorem claim : Cert.Claim := ⟨Cert.Kernel.Gen.facts, Cert.KernelIdeal.Gen.facts, Cert.ReferenceIdeal.Gen.facts, Cert.Pre_in_range.Gen.facts,
  fun m g _ => Cert.Kernel.Hand.frame (F := Bits) m g, fun m g _ => Cert.KernelIdeal.Hand.frame (F := Ideal) m g, fun m g _ => Cert.KernelIdeal.Hand.frame (F := Ideal) m g,
  frame_r, frame_r_pre, preserves, algebraic⟩

end Cert.Proof

end
